-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2)
      ∧ r.2.mem ((c.tc : Thread Cert.Kernel41.nD Cert.Kernel41.τ).loc Cert.Kernel41.main_arg3) = m ((c.tc : Thread Cert.Kernel41.nD Cert.Kernel41.τ).loc Cert.Kernel41.main_arg3))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
      ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2)
      ∧ r.2.mem ((c.tc : Thread Cert.Reference41Ideal.nD Cert.Reference41Ideal.τ).loc Cert.Reference41Ideal.main_arg3) = m ((c.tc : Thread Cert.Reference41Ideal.nD Cert.Reference41Ideal.τ).loc Cert.Reference41Ideal.main_arg3))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1)
      ∧ r.2.mem ((c.tc : Thread Cert.Kernel42.nD Cert.Kernel42.τ).loc Cert.Kernel42.main_arg2) = m ((c.tc : Thread Cert.Kernel42.nD Cert.Kernel42.τ).loc Cert.Kernel42.main_arg2)
      ∧ r.2.mem ((c.tc : Thread Cert.Kernel42.nD Cert.Kernel42.τ).loc Cert.Kernel42.main_arg3) = m ((c.tc : Thread Cert.Kernel42.nD Cert.Kernel42.τ).loc Cert.Kernel42.main_arg3))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
      ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
      ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1)
      ∧ r.2.mem ((c.tc : Thread Cert.Reference42Ideal.nD Cert.Reference42Ideal.τ).loc Cert.Reference42Ideal.main_arg2) = m ((c.tc : Thread Cert.Reference42Ideal.nD Cert.Reference42Ideal.τ).loc Cert.Reference42Ideal.main_arg2)
      ∧ r.2.mem ((c.tc : Thread Cert.Reference42Ideal.nD Cert.Reference42Ideal.τ).loc Cert.Reference42Ideal.main_arg3) = m ((c.tc : Thread Cert.Reference42Ideal.nD Cert.Reference42Ideal.τ).loc Cert.Reference42Ideal.main_arg3))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1)
      ∧ r.2.mem ((c.tc : Thread Cert.Kernel43.nD Cert.Kernel43.τ).loc Cert.Kernel43.main_arg2) = m ((c.tc : Thread Cert.Kernel43.nD Cert.Kernel43.τ).loc Cert.Kernel43.main_arg2)
      ∧ r.2.mem ((c.tc : Thread Cert.Kernel43.nD Cert.Kernel43.τ).loc Cert.Kernel43.main_arg3) = m ((c.tc : Thread Cert.Kernel43.nD Cert.Kernel43.τ).loc Cert.Kernel43.main_arg3))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
      ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
      ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1)
      ∧ r.2.mem ((c.tc : Thread Cert.Reference43Ideal.nD Cert.Reference43Ideal.τ).loc Cert.Reference43Ideal.main_arg2) = m ((c.tc : Thread Cert.Reference43Ideal.nD Cert.Reference43Ideal.τ).loc Cert.Reference43Ideal.main_arg2)
      ∧ r.2.mem ((c.tc : Thread Cert.Reference43Ideal.nD Cert.Reference43Ideal.τ).loc Cert.Reference43Ideal.main_arg3) = m ((c.tc : Thread Cert.Reference43Ideal.nD Cert.Reference43Ideal.τ).loc Cert.Reference43Ideal.main_arg3))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1)
      ∧ r.2.mem ((c.tc : Thread Cert.Kernel44.nD Cert.Kernel44.τ).loc Cert.Kernel44.main_arg2) = m ((c.tc : Thread Cert.Kernel44.nD Cert.Kernel44.τ).loc Cert.Kernel44.main_arg2)
      ∧ r.2.mem ((c.tc : Thread Cert.Kernel44.nD Cert.Kernel44.τ).loc Cert.Kernel44.main_arg3) = m ((c.tc : Thread Cert.Kernel44.nD Cert.Kernel44.τ).loc Cert.Kernel44.main_arg3))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
      ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2)
      ∧ r.2.mem ((c.tc : Thread Cert.Kernel44Ideal.nD Cert.Kernel44Ideal.τ).loc Cert.Kernel44Ideal.main_arg3) = m ((c.tc : Thread Cert.Kernel44Ideal.nD Cert.Kernel44Ideal.τ).loc Cert.Kernel44Ideal.main_arg3))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1)
      ∧ r.2.mem ((c.tc : Thread Cert.Reference44Ideal.nD Cert.Reference44Ideal.τ).loc Cert.Reference44Ideal.main_arg2) = m ((c.tc : Thread Cert.Reference44Ideal.nD Cert.Reference44Ideal.τ).loc Cert.Reference44Ideal.main_arg2)
      ∧ r.2.mem ((c.tc : Thread Cert.Reference44Ideal.nD Cert.Reference44Ideal.τ).loc Cert.Reference44Ideal.main_arg3) = m ((c.tc : Thread Cert.Reference44Ideal.nD Cert.Reference44Ideal.τ).loc Cert.Reference44Ideal.main_arg3))
      ∧ r.2.sem = fun _ => 0)

def preserves_Kernel_KernelIdeal : Prop :=
  IdealRules.named_const.Statement Cert.KernelIdeal.κ "mask" .f32 0xF149F2CA#32 ⊥

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_v7) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_v5) = v1 c
          ∧ r.2.mem ((c.tc : Thread Cert.Reference14Ideal.nD Cert.Reference14Ideal.τ).loc Cert.Reference14Ideal.main_v12) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v9) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)) (v4 : (c : Dev Cert.Kernel19Ideal.nD) → Buf (Elt Ideal) ((c.tc : Thread Cert.Kernel19Ideal.nD Cert.Kernel19Ideal.τ).loc Cert.Kernel19Ideal.main_v0_4)) (v5 : (c : Dev Cert.Kernel19Ideal.nD) → Buf (Elt Ideal) ((c.tc : Thread Cert.Kernel19Ideal.nD Cert.Kernel19Ideal.τ).loc Cert.Kernel19Ideal.main_v0_5)) (v6 : (c : Dev Cert.Kernel19Ideal.nD) → Buf (Elt Ideal) ((c.tc : Thread Cert.Kernel19Ideal.nD Cert.Kernel19Ideal.τ).loc Cert.Kernel19Ideal.main_v0_6)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_v0_4) = v4 c
          ∧ r.2.mem ((c.tc : Thread Cert.Kernel19Ideal.nD Cert.Kernel19Ideal.τ).loc Cert.Kernel19Ideal.main_v0_5) = v5 c
          ∧ r.2.mem ((c.tc : Thread Cert.Kernel19Ideal.nD Cert.Kernel19Ideal.τ).loc Cert.Kernel19Ideal.main_v0_6) = v6 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v60) = v0 c
          ∧ r.2.mem ((c.tc : Thread Cert.Reference19Ideal.nD Cert.Reference19Ideal.τ).loc Cert.Reference19Ideal.main_v61) = v1 c
          ∧ r.2.mem ((c.tc : Thread Cert.Reference19Ideal.nD Cert.Reference19Ideal.τ).loc Cert.Reference19Ideal.main_v62) = v2 c
          ∧ r.2.mem ((c.tc : Thread Cert.Reference19Ideal.nD Cert.Reference19Ideal.τ).loc Cert.Reference19Ideal.main_v63) = v3 c
          ∧ r.2.mem ((c.tc : Thread Cert.Reference19Ideal.nD Cert.Reference19Ideal.τ).loc Cert.Reference19Ideal.main_v64) = v4 c
          ∧ r.2.mem ((c.tc : Thread Cert.Reference19Ideal.nD Cert.Reference19Ideal.τ).loc Cert.Reference19Ideal.main_v65) = v5 c
          ∧ r.2.mem ((c.tc : Thread Cert.Reference19Ideal.nD Cert.Reference19Ideal.τ).loc Cert.Reference19Ideal.main_v66) = v6 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v13) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v25) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v1) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v23) = v0 c
          ∧ r.2.mem ((c.tc : Thread Cert.Reference31Ideal.nD Cert.Reference31Ideal.τ).loc Cert.Reference31Ideal.main_v4) = v1 c
          ∧ r.2.mem ((c.tc : Thread Cert.Reference31Ideal.nD Cert.Reference31Ideal.τ).loc Cert.Reference31Ideal.main_v10) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v23) = v0 c
          ∧ r.2.mem ((c.tc : Thread Cert.Reference32Ideal.nD Cert.Reference32Ideal.τ).loc Cert.Reference32Ideal.main_v4) = v1 c
          ∧ r.2.mem ((c.tc : Thread Cert.Reference32Ideal.nD Cert.Reference32Ideal.τ).loc Cert.Reference32Ideal.main_v10) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v23) = v0 c
          ∧ r.2.mem ((c.tc : Thread Cert.Reference33Ideal.nD Cert.Reference33Ideal.τ).loc Cert.Reference33Ideal.main_v4) = v1 c
          ∧ r.2.mem ((c.tc : Thread Cert.Reference33Ideal.nD Cert.Reference33Ideal.τ).loc Cert.Reference33Ideal.main_v10) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v23) = v0 c
          ∧ r.2.mem ((c.tc : Thread Cert.Reference34Ideal.nD Cert.Reference34Ideal.τ).loc Cert.Reference34Ideal.main_v4) = v1 c
          ∧ r.2.mem ((c.tc : Thread Cert.Reference34Ideal.nD Cert.Reference34Ideal.τ).loc Cert.Reference34Ideal.main_v10) = v2 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v23) = v0 c
          ∧ r.2.mem ((c.tc : Thread Cert.Reference35Ideal.nD Cert.Reference35Ideal.τ).loc Cert.Reference35Ideal.main_v4) = v1 c
          ∧ r.2.mem ((c.tc : Thread Cert.Reference35Ideal.nD Cert.Reference35Ideal.τ).loc Cert.Reference35Ideal.main_v10) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)) (v2 : (c : Dev Cert.Kernel36Ideal.nD) → Buf (Elt Ideal) ((c.tc : Thread Cert.Kernel36Ideal.nD Cert.Kernel36Ideal.τ).loc Cert.Kernel36Ideal.main_v0_2)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_v0_2) = v2 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v23) = v0 c
          ∧ r.2.mem ((c.tc : Thread Cert.Reference36Ideal.nD Cert.Reference36Ideal.τ).loc Cert.Reference36Ideal.main_v4) = v1 c
          ∧ r.2.mem ((c.tc : Thread Cert.Reference36Ideal.nD Cert.Reference36Ideal.τ).loc Cert.Reference36Ideal.main_v10) = v2 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v0_0)) (v1 : (c : Dev Cert.Kernel37Ideal.nD) → Buf (Elt Ideal) ((c.tc : Thread Cert.Kernel37Ideal.nD Cert.Kernel37Ideal.τ).loc Cert.Kernel37Ideal.main_v0_1)) (v2 : (c : Dev Cert.Kernel37Ideal.nD) → Buf (Elt Ideal) ((c.tc : Thread Cert.Kernel37Ideal.nD Cert.Kernel37Ideal.τ).loc Cert.Kernel37Ideal.main_v0_2)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0_0) = v0 c
          ∧ r.2.mem ((c.tc : Thread Cert.Kernel37Ideal.nD Cert.Kernel37Ideal.τ).loc Cert.Kernel37Ideal.main_v0_1) = v1 c
          ∧ r.2.mem ((c.tc : Thread Cert.Kernel37Ideal.nD Cert.Kernel37Ideal.τ).loc Cert.Kernel37Ideal.main_v0_2) = v2 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v23) = v0 c
          ∧ r.2.mem ((c.tc : Thread Cert.Reference37Ideal.nD Cert.Reference37Ideal.τ).loc Cert.Reference37Ideal.main_v4) = v1 c
          ∧ r.2.mem ((c.tc : Thread Cert.Reference37Ideal.nD Cert.Reference37Ideal.τ).loc Cert.Reference37Ideal.main_v10) = v2 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)) →
    ∃ (v0 : (c : Dev Cert.Kernel38Ideal.nD) → Buf (Elt Ideal) ((c.tc : Thread Cert.Kernel38Ideal.nD Cert.Kernel38Ideal.τ).loc Cert.Kernel38Ideal.main_v0_0)) (v1 : (c : Dev Cert.Kernel38Ideal.nD) → Buf (Elt Ideal) ((c.tc : Thread Cert.Kernel38Ideal.nD Cert.Kernel38Ideal.τ).loc Cert.Kernel38Ideal.main_v0_1)) (v2 : (c : Dev Cert.Kernel38Ideal.nD) → Buf (Elt Ideal) ((c.tc : Thread Cert.Kernel38Ideal.nD Cert.Kernel38Ideal.τ).loc Cert.Kernel38Ideal.main_v0_2)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0_0) = v0 c
          ∧ r.2.mem ((c.tc : Thread Cert.Kernel38Ideal.nD Cert.Kernel38Ideal.τ).loc Cert.Kernel38Ideal.main_v0_1) = v1 c
          ∧ r.2.mem ((c.tc : Thread Cert.Kernel38Ideal.nD Cert.Kernel38Ideal.τ).loc Cert.Kernel38Ideal.main_v0_2) = v2 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v23) = v0 c
          ∧ r.2.mem ((c.tc : Thread Cert.Reference38Ideal.nD Cert.Reference38Ideal.τ).loc Cert.Reference38Ideal.main_v4) = v1 c
          ∧ r.2.mem ((c.tc : Thread Cert.Reference38Ideal.nD Cert.Reference38Ideal.τ).loc Cert.Reference38Ideal.main_v10) = v2 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)) →
    ∃ (v0 : (c : Dev Cert.Kernel39Ideal.nD) → Buf (Elt Ideal) ((c.tc : Thread Cert.Kernel39Ideal.nD Cert.Kernel39Ideal.τ).loc Cert.Kernel39Ideal.main_v0_0)) (v1 : (c : Dev Cert.Kernel39Ideal.nD) → Buf (Elt Ideal) ((c.tc : Thread Cert.Kernel39Ideal.nD Cert.Kernel39Ideal.τ).loc Cert.Kernel39Ideal.main_v0_1)) (v2 : (c : Dev Cert.Kernel39Ideal.nD) → Buf (Elt Ideal) ((c.tc : Thread Cert.Kernel39Ideal.nD Cert.Kernel39Ideal.τ).loc Cert.Kernel39Ideal.main_v0_2)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0_0) = v0 c
          ∧ r.2.mem ((c.tc : Thread Cert.Kernel39Ideal.nD Cert.Kernel39Ideal.τ).loc Cert.Kernel39Ideal.main_v0_1) = v1 c
          ∧ r.2.mem ((c.tc : Thread Cert.Kernel39Ideal.nD Cert.Kernel39Ideal.τ).loc Cert.Kernel39Ideal.main_v0_2) = v2 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v23) = v0 c
          ∧ r.2.mem ((c.tc : Thread Cert.Reference39Ideal.nD Cert.Reference39Ideal.τ).loc Cert.Reference39Ideal.main_v4) = v1 c
          ∧ r.2.mem ((c.tc : Thread Cert.Reference39Ideal.nD Cert.Reference39Ideal.τ).loc Cert.Reference39Ideal.main_v10) = v2 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)) →
    ∃ (v0 : (c : Dev Cert.Kernel40Ideal.nD) → Buf (Elt Ideal) ((c.tc : Thread Cert.Kernel40Ideal.nD Cert.Kernel40Ideal.τ).loc Cert.Kernel40Ideal.main_v0_0)) (v1 : (c : Dev Cert.Kernel40Ideal.nD) → Buf (Elt Ideal) ((c.tc : Thread Cert.Kernel40Ideal.nD Cert.Kernel40Ideal.τ).loc Cert.Kernel40Ideal.main_v0_1)) (v2 : (c : Dev Cert.Kernel40Ideal.nD) → Buf (Elt Ideal) ((c.tc : Thread Cert.Kernel40Ideal.nD Cert.Kernel40Ideal.τ).loc Cert.Kernel40Ideal.main_v0_2)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0_0) = v0 c
          ∧ r.2.mem ((c.tc : Thread Cert.Kernel40Ideal.nD Cert.Kernel40Ideal.τ).loc Cert.Kernel40Ideal.main_v0_1) = v1 c
          ∧ r.2.mem ((c.tc : Thread Cert.Kernel40Ideal.nD Cert.Kernel40Ideal.τ).loc Cert.Kernel40Ideal.main_v0_2) = v2 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v23) = v0 c
          ∧ r.2.mem ((c.tc : Thread Cert.Reference40Ideal.nD Cert.Reference40Ideal.τ).loc Cert.Reference40Ideal.main_v4) = v1 c
          ∧ r.2.mem ((c.tc : Thread Cert.Reference40Ideal.nD Cert.Reference40Ideal.τ).loc Cert.Reference40Ideal.main_v10) = v2 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)
      ∧ m' ((c.tc : Thread Cert.Reference41Ideal.nD Cert.Reference41Ideal.τ).loc Cert.Reference41Ideal.main_arg3) = m ((c.tc : Thread Cert.Kernel41Ideal.nD Cert.Kernel41Ideal.τ).loc Cert.Kernel41Ideal.main_arg3)) →
    ∃ (v0 : (c : Dev Cert.Kernel41Ideal.nD) → Buf (Elt Ideal) ((c.tc : Thread Cert.Kernel41Ideal.nD Cert.Kernel41Ideal.τ).loc Cert.Kernel41Ideal.main_v0_0)) (v1 : (c : Dev Cert.Kernel41Ideal.nD) → Buf (Elt Ideal) ((c.tc : Thread Cert.Kernel41Ideal.nD Cert.Kernel41Ideal.τ).loc Cert.Kernel41Ideal.main_v0_1)) (v2 : (c : Dev Cert.Kernel41Ideal.nD) → Buf (Elt Ideal) ((c.tc : Thread Cert.Kernel41Ideal.nD Cert.Kernel41Ideal.τ).loc Cert.Kernel41Ideal.main_v0_2)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0_0) = v0 c
          ∧ r.2.mem ((c.tc : Thread Cert.Kernel41Ideal.nD Cert.Kernel41Ideal.τ).loc Cert.Kernel41Ideal.main_v0_1) = v1 c
          ∧ r.2.mem ((c.tc : Thread Cert.Kernel41Ideal.nD Cert.Kernel41Ideal.τ).loc Cert.Kernel41Ideal.main_v0_2) = v2 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2)
          ∧ r.2.mem ((c.tc : Thread Cert.Kernel41Ideal.nD Cert.Kernel41Ideal.τ).loc Cert.Kernel41Ideal.main_arg3) = m ((c.tc : Thread Cert.Kernel41Ideal.nD Cert.Kernel41Ideal.τ).loc Cert.Kernel41Ideal.main_arg3))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v23) = v0 c
          ∧ r.2.mem ((c.tc : Thread Cert.Reference41Ideal.nD Cert.Reference41Ideal.τ).loc Cert.Reference41Ideal.main_v4) = v1 c
          ∧ r.2.mem ((c.tc : Thread Cert.Reference41Ideal.nD Cert.Reference41Ideal.τ).loc Cert.Reference41Ideal.main_v10) = v2 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2)
          ∧ r.2.mem ((c.tc : Thread Cert.Reference41Ideal.nD Cert.Reference41Ideal.τ).loc Cert.Reference41Ideal.main_arg3) = m' ((c.tc : Thread Cert.Reference41Ideal.nD Cert.Reference41Ideal.τ).loc Cert.Reference41Ideal.main_arg3))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)
      ∧ m' ((c.tc : Thread Cert.Reference42Ideal.nD Cert.Reference42Ideal.τ).loc Cert.Reference42Ideal.main_arg2) = m ((c.tc : Thread Cert.Kernel42Ideal.nD Cert.Kernel42Ideal.τ).loc Cert.Kernel42Ideal.main_arg2)
      ∧ m' ((c.tc : Thread Cert.Reference42Ideal.nD Cert.Reference42Ideal.τ).loc Cert.Reference42Ideal.main_arg3) = m ((c.tc : Thread Cert.Kernel42Ideal.nD Cert.Kernel42Ideal.τ).loc Cert.Kernel42Ideal.main_arg3)) →
    ∃ (v0 : (c : Dev Cert.Kernel42Ideal.nD) → Buf (Elt Ideal) ((c.tc : Thread Cert.Kernel42Ideal.nD Cert.Kernel42Ideal.τ).loc Cert.Kernel42Ideal.main_v0_0)) (v1 : (c : Dev Cert.Kernel42Ideal.nD) → Buf (Elt Ideal) ((c.tc : Thread Cert.Kernel42Ideal.nD Cert.Kernel42Ideal.τ).loc Cert.Kernel42Ideal.main_v0_1)) (v2 : (c : Dev Cert.Kernel42Ideal.nD) → Buf (Elt Ideal) ((c.tc : Thread Cert.Kernel42Ideal.nD Cert.Kernel42Ideal.τ).loc Cert.Kernel42Ideal.main_v0_2)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0_0) = v0 c
          ∧ r.2.mem ((c.tc : Thread Cert.Kernel42Ideal.nD Cert.Kernel42Ideal.τ).loc Cert.Kernel42Ideal.main_v0_1) = v1 c
          ∧ r.2.mem ((c.tc : Thread Cert.Kernel42Ideal.nD Cert.Kernel42Ideal.τ).loc Cert.Kernel42Ideal.main_v0_2) = v2 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1)
          ∧ r.2.mem ((c.tc : Thread Cert.Kernel42Ideal.nD Cert.Kernel42Ideal.τ).loc Cert.Kernel42Ideal.main_arg2) = m ((c.tc : Thread Cert.Kernel42Ideal.nD Cert.Kernel42Ideal.τ).loc Cert.Kernel42Ideal.main_arg2)
          ∧ r.2.mem ((c.tc : Thread Cert.Kernel42Ideal.nD Cert.Kernel42Ideal.τ).loc Cert.Kernel42Ideal.main_arg3) = m ((c.tc : Thread Cert.Kernel42Ideal.nD Cert.Kernel42Ideal.τ).loc Cert.Kernel42Ideal.main_arg3))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v23) = v0 c
          ∧ r.2.mem ((c.tc : Thread Cert.Reference42Ideal.nD Cert.Reference42Ideal.τ).loc Cert.Reference42Ideal.main_v4) = v1 c
          ∧ r.2.mem ((c.tc : Thread Cert.Reference42Ideal.nD Cert.Reference42Ideal.τ).loc Cert.Reference42Ideal.main_v10) = v2 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1)
          ∧ r.2.mem ((c.tc : Thread Cert.Reference42Ideal.nD Cert.Reference42Ideal.τ).loc Cert.Reference42Ideal.main_arg2) = m' ((c.tc : Thread Cert.Reference42Ideal.nD Cert.Reference42Ideal.τ).loc Cert.Reference42Ideal.main_arg2)
          ∧ r.2.mem ((c.tc : Thread Cert.Reference42Ideal.nD Cert.Reference42Ideal.τ).loc Cert.Reference42Ideal.main_arg3) = m' ((c.tc : Thread Cert.Reference42Ideal.nD Cert.Reference42Ideal.τ).loc Cert.Reference42Ideal.main_arg3))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)
      ∧ m' ((c.tc : Thread Cert.Reference43Ideal.nD Cert.Reference43Ideal.τ).loc Cert.Reference43Ideal.main_arg2) = m ((c.tc : Thread Cert.Kernel43Ideal.nD Cert.Kernel43Ideal.τ).loc Cert.Kernel43Ideal.main_arg2)
      ∧ m' ((c.tc : Thread Cert.Reference43Ideal.nD Cert.Reference43Ideal.τ).loc Cert.Reference43Ideal.main_arg3) = m ((c.tc : Thread Cert.Kernel43Ideal.nD Cert.Kernel43Ideal.τ).loc Cert.Kernel43Ideal.main_arg3)) →
    ∃ (v0 : (c : Dev Cert.Kernel43Ideal.nD) → Buf (Elt Ideal) ((c.tc : Thread Cert.Kernel43Ideal.nD Cert.Kernel43Ideal.τ).loc Cert.Kernel43Ideal.main_v0_0)) (v1 : (c : Dev Cert.Kernel43Ideal.nD) → Buf (Elt Ideal) ((c.tc : Thread Cert.Kernel43Ideal.nD Cert.Kernel43Ideal.τ).loc Cert.Kernel43Ideal.main_v0_1)) (v2 : (c : Dev Cert.Kernel43Ideal.nD) → Buf (Elt Ideal) ((c.tc : Thread Cert.Kernel43Ideal.nD Cert.Kernel43Ideal.τ).loc Cert.Kernel43Ideal.main_v0_2)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v0_0) = v0 c
          ∧ r.2.mem ((c.tc : Thread Cert.Kernel43Ideal.nD Cert.Kernel43Ideal.τ).loc Cert.Kernel43Ideal.main_v0_1) = v1 c
          ∧ r.2.mem ((c.tc : Thread Cert.Kernel43Ideal.nD Cert.Kernel43Ideal.τ).loc Cert.Kernel43Ideal.main_v0_2) = v2 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
          ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
          ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v23) = v0 c
          ∧ r.2.mem ((c.tc : Thread Cert.Reference43Ideal.nD Cert.Reference43Ideal.τ).loc Cert.Reference43Ideal.main_v4) = v1 c
          ∧ r.2.mem ((c.tc : Thread Cert.Reference43Ideal.nD Cert.Reference43Ideal.τ).loc Cert.Reference43Ideal.main_v10) = v2 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1)
          ∧ r.2.mem ((c.tc : Thread Cert.Reference43Ideal.nD Cert.Reference43Ideal.τ).loc Cert.Reference43Ideal.main_arg2) = m' ((c.tc : Thread Cert.Reference43Ideal.nD Cert.Reference43Ideal.τ).loc Cert.Reference43Ideal.main_arg2)
          ∧ r.2.mem ((c.tc : Thread Cert.Reference43Ideal.nD Cert.Reference43Ideal.τ).loc Cert.Reference43Ideal.main_arg3) = m' ((c.tc : Thread Cert.Reference43Ideal.nD Cert.Reference43Ideal.τ).loc Cert.Reference43Ideal.main_arg3))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)
      ∧ m' ((c.tc : Thread Cert.Reference44Ideal.nD Cert.Reference44Ideal.τ).loc Cert.Reference44Ideal.main_arg2) = m ((c.tc : Thread Cert.Kernel44Ideal.nD Cert.Kernel44Ideal.τ).loc Cert.Kernel44Ideal.main_arg2)
      ∧ m' ((c.tc : Thread Cert.Reference44Ideal.nD Cert.Reference44Ideal.τ).loc Cert.Reference44Ideal.main_arg3) = m ((c.tc : Thread Cert.Kernel44Ideal.nD Cert.Kernel44Ideal.τ).loc Cert.Kernel44Ideal.main_arg3)) →
    ∃ (v0 : (c : Dev Cert.Kernel44Ideal.nD) → Buf (Elt Ideal) ((c.tc : Thread Cert.Kernel44Ideal.nD Cert.Kernel44Ideal.τ).loc Cert.Kernel44Ideal.main_v0_0)) (v1 : (c : Dev Cert.Kernel44Ideal.nD) → Buf (Elt Ideal) ((c.tc : Thread Cert.Kernel44Ideal.nD Cert.Kernel44Ideal.τ).loc Cert.Kernel44Ideal.main_v0_1)) (v2 : (c : Dev Cert.Kernel44Ideal.nD) → Buf (Elt Ideal) ((c.tc : Thread Cert.Kernel44Ideal.nD Cert.Kernel44Ideal.τ).loc Cert.Kernel44Ideal.main_v0_2)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v0_0) = v0 c
          ∧ r.2.mem ((c.tc : Thread Cert.Kernel44Ideal.nD Cert.Kernel44Ideal.τ).loc Cert.Kernel44Ideal.main_v0_1) = v1 c
          ∧ r.2.mem ((c.tc : Thread Cert.Kernel44Ideal.nD Cert.Kernel44Ideal.τ).loc Cert.Kernel44Ideal.main_v0_2) = v2 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1)
          ∧ r.2.mem ((c.tc : Thread Cert.Kernel44Ideal.nD Cert.Kernel44Ideal.τ).loc Cert.Kernel44Ideal.main_arg2) = m ((c.tc : Thread Cert.Kernel44Ideal.nD Cert.Kernel44Ideal.τ).loc Cert.Kernel44Ideal.main_arg2)
          ∧ r.2.mem ((c.tc : Thread Cert.Kernel44Ideal.nD Cert.Kernel44Ideal.τ).loc Cert.Kernel44Ideal.main_arg3) = m ((c.tc : Thread Cert.Kernel44Ideal.nD Cert.Kernel44Ideal.τ).loc Cert.Kernel44Ideal.main_arg3))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v23) = v0 c
          ∧ r.2.mem ((c.tc : Thread Cert.Reference44Ideal.nD Cert.Reference44Ideal.τ).loc Cert.Reference44Ideal.main_v4) = v1 c
          ∧ r.2.mem ((c.tc : Thread Cert.Reference44Ideal.nD Cert.Reference44Ideal.τ).loc Cert.Reference44Ideal.main_v10) = v2 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1)
          ∧ r.2.mem ((c.tc : Thread Cert.Reference44Ideal.nD Cert.Reference44Ideal.τ).loc Cert.Reference44Ideal.main_arg2) = m' ((c.tc : Thread Cert.Reference44Ideal.nD Cert.Reference44Ideal.τ).loc Cert.Reference44Ideal.main_arg2)
          ∧ r.2.mem ((c.tc : Thread Cert.Reference44Ideal.nD Cert.Reference44Ideal.τ).loc Cert.Reference44Ideal.main_arg3) = m' ((c.tc : Thread Cert.Reference44Ideal.nD Cert.Reference44Ideal.τ).loc Cert.Reference44Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ preserves_Kernel_KernelIdeal
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
-- ==== Pre_finite.lean ====
abbrev S8448x1024 : Shape := ⟨2, ![8448, 1024]⟩
abbrev S2816x1024 : Shape := ⟨2, ![2816, 1024]⟩
abbrev S8448x2816 : Shape := ⟨2, ![8448, 2816]⟩
abbrev S_ : Shape := ⟨0, ![]⟩

class Facts : Prop where
  bitsLt_bf16_f32 : FTy.bits .bf16 < FTy.bits .f32
  bcast_S_S8448x1024 : S_.BroadcastsInDim S8448x1024 (![] : Fin 0 → Fin S8448x1024.rank)
  bcast_S_S2816x1024 : S_.BroadcastsInDim S2816x1024 (![] : Fin 0 → Fin S2816x1024.rank)
  bcast_S_S8448x2816 : S_.BroadcastsInDim S8448x2816 (![] : Fin 0 → Fin S8448x2816.rank)

variable [Facts]

def fn {F : FTy → Type} [FloatOps F] (main_arg0 : FVec F S8448x1024 .bf16) (main_arg1 : FVec F S2816x1024 .bf16) (main_arg2 : FVec F S8448x2816 .bf16) (main_arg3 : FVec F S8448x2816 .bf16) : IVec S8448x1024 1 × IVec S2816x1024 1 × IVec S8448x2816 1 :=
  let main_v0 : FVec F S8448x1024 .f32 := (extf .f32 · bitsLt_bf16_f32) main_arg0
  let main_v1 : FVec F S8448x1024 .f32 := Host.absf main_v0
  let main_cst : FVec F S_ .f32 := constant S_ .f32 0x7F800000#32
  let main_v2 : FVec F S8448x1024 .f32 := broadcastInDim S8448x1024 ![] bcast_S_S8448x1024 main_cst
  let main_v3 : IVec S8448x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S8448x2816 .f32 := (extf .f32 · bitsLt_bf16_f32) main_arg3
  let main_v9 : FVec F S8448x2816 .f32 := Host.absf main_v8
  let main_cst_1 : FVec F S_ .f32 := constant S_ .f32 0x7F800000#32
  let main_v10 : FVec F S8448x2816 .f32 := broadcastInDim S8448x2816 ![] bcast_S_S8448x2816 main_cst_1
  let main_v11 : IVec S8448x2816 1 := cmpf .olt main_v9 main_v10
  (main_v3, main_v7, main_v11)
-- ==== Kernel.lean ====
abbrev S2x4112x6144 : Shape := ⟨3, ![2, 4112, 6144]⟩
abbrev S2x4112x512 : Shape := ⟨3, ![2, 4112, 512]⟩
abbrev S2x4112x8x64 : Shape := ⟨4, ![2, 4112, 8, 64]⟩
abbrev S2x8x4112x64 : Shape := ⟨4, ![2, 8, 4112, 64]⟩
abbrev S2x8x4112x4112 : Shape := ⟨4, ![2, 8, 4112, 4112]⟩
abbrev S_ : Shape := ⟨0, ![]⟩
abbrev S4112 : Shape := ⟨1, ![4112]⟩
abbrev S1x4112 : Shape := ⟨2, ![1, 4112]⟩
abbrev S4112x1 : Shape := ⟨2, ![4112, 1]⟩
abbrev S4112x4112 : Shape := ⟨2, ![4112, 4112]⟩
abbrev S2x8x4112 : Shape := ⟨3, ![2, 8, 4112]⟩
abbrev S2x4112x8 : Shape := ⟨3, ![2, 4112, 8]⟩
abbrev S2x4112x8x1 : Shape := ⟨4, ![2, 4112, 8, 1]⟩
abbrev S2x4224x8x64 : Shape := ⟨4, ![2, 4224, 8, 64]⟩
abbrev S8448x512 : Shape := ⟨2, ![8448, 512]⟩
abbrev S2x4224x6144 : Shape := ⟨3, ![2, 4224, 6144]⟩
abbrev S8448x6144 : Shape := ⟨2, ![8448, 6144]⟩
abbrev S2x4224x512 : Shape := ⟨3, ![2, 4224, 512]⟩
abbrev S128x128 : Shape := ⟨2, ![128, 128]⟩
abbrev S4224x128 : Shape := ⟨2, ![4224, 128]⟩
abbrev S4352x128 : Shape := ⟨2, ![4352, 128]⟩
abbrev S256x256 : Shape := ⟨2, ![256, 256]⟩
abbrev S1x128 : Shape := ⟨2, ![1, 128]⟩
abbrev S256x128 : Shape := ⟨2, ![256, 128]⟩
abbrev S128 : Shape := ⟨1, ![128]⟩
abbrev S128x1 : Shape := ⟨2, ![128, 1]⟩
abbrev S256x1 : Shape := ⟨2, ![256, 1]⟩
abbrev S1x256 : Shape := ⟨2, ![1, 256]⟩
abbrev S256 : Shape := ⟨1, ![256]⟩

abbrev nBuf : Space → Nat
  | .hbm => 60
  | .vmem => 22
  | .smem => 0
  | _ => 0

abbrev bufTy : (tb : Table) → Fin (tcTables nBuf tb) → BufTy
  | .hbm, ⟨0, _⟩ => ⟨S2x4112x6144, .f32⟩
  | .hbm, ⟨1, _⟩ => ⟨S2x4112x512, .f32⟩
  | .hbm, ⟨2, _⟩ => ⟨S2x4112x512, .f32⟩
  | .hbm, ⟨3, _⟩ => ⟨S2x4112x8x64, .f32⟩
  | .hbm, ⟨4, _⟩ => ⟨S2x8x4112x64, .f32⟩
  | .hbm, ⟨5, _⟩ => ⟨S2x4112x512, .f32⟩
  | .hbm, ⟨6, _⟩ => ⟨S2x4112x8x64, .f32⟩
  | .hbm, ⟨7, _⟩ => ⟨S2x8x4112x64, .f32⟩
  | .hbm, ⟨8, _⟩ => ⟨S2x8x4112x4112, .f32⟩
  | .hbm, ⟨9, _⟩ => ⟨S_, .f32⟩
  | .hbm, ⟨10, _⟩ => ⟨S2x8x4112x4112, .f32⟩
  | .hbm, ⟨11, _⟩ => ⟨S2x8x4112x4112, .f32⟩
  | .hbm, ⟨12, _⟩ => ⟨S4112, .i32⟩
  | .hbm, ⟨13, _⟩ => ⟨S1x4112, .i32⟩
  | .hbm, ⟨14, _⟩ => ⟨S4112, .i32⟩
  | .hbm, ⟨15, _⟩ => ⟨S4112x1, .i32⟩
  | .hbm, ⟨16, _⟩ => ⟨S4112x4112, .i32⟩
  | .hbm, ⟨17, _⟩ => ⟨S4112x4112, .i32⟩
  | .hbm, ⟨18, _⟩ => ⟨S4112x4112, .i1⟩
  | .hbm, ⟨19, _⟩ => ⟨S2x8x4112x4112, .f32⟩
  | .hbm, ⟨20, _⟩ => ⟨S2x8x4112x4112, .f32⟩
  | .hbm, ⟨21, _⟩ => ⟨S_, .f32⟩
  | .hbm, ⟨22, _⟩ => ⟨S2x8x4112x4112, .f32⟩
  | .hbm, ⟨23, _⟩ => ⟨S2x8x4112x4112, .f32⟩
  | .hbm, ⟨24, _⟩ => ⟨S2x8x4112x4112, .f32⟩
  | .hbm, ⟨25, _⟩ => ⟨S2x8x4112x4112, .f32⟩
  | .hbm, ⟨26, _⟩ => ⟨S2x8x4112x4112, .i1⟩
  | .hbm, ⟨27, _⟩ => ⟨S2x8x4112x4112, .f32⟩
  | .hbm, ⟨28, _⟩ => ⟨S2x8x4112x4112, .f32⟩
  | .hbm, ⟨29, _⟩ => ⟨S2x8x4112x4112, .f32⟩
  | .hbm, ⟨30, _⟩ => ⟨S2x8x4112x4112, .f32⟩
  | .hbm, ⟨31, _⟩ => ⟨S2x8x4112x4112, .f32⟩
  | .hbm, ⟨32, _⟩ => ⟨S2x8x4112x4112, .f32⟩
  | .hbm, ⟨33, _⟩ => ⟨S2x8x4112x4112, .f32⟩
  | .hbm, ⟨34, _⟩ => ⟨S2x8x4112x4112, .f32⟩
  | .hbm, ⟨35, _⟩ => ⟨S2x8x4112x4112, .f32⟩
  | .hbm, ⟨36, _⟩ => ⟨S_, .f32⟩
  | .hbm, ⟨37, _⟩ => ⟨S_, .f32⟩
  | .hbm, ⟨38, _⟩ => ⟨S2x8x4112x4112, .i1⟩
  | .hbm, ⟨39, _⟩ => ⟨S2x8x4112x4112, .f32⟩
  | .hbm, ⟨40, _⟩ => ⟨S2x8x4112x4112, .f32⟩
  | .hbm, ⟨41, _⟩ => ⟨S_, .f32⟩
  | .hbm, ⟨42, _⟩ => ⟨S2x8x4112, .f32⟩
  | .hbm, ⟨43, _⟩ => ⟨S2x4112x8, .f32⟩
  | .hbm, ⟨44, _⟩ => ⟨S2x4112x8x1, .f32⟩
  | .hbm, ⟨45, _⟩ => ⟨S_, .i32⟩
  | .hbm, ⟨46, _⟩ => ⟨S_, .f32⟩
  | .hbm, ⟨47, _⟩ => ⟨S2x4224x8x64, .f32⟩
  | .hbm, ⟨48, _⟩ => ⟨S8448x512, .f32⟩
  | .hbm, ⟨49, _⟩ => ⟨S_, .i32⟩
  | .hbm, ⟨50, _⟩ => ⟨S_, .f32⟩
  | .hbm, ⟨51, _⟩ => ⟨S2x4224x6144, .f32⟩
  | .hbm, ⟨52, _⟩ => ⟨S8448x6144, .f32⟩
  | .hbm, ⟨53, _⟩ => ⟨S_, .i32⟩
  | .hbm, ⟨54, _⟩ => ⟨S_, .f32⟩
  | .hbm, ⟨55, _⟩ => ⟨S2x4224x512, .f32⟩
  | .hbm, ⟨56, _⟩ => ⟨S8448x512, .f32⟩
  | .hbm, ⟨57, _⟩ => ⟨S8448x512, .bf16⟩
  | .hbm, ⟨58, _⟩ => ⟨S8448x512, .bf16⟩
  | .hbm, ⟨59, _⟩ => ⟨S8448x512, .bf16⟩
  | .local _ .vmem, ⟨0, _⟩ => ⟨S128x128, .f32⟩
  | .local _ .vmem, ⟨1, _⟩ => ⟨S128x128, .f32⟩
  | .local _ .vmem, ⟨2, _⟩ => ⟨S4224x128, .f32⟩
  | .local _ .vmem, ⟨3, _⟩ => ⟨S4224x128, .f32⟩
  | .local _ .vmem, ⟨4, _⟩ => ⟨S4224x128, .f32⟩
  | .local _ .vmem, ⟨5, _⟩ => ⟨S4224x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .bf16⟩
  | .local _ .vmem, ⟨11, _⟩ => ⟨S128x128, .bf16⟩
  | .local _ .vmem, ⟨12, _⟩ => ⟨S4224x128, .bf16⟩
  | .local _ .vmem, ⟨13, _⟩ => ⟨S4224x128, .bf16⟩
  | .local _ .vmem, ⟨14, _⟩ => ⟨S4224x128, .bf16⟩
  | .local _ .vmem, ⟨15, _⟩ => ⟨S4224x128, .bf16⟩
  | .local _ .vmem, ⟨16, _⟩ => ⟨S4352x128, .bf16⟩
  | .local _ .vmem, ⟨17, _⟩ => ⟨S4352x128, .bf16⟩
  | .local _ .vmem, ⟨18, _⟩ => ⟨S4352x128, .f32⟩
  | .local _ .vmem, ⟨19, _⟩ => ⟨S4352x128, .f32⟩
  | .local _ .vmem, ⟨20, _⟩ => ⟨S256x256, .bf16⟩
  | .local _ .vmem, ⟨21, _⟩ => ⟨S256x256, .bf16⟩
  | _, _ => ⟨S2x4112x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v17 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v18 : Ref sig .tc := ⟨.hbm, 40, rfl⟩
abbrev main_cst_1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c : Ref sig .tc := ⟨.hbm, 45, rfl⟩
abbrev main_call2_v0 : Ref sig .tc := ⟨.hbm, 46, rfl⟩
abbrev main_v22 : Ref sig .tc := ⟨.hbm, 47, rfl⟩
abbrev main_v23 : Ref sig .tc := ⟨.hbm, 48, rfl⟩
abbrev main_c_2 : Ref sig .tc := ⟨.hbm, 49, rfl⟩
abbrev main_call3_v0 : Ref sig .tc := ⟨.hbm, 50, rfl⟩
abbrev main_v24 : Ref sig .tc := ⟨.hbm, 51, rfl⟩
abbrev main_v25 : Ref sig .tc := ⟨.hbm, 52, rfl⟩
abbrev main_c_3 : Ref sig .tc := ⟨.hbm, 53, rfl⟩
abbrev main_call4_v0 : Ref sig .tc := ⟨.hbm, 54, rfl⟩
abbrev main_v26 : Ref sig .tc := ⟨.hbm, 55, rfl⟩
abbrev main_v27 : Ref sig .tc := ⟨.hbm, 56, rfl⟩
abbrev main_v28_0 : Ref sig .tc := ⟨.hbm, 57, rfl⟩
abbrev main_v28_1 : Ref sig .tc := ⟨.hbm, 58, rfl⟩
abbrev main_v28_2 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 4, 33], ![false, false, false]⟩

def k0_mult1 : BitVec 32 :=
  let c0_i32_27 : BitVec 32 := 0#32
  c0_i32_27
@[reducible] def k0_t1_loop (i : grid0.Coords) : Scf.Loop 32 :=
  let c1_i32_50 : BitVec 32 := 1#32
  let arg2 : BitVec 32 := BitVec.ofNat 32 (i 2).val
  let c0_i32_18 : BitVec 32 := 0#32
  let v61 : BitVec 1 := Scalar.cmpi .sgt arg2 c0_i32_18
  let v62 : BitVec 32 := Scalar.extui v61
  let c0_i32_19 : BitVec 32 := 0#32
  let v63 : BitVec 1 := Scalar.cmpi .slt arg2 c0_i32_19
  let v64 : BitVec 32 := Scalar.extui v63
  let v65 : BitVec 32 := Scalar.subi v62 v64
  let c2_i32 : BitVec 32 := 2#32
  let c0_i32_20 : BitVec 32 := 0#32
  let v66 : BitVec 1 := Scalar.cmpi .sgt c2_i32 c0_i32_20
  let v67 : BitVec 32 := Scalar.extui v66
  let c0_i32_21 : BitVec 32 := 0#32
  let v68 : BitVec 1 := Scalar.cmpi .slt c2_i32 c0_i32_21
  let v69 : BitVec 32 := Scalar.extui v68
  let v70 : BitVec 32 := Scalar.subi v67 v69
  let v71 : BitVec 1 := Scalar.cmpi .ne v65 v70
  let v72 : BitVec 32 := Scalar.remsi arg2 c2_i32
  let c0_i32_22 : BitVec 32 := 0#32
  let v73 : BitVec 1 := Scalar.cmpi .ne v72 c0_i32_22
  let v74 : BitVec 1 := Scalar.andi v71 v73
  let v60 : BitVec 32 := Scalar.divsi arg2 c2_i32
  let c1_i32 : BitVec 32 := 1#32
  let v75 : BitVec 32 := Scalar.subi v60 c1_i32
  let v76 : BitVec 32 := Scalar.select v74 v75 v60
  let c1_i32_23 : BitVec 32 := 1#32
  let v77 : BitVec 32 := Scalar.addi v76 c1_i32_23
  let c1_i32_48 : BitVec 32 := 1#32
  let v145 : BitVec 32 := Scalar.subi v77 c1_i32_48
  let c1_i32_49 : BitVec 32 := 1#32
  let v146 : BitVec 32 := Scalar.maxsi v145 c1_i32_49
  let v147 : BitVec 32 := Scalar.subi v146 c1_i32_50
  let c1_i32_51 : BitVec 32 := 1#32
  let v149 : BitVec 32 := Scalar.divsi v147 c1_i32_51
  let v150 : BitVec 32 := Scalar.muli v149 c1_i32_51
  let v151 : BitVec 32 := Scalar.addi c1_i32_50 v150
  let c1_i32_52 : BitVec 32 := 1#32
  ⟨c1_i32_50, v151, c1_i32_52⟩
def k0_mult2 (i : grid0.Coords) (k0_t1 : Fin (k0_t1_loop i).trips) : BitVec 32 :=
  let c1_i32_50 : BitVec 32 := 1#32
  let c1_i32_52 : BitVec 32 := 1#32
  let arg17 : BitVec 32 := Scf.iv c1_i32_50 c1_i32_52 k0_t1
  let c1_i32_76 : BitVec 32 := 1#32
  let v211 : BitVec 32 := Scalar.subi arg17 c1_i32_76
  let c256_i32_77 : BitVec 32 := 256#32
  let v212 : BitVec 32 := Scalar.muli v211 c256_i32_77
  v212
def k0_off1 (i : grid0.Coords) (k0_t1 : Fin (k0_t1_loop i).trips) : Fin 2 → Nat :=
  let c1_i32_50 : BitVec 32 := 1#32
  let c1_i32_52 : BitVec 32 := 1#32
  let arg17 : BitVec 32 := Scf.iv c1_i32_50 c1_i32_52 k0_t1
  let c1_i32_76 : BitVec 32 := 1#32
  let v211 : BitVec 32 := Scalar.subi arg17 c1_i32_76
  let c256_i32_77 : BitVec 32 := 256#32
  let v212 : BitVec 32 := Scalar.muli v211 c256_i32_77
  let v213 : BitVec 32 := v212
  let v227 : Index := Scalar.indexCast v213
  let c0_82 : Index := 0#32
  ![v227.toNat, 0]
def k0_mult3 (i : grid0.Coords) (k0_t1 : Fin (k0_t1_loop i).trips) : BitVec 32 :=
  let c1_i32_50 : BitVec 32 := 1#32
  let c1_i32_52 : BitVec 32 := 1#32
  let arg17 : BitVec 32 := Scf.iv c1_i32_50 c1_i32_52 k0_t1
  let c256_i32_91 : BitVec 32 := 256#32
  let v250 : BitVec 32 := Scalar.muli arg17 c256_i32_91
  v250
def k0_off2 (i : grid0.Coords) (k0_t1 : Fin (k0_t1_loop i).trips) : Fin 2 → Nat :=
  let c1_i32_50 : BitVec 32 := 1#32
  let c1_i32_52 : BitVec 32 := 1#32
  let arg17 : BitVec 32 := Scf.iv c1_i32_50 c1_i32_52 k0_t1
  let c256_i32_91 : BitVec 32 := 256#32
  let v250 : BitVec 32 := Scalar.muli arg17 c256_i32_91
  let v251 : BitVec 32 := v250
  let v252 : Index := Scalar.indexCast v251
  let c0_92 : Index := 0#32
  ![v252.toNat, 0]
@[reducible] def k0_t2_loop (i : grid0.Coords) : Scf.Loop 32 :=
  let c1_i32_50 : BitVec 32 := 1#32
  let arg2 : BitVec 32 := BitVec.ofNat 32 (i 2).val
  let c0_i32_18 : BitVec 32 := 0#32
  let v61 : BitVec 1 := Scalar.cmpi .sgt arg2 c0_i32_18
  let v62 : BitVec 32 := Scalar.extui v61
  let c0_i32_19 : BitVec 32 := 0#32
  let v63 : BitVec 1 := Scalar.cmpi .slt arg2 c0_i32_19
  let v64 : BitVec 32 := Scalar.extui v63
  let v65 : BitVec 32 := Scalar.subi v62 v64
  let c2_i32 : BitVec 32 := 2#32
  let c0_i32_20 : BitVec 32 := 0#32
  let v66 : BitVec 1 := Scalar.cmpi .sgt c2_i32 c0_i32_20
  let v67 : BitVec 32 := Scalar.extui v66
  let c0_i32_21 : BitVec 32 := 0#32
  let v68 : BitVec 1 := Scalar.cmpi .slt c2_i32 c0_i32_21
  let v69 : BitVec 32 := Scalar.extui v68
  let v70 : BitVec 32 := Scalar.subi v67 v69
  let v71 : BitVec 1 := Scalar.cmpi .ne v65 v70
  let v72 : BitVec 32 := Scalar.remsi arg2 c2_i32
  let c0_i32_22 : BitVec 32 := 0#32
  let v73 : BitVec 1 := Scalar.cmpi .ne v72 c0_i32_22
  let v74 : BitVec 1 := Scalar.andi v71 v73
  let v60 : BitVec 32 := Scalar.divsi arg2 c2_i32
  let c1_i32 : BitVec 32 := 1#32
  let v75 : BitVec 32 := Scalar.subi v60 c1_i32
  let v76 : BitVec 32 := Scalar.select v74 v75 v60
  let c1_i32_23 : BitVec 32 := 1#32
  let v77 : BitVec 32 := Scalar.addi v76 c1_i32_23
  let c1_i32_48 : BitVec 32 := 1#32
  let v145 : BitVec 32 := Scalar.subi v77 c1_i32_48
  let c1_i32_49 : BitVec 32 := 1#32
  let v146 : BitVec 32 := Scalar.maxsi v145 c1_i32_49
  let v147 : BitVec 32 := Scalar.subi v146 c1_i32_50
  let c1_i32_51 : BitVec 32 := 1#32
  let v149 : BitVec 32 := Scalar.divsi v147 c1_i32_51
  let v150 : BitVec 32 := Scalar.muli v149 c1_i32_51
  let v151 : BitVec 32 := Scalar.addi c1_i32_50 v150
  let v148 : BitVec 32 := Scalar.addi c1_i32_50 v147
  let c1_i32_53 : BitVec 32 := 1#32
  ⟨v151, v148, c1_i32_53⟩
def k0_mult4 (i : grid0.Coords) (k0_t2 : Fin (k0_t2_loop i).trips) : BitVec 32 :=
  let c1_i32_50 : BitVec 32 := 1#32
  let arg2 : BitVec 32 := BitVec.ofNat 32 (i 2).val
  let c0_i32_18 : BitVec 32 := 0#32
  let v61 : BitVec 1 := Scalar.cmpi .sgt arg2 c0_i32_18
  let v62 : BitVec 32 := Scalar.extui v61
  let c0_i32_19 : BitVec 32 := 0#32
  let v63 : BitVec 1 := Scalar.cmpi .slt arg2 c0_i32_19
  let v64 : BitVec 32 := Scalar.extui v63
  let v65 : BitVec 32 := Scalar.subi v62 v64
  let c2_i32 : BitVec 32 := 2#32
  let c0_i32_20 : BitVec 32 := 0#32
  let v66 : BitVec 1 := Scalar.cmpi .sgt c2_i32 c0_i32_20
  let v67 : BitVec 32 := Scalar.extui v66
  let c0_i32_21 : BitVec 32 := 0#32
  let v68 : BitVec 1 := Scalar.cmpi .slt c2_i32 c0_i32_21
  let v69 : BitVec 32 := Scalar.extui v68
  let v70 : BitVec 32 := Scalar.subi v67 v69
  let v71 : BitVec 1 := Scalar.cmpi .ne v65 v70
  let v72 : BitVec 32 := Scalar.remsi arg2 c2_i32
  let c0_i32_22 : BitVec 32 := 0#32
  let v73 : BitVec 1 := Scalar.cmpi .ne v72 c0_i32_22
  let v74 : BitVec 1 := Scalar.andi v71 v73
  let v60 : BitVec 32 := Scalar.divsi arg2 c2_i32
  let c1_i32 : BitVec 32 := 1#32
  let v75 : BitVec 32 := Scalar.subi v60 c1_i32
  let v76 : BitVec 32 := Scalar.select v74 v75 v60
  let c1_i32_23 : BitVec 32 := 1#32
  let v77 : BitVec 32 := Scalar.addi v76 c1_i32_23
  let c1_i32_48 : BitVec 32 := 1#32
  let v145 : BitVec 32 := Scalar.subi v77 c1_i32_48
  let c1_i32_49 : BitVec 32 := 1#32
  let v146 : BitVec 32 := Scalar.maxsi v145 c1_i32_49
  let v147 : BitVec 32 := Scalar.subi v146 c1_i32_50
  let c1_i32_51 : BitVec 32 := 1#32
  let v149 : BitVec 32 := Scalar.divsi v147 c1_i32_51
  let v150 : BitVec 32 := Scalar.muli v149 c1_i32_51
  let v151 : BitVec 32 := Scalar.addi c1_i32_50 v150
  let c1_i32_53 : BitVec 32 := 1#32
  let arg17 : BitVec 32 := Scf.iv v151 c1_i32_53 k0_t2
  let c1_i32_76 : BitVec 32 := 1#32
  let v211 : BitVec 32 := Scalar.subi arg17 c1_i32_76
  let c256_i32_77 : BitVec 32 := 256#32
  let v212 : BitVec 32 := Scalar.muli v211 c256_i32_77
  v212
def k0_off3 (i : grid0.Coords) (k0_t2 : Fin (k0_t2_loop i).trips) : Fin 2 → Nat :=
  let c1_i32_50 : BitVec 32 := 1#32
  let arg2 : BitVec 32 := BitVec.ofNat 32 (i 2).val
  let c0_i32_18 : BitVec 32 := 0#32
  let v61 : BitVec 1 := Scalar.cmpi .sgt arg2 c0_i32_18
  let v62 : BitVec 32 := Scalar.extui v61
  let c0_i32_19 : BitVec 32 := 0#32
  let v63 : BitVec 1 := Scalar.cmpi .slt arg2 c0_i32_19
  let v64 : BitVec 32 := Scalar.extui v63
  let v65 : BitVec 32 := Scalar.subi v62 v64
  let c2_i32 : BitVec 32 := 2#32
  let c0_i32_20 : BitVec 32 := 0#32
  let v66 : BitVec 1 := Scalar.cmpi .sgt c2_i32 c0_i32_20
  let v67 : BitVec 32 := Scalar.extui v66
  let c0_i32_21 : BitVec 32 := 0#32
  let v68 : BitVec 1 := Scalar.cmpi .slt c2_i32 c0_i32_21
  let v69 : BitVec 32 := Scalar.extui v68
  let v70 : BitVec 32 := Scalar.subi v67 v69
  let v71 : BitVec 1 := Scalar.cmpi .ne v65 v70
  let v72 : BitVec 32 := Scalar.remsi arg2 c2_i32
  let c0_i32_22 : BitVec 32 := 0#32
  let v73 : BitVec 1 := Scalar.cmpi .ne v72 c0_i32_22
  let v74 : BitVec 1 := Scalar.andi v71 v73
  let v60 : BitVec 32 := Scalar.divsi arg2 c2_i32
  let c1_i32 : BitVec 32 := 1#32
  let v75 : BitVec 32 := Scalar.subi v60 c1_i32
  let v76 : BitVec 32 := Scalar.select v74 v75 v60
  let c1_i32_23 : BitVec 32 := 1#32
  let v77 : BitVec 32 := Scalar.addi v76 c1_i32_23
  let c1_i32_48 : BitVec 32 := 1#32
  let v145 : BitVec 32 := Scalar.subi v77 c1_i32_48
  let c1_i32_49 : BitVec 32 := 1#32
  let v146 : BitVec 32 := Scalar.maxsi v145 c1_i32_49
  let v147 : BitVec 32 := Scalar.subi v146 c1_i32_50
  let c1_i32_51 : BitVec 32 := 1#32
  let v149 : BitVec 32 := Scalar.divsi v147 c1_i32_51
  let v150 : BitVec 32 := Scalar.muli v149 c1_i32_51
  let v151 : BitVec 32 := Scalar.addi c1_i32_50 v150
  let c1_i32_53 : BitVec 32 := 1#32
  let arg17 : BitVec 32 := Scf.iv v151 c1_i32_53 k0_t2
  let c1_i32_76 : BitVec 32 := 1#32
  let v211 : BitVec 32 := Scalar.subi arg17 c1_i32_76
  let c256_i32_77 : BitVec 32 := 256#32
  let v212 : BitVec 32 := Scalar.muli v211 c256_i32_77
  let v213 : BitVec 32 := v212
  let v227 : Index := Scalar.indexCast v213
  let c0_82 : Index := 0#32
  ![v227.toNat, 0]
def k0_mult5 (i : grid0.Coords) (k0_t2 : Fin (k0_t2_loop i).trips) : BitVec 32 :=
  let c1_i32_50 : BitVec 32 := 1#32
  let arg2 : BitVec 32 := BitVec.ofNat 32 (i 2).val
  let c0_i32_18 : BitVec 32 := 0#32
  let v61 : BitVec 1 := Scalar.cmpi .sgt arg2 c0_i32_18
  let v62 : BitVec 32 := Scalar.extui v61
  let c0_i32_19 : BitVec 32 := 0#32
  let v63 : BitVec 1 := Scalar.cmpi .slt arg2 c0_i32_19
  let v64 : BitVec 32 := Scalar.extui v63
  let v65 : BitVec 32 := Scalar.subi v62 v64
  let c2_i32 : BitVec 32 := 2#32
  let c0_i32_20 : BitVec 32 := 0#32
  let v66 : BitVec 1 := Scalar.cmpi .sgt c2_i32 c0_i32_20
  let v67 : BitVec 32 := Scalar.extui v66
  let c0_i32_21 : BitVec 32 := 0#32
  let v68 : BitVec 1 := Scalar.cmpi .slt c2_i32 c0_i32_21
  let v69 : BitVec 32 := Scalar.extui v68
  let v70 : BitVec 32 := Scalar.subi v67 v69
  let v71 : BitVec 1 := Scalar.cmpi .ne v65 v70
  let v72 : BitVec 32 := Scalar.remsi arg2 c2_i32
  let c0_i32_22 : BitVec 32 := 0#32
  let v73 : BitVec 1 := Scalar.cmpi .ne v72 c0_i32_22
  let v74 : BitVec 1 := Scalar.andi v71 v73
  let v60 : BitVec 32 := Scalar.divsi arg2 c2_i32
  let c1_i32 : BitVec 32 := 1#32
  let v75 : BitVec 32 := Scalar.subi v60 c1_i32
  let v76 : BitVec 32 := Scalar.select v74 v75 v60
  let c1_i32_23 : BitVec 32 := 1#32
  let v77 : BitVec 32 := Scalar.addi v76 c1_i32_23
  let c1_i32_48 : BitVec 32 := 1#32
  let v145 : BitVec 32 := Scalar.subi v77 c1_i32_48
  let c1_i32_49 : BitVec 32 := 1#32
  let v146 : BitVec 32 := Scalar.maxsi v145 c1_i32_49
  let v147 : BitVec 32 := Scalar.subi v146 c1_i32_50
  let c1_i32_51 : BitVec 32 := 1#32
  let v149 : BitVec 32 := Scalar.divsi v147 c1_i32_51
  let v150 : BitVec 32 := Scalar.muli v149 c1_i32_51
  let v151 : BitVec 32 := Scalar.addi c1_i32_50 v150
  let c1_i32_53 : BitVec 32 := 1#32
  let arg17 : BitVec 32 := Scf.iv v151 c1_i32_53 k0_t2
  let c256_i32_91 : BitVec 32 := 256#32
  let v250 : BitVec 32 := Scalar.muli arg17 c256_i32_91
  v250
def k0_off4 (i : grid0.Coords) (k0_t2 : Fin (k0_t2_loop i).trips) : Fin 2 → Nat :=
  let c1_i32_50 : BitVec 32 := 1#32
  let arg2 : BitVec 32 := BitVec.ofNat 32 (i 2).val
  let c0_i32_18 : BitVec 32 := 0#32
  let v61 : BitVec 1 := Scalar.cmpi .sgt arg2 c0_i32_18
  let v62 : BitVec 32 := Scalar.extui v61
  let c0_i32_19 : BitVec 32 := 0#32
  let v63 : BitVec 1 := Scalar.cmpi .slt arg2 c0_i32_19
  let v64 : BitVec 32 := Scalar.extui v63
  let v65 : BitVec 32 := Scalar.subi v62 v64
  let c2_i32 : BitVec 32 := 2#32
  let c0_i32_20 : BitVec 32 := 0#32
  let v66 : BitVec 1 := Scalar.cmpi .sgt c2_i32 c0_i32_20
  let v67 : BitVec 32 := Scalar.extui v66
  let c0_i32_21 : BitVec 32 := 0#32
  let v68 : BitVec 1 := Scalar.cmpi .slt c2_i32 c0_i32_21
  let v69 : BitVec 32 := Scalar.extui v68
  let v70 : BitVec 32 := Scalar.subi v67 v69
  let v71 : BitVec 1 := Scalar.cmpi .ne v65 v70
  let v72 : BitVec 32 := Scalar.remsi arg2 c2_i32
  let c0_i32_22 : BitVec 32 := 0#32
  let v73 : BitVec 1 := Scalar.cmpi .ne v72 c0_i32_22
  let v74 : BitVec 1 := Scalar.andi v71 v73
  let v60 : BitVec 32 := Scalar.divsi arg2 c2_i32
  let c1_i32 : BitVec 32 := 1#32
  let v75 : BitVec 32 := Scalar.subi v60 c1_i32
  let v76 : BitVec 32 := Scalar.select v74 v75 v60
  let c1_i32_23 : BitVec 32 := 1#32
  let v77 : BitVec 32 := Scalar.addi v76 c1_i32_23
  let c1_i32_48 : BitVec 32 := 1#32
  let v145 : BitVec 32 := Scalar.subi v77 c1_i32_48
  let c1_i32_49 : BitVec 32 := 1#32
  let v146 : BitVec 32 := Scalar.maxsi v145 c1_i32_49
  let v147 : BitVec 32 := Scalar.subi v146 c1_i32_50
  let c1_i32_51 : BitVec 32 := 1#32
  let v149 : BitVec 32 := Scalar.divsi v147 c1_i32_51
  let v150 : BitVec 32 := Scalar.muli v149 c1_i32_51
  let v151 : BitVec 32 := Scalar.addi c1_i32_50 v150
  let c1_i32_53 : BitVec 32 := 1#32
  let arg17 : BitVec 32 := Scf.iv v151 c1_i32_53 k0_t2
  let c256_i32_91 : BitVec 32 := 256#32
  let v250 : BitVec 32 := Scalar.muli arg17 c256_i32_91
  let v251 : BitVec 32 := v250
  let v252 : Index := Scalar.indexCast v251
  let c0_92 : Index := 0#32
  ![v252.toNat, 0]
@[reducible] def k0_t3_loop (i : grid0.Coords) : Scf.Loop 32 :=
  let arg2 : BitVec 32 := BitVec.ofNat 32 (i 2).val
  let c0_i32_18 : BitVec 32 := 0#32
  let v61 : BitVec 1 := Scalar.cmpi .sgt arg2 c0_i32_18
  let v62 : BitVec 32 := Scalar.extui v61
  let c0_i32_19 : BitVec 32 := 0#32
  let v63 : BitVec 1 := Scalar.cmpi .slt arg2 c0_i32_19
  let v64 : BitVec 32 := Scalar.extui v63
  let v65 : BitVec 32 := Scalar.subi v62 v64
  let c2_i32 : BitVec 32 := 2#32
  let c0_i32_20 : BitVec 32 := 0#32
  let v66 : BitVec 1 := Scalar.cmpi .sgt c2_i32 c0_i32_20
  let v67 : BitVec 32 := Scalar.extui v66
  let c0_i32_21 : BitVec 32 := 0#32
  let v68 : BitVec 1 := Scalar.cmpi .slt c2_i32 c0_i32_21
  let v69 : BitVec 32 := Scalar.extui v68
  let v70 : BitVec 32 := Scalar.subi v67 v69
  let v71 : BitVec 1 := Scalar.cmpi .ne v65 v70
  let v72 : BitVec 32 := Scalar.remsi arg2 c2_i32
  let c0_i32_22 : BitVec 32 := 0#32
  let v73 : BitVec 1 := Scalar.cmpi .ne v72 c0_i32_22
  let v74 : BitVec 1 := Scalar.andi v71 v73
  let v60 : BitVec 32 := Scalar.divsi arg2 c2_i32
  let c1_i32 : BitVec 32 := 1#32
  let v75 : BitVec 32 := Scalar.subi v60 c1_i32
  let v76 : BitVec 32 := Scalar.select v74 v75 v60
  let c1_i32_23 : BitVec 32 := 1#32
  let v77 : BitVec 32 := Scalar.addi v76 c1_i32_23
  let c1_i32_54 : BitVec 32 := 1#32
  let v154 : BitVec 32 := Scalar.subi v77 c1_i32_54
  let c1_i32_55 : BitVec 32 := 1#32
  let v155 : BitVec 32 := Scalar.maxsi v154 c1_i32_55
  let v156 : BitVec 32 := Scalar.subi v77 v155
  let c1_i32_56 : BitVec 32 := 1#32
  let v158 : BitVec 32 := Scalar.divsi v156 c1_i32_56
  let v159 : BitVec 32 := Scalar.muli v158 c1_i32_56
  let v160 : BitVec 32 := Scalar.addi v155 v159
  let c1_i32_57 : BitVec 32 := 1#32
  ⟨v155, v160, c1_i32_57⟩
def k0_mult6 (i : grid0.Coords) (k0_t3 : Fin (k0_t3_loop i).trips) : BitVec 32 :=
  let arg2 : BitVec 32 := BitVec.ofNat 32 (i 2).val
  let c0_i32_18 : BitVec 32 := 0#32
  let v61 : BitVec 1 := Scalar.cmpi .sgt arg2 c0_i32_18
  let v62 : BitVec 32 := Scalar.extui v61
  let c0_i32_19 : BitVec 32 := 0#32
  let v63 : BitVec 1 := Scalar.cmpi .slt arg2 c0_i32_19
  let v64 : BitVec 32 := Scalar.extui v63
  let v65 : BitVec 32 := Scalar.subi v62 v64
  let c2_i32 : BitVec 32 := 2#32
  let c0_i32_20 : BitVec 32 := 0#32
  let v66 : BitVec 1 := Scalar.cmpi .sgt c2_i32 c0_i32_20
  let v67 : BitVec 32 := Scalar.extui v66
  let c0_i32_21 : BitVec 32 := 0#32
  let v68 : BitVec 1 := Scalar.cmpi .slt c2_i32 c0_i32_21
  let v69 : BitVec 32 := Scalar.extui v68
  let v70 : BitVec 32 := Scalar.subi v67 v69
  let v71 : BitVec 1 := Scalar.cmpi .ne v65 v70
  let v72 : BitVec 32 := Scalar.remsi arg2 c2_i32
  let c0_i32_22 : BitVec 32 := 0#32
  let v73 : BitVec 1 := Scalar.cmpi .ne v72 c0_i32_22
  let v74 : BitVec 1 := Scalar.andi v71 v73
  let v60 : BitVec 32 := Scalar.divsi arg2 c2_i32
  let c1_i32 : BitVec 32 := 1#32
  let v75 : BitVec 32 := Scalar.subi v60 c1_i32
  let v76 : BitVec 32 := Scalar.select v74 v75 v60
  let c1_i32_23 : BitVec 32 := 1#32
  let v77 : BitVec 32 := Scalar.addi v76 c1_i32_23
  let c1_i32_54 : BitVec 32 := 1#32
  let v154 : BitVec 32 := Scalar.subi v77 c1_i32_54
  let c1_i32_55 : BitVec 32 := 1#32
  let v155 : BitVec 32 := Scalar.maxsi v154 c1_i32_55
  let c1_i32_57 : BitVec 32 := 1#32
  let arg17 : BitVec 32 := Scf.iv v155 c1_i32_57 k0_t3
  let c1_i32_76 : BitVec 32 := 1#32
  let v211 : BitVec 32 := Scalar.subi arg17 c1_i32_76
  let c256_i32_77 : BitVec 32 := 256#32
  let v212 : BitVec 32 := Scalar.muli v211 c256_i32_77
  v212
def k0_off5 (i : grid0.Coords) (k0_t3 : Fin (k0_t3_loop i).trips) : Fin 2 → Nat :=
  let arg2 : BitVec 32 := BitVec.ofNat 32 (i 2).val
  let c0_i32_18 : BitVec 32 := 0#32
  let v61 : BitVec 1 := Scalar.cmpi .sgt arg2 c0_i32_18
  let v62 : BitVec 32 := Scalar.extui v61
  let c0_i32_19 : BitVec 32 := 0#32
  let v63 : BitVec 1 := Scalar.cmpi .slt arg2 c0_i32_19
  let v64 : BitVec 32 := Scalar.extui v63
  let v65 : BitVec 32 := Scalar.subi v62 v64
  let c2_i32 : BitVec 32 := 2#32
  let c0_i32_20 : BitVec 32 := 0#32
  let v66 : BitVec 1 := Scalar.cmpi .sgt c2_i32 c0_i32_20
  let v67 : BitVec 32 := Scalar.extui v66
  let c0_i32_21 : BitVec 32 := 0#32
  let v68 : BitVec 1 := Scalar.cmpi .slt c2_i32 c0_i32_21
  let v69 : BitVec 32 := Scalar.extui v68
  let v70 : BitVec 32 := Scalar.subi v67 v69
  let v71 : BitVec 1 := Scalar.cmpi .ne v65 v70
  let v72 : BitVec 32 := Scalar.remsi arg2 c2_i32
  let c0_i32_22 : BitVec 32 := 0#32
  let v73 : BitVec 1 := Scalar.cmpi .ne v72 c0_i32_22
  let v74 : BitVec 1 := Scalar.andi v71 v73
  let v60 : BitVec 32 := Scalar.divsi arg2 c2_i32
  let c1_i32 : BitVec 32 := 1#32
  let v75 : BitVec 32 := Scalar.subi v60 c1_i32
  let v76 : BitVec 32 := Scalar.select v74 v75 v60
  let c1_i32_23 : BitVec 32 := 1#32
  let v77 : BitVec 32 := Scalar.addi v76 c1_i32_23
  let c1_i32_54 : BitVec 32 := 1#32
  let v154 : BitVec 32 := Scalar.subi v77 c1_i32_54
  let c1_i32_55 : BitVec 32 := 1#32
  let v155 : BitVec 32 := Scalar.maxsi v154 c1_i32_55
  let c1_i32_57 : BitVec 32 := 1#32
  let arg17 : BitVec 32 := Scf.iv v155 c1_i32_57 k0_t3
  let c1_i32_76 : BitVec 32 := 1#32
  let v211 : BitVec 32 := Scalar.subi arg17 c1_i32_76
  let c256_i32_77 : BitVec 32 := 256#32
  let v212 : BitVec 32 := Scalar.muli v211 c256_i32_77
  let v213 : BitVec 32 := v212
  let v227 : Index := Scalar.indexCast v213
  let c0_82 : Index := 0#32
  ![v227.toNat, 0]
def k0_mult7 (i : grid0.Coords) (k0_t3 : Fin (k0_t3_loop i).trips) : BitVec 32 :=
  let arg2 : BitVec 32 := BitVec.ofNat 32 (i 2).val
  let c0_i32_18 : BitVec 32 := 0#32
  let v61 : BitVec 1 := Scalar.cmpi .sgt arg2 c0_i32_18
  let v62 : BitVec 32 := Scalar.extui v61
  let c0_i32_19 : BitVec 32 := 0#32
  let v63 : BitVec 1 := Scalar.cmpi .slt arg2 c0_i32_19
  let v64 : BitVec 32 := Scalar.extui v63
  let v65 : BitVec 32 := Scalar.subi v62 v64
  let c2_i32 : BitVec 32 := 2#32
  let c0_i32_20 : BitVec 32 := 0#32
  let v66 : BitVec 1 := Scalar.cmpi .sgt c2_i32 c0_i32_20
  let v67 : BitVec 32 := Scalar.extui v66
  let c0_i32_21 : BitVec 32 := 0#32
  let v68 : BitVec 1 := Scalar.cmpi .slt c2_i32 c0_i32_21
  let v69 : BitVec 32 := Scalar.extui v68
  let v70 : BitVec 32 := Scalar.subi v67 v69
  let v71 : BitVec 1 := Scalar.cmpi .ne v65 v70
  let v72 : BitVec 32 := Scalar.remsi arg2 c2_i32
  let c0_i32_22 : BitVec 32 := 0#32
  let v73 : BitVec 1 := Scalar.cmpi .ne v72 c0_i32_22
  let v74 : BitVec 1 := Scalar.andi v71 v73
  let v60 : BitVec 32 := Scalar.divsi arg2 c2_i32
  let c1_i32 : BitVec 32 := 1#32
  let v75 : BitVec 32 := Scalar.subi v60 c1_i32
  let v76 : BitVec 32 := Scalar.select v74 v75 v60
  let c1_i32_23 : BitVec 32 := 1#32
  let v77 : BitVec 32 := Scalar.addi v76 c1_i32_23
  let c1_i32_54 : BitVec 32 := 1#32
  let v154 : BitVec 32 := Scalar.subi v77 c1_i32_54
  let c1_i32_55 : BitVec 32 := 1#32
  let v155 : BitVec 32 := Scalar.maxsi v154 c1_i32_55
  let c1_i32_57 : BitVec 32 := 1#32
  let arg17 : BitVec 32 := Scf.iv v155 c1_i32_57 k0_t3
  let c256_i32_91 : BitVec 32 := 256#32
  let v250 : BitVec 32 := Scalar.muli arg17 c256_i32_91
  v250
def k0_off6 (i : grid0.Coords) (k0_t3 : Fin (k0_t3_loop i).trips) : Fin 2 → Nat :=
  let arg2 : BitVec 32 := BitVec.ofNat 32 (i 2).val
  let c0_i32_18 : BitVec 32 := 0#32
  let v61 : BitVec 1 := Scalar.cmpi .sgt arg2 c0_i32_18
  let v62 : BitVec 32 := Scalar.extui v61
  let c0_i32_19 : BitVec 32 := 0#32
  let v63 : BitVec 1 := Scalar.cmpi .slt arg2 c0_i32_19
  let v64 : BitVec 32 := Scalar.extui v63
  let v65 : BitVec 32 := Scalar.subi v62 v64
  let c2_i32 : BitVec 32 := 2#32
  let c0_i32_20 : BitVec 32 := 0#32
  let v66 : BitVec 1 := Scalar.cmpi .sgt c2_i32 c0_i32_20
  let v67 : BitVec 32 := Scalar.extui v66
  let c0_i32_21 : BitVec 32 := 0#32
  let v68 : BitVec 1 := Scalar.cmpi .slt c2_i32 c0_i32_21
  let v69 : BitVec 32 := Scalar.extui v68
  let v70 : BitVec 32 := Scalar.subi v67 v69
  let v71 : BitVec 1 := Scalar.cmpi .ne v65 v70
  let v72 : BitVec 32 := Scalar.remsi arg2 c2_i32
  let c0_i32_22 : BitVec 32 := 0#32
  let v73 : BitVec 1 := Scalar.cmpi .ne v72 c0_i32_22
  let v74 : BitVec 1 := Scalar.andi v71 v73
  let v60 : BitVec 32 := Scalar.divsi arg2 c2_i32
  let c1_i32 : BitVec 32 := 1#32
  let v75 : BitVec 32 := Scalar.subi v60 c1_i32
  let v76 : BitVec 32 := Scalar.select v74 v75 v60
  let c1_i32_23 : BitVec 32 := 1#32
  let v77 : BitVec 32 := Scalar.addi v76 c1_i32_23
  let c1_i32_54 : BitVec 32 := 1#32
  let v154 : BitVec 32 := Scalar.subi v77 c1_i32_54
  let c1_i32_55 : BitVec 32 := 1#32
  let v155 : BitVec 32 := Scalar.maxsi v154 c1_i32_55
  let c1_i32_57 : BitVec 32 := 1#32
  let arg17 : BitVec 32 := Scf.iv v155 c1_i32_57 k0_t3
  let c256_i32_91 : BitVec 32 := 256#32
  let v250 : BitVec 32 := Scalar.muli arg17 c256_i32_91
  let v251 : BitVec 32 := v250
  let v252 : Index := Scalar.indexCast v251
  let c0_92 : Index := 0#32
  ![v252.toNat, 0]
@[reducible] def k0_t4_loop (i : grid0.Coords) : Scf.Loop 32 :=
  let arg2 : BitVec 32 := BitVec.ofNat 32 (i 2).val
  let c0_i32_18 : BitVec 32 := 0#32
  let v61 : BitVec 1 := Scalar.cmpi .sgt arg2 c0_i32_18
  let v62 : BitVec 32 := Scalar.extui v61
  let c0_i32_19 : BitVec 32 := 0#32
  let v63 : BitVec 1 := Scalar.cmpi .slt arg2 c0_i32_19
  let v64 : BitVec 32 := Scalar.extui v63
  let v65 : BitVec 32 := Scalar.subi v62 v64
  let c2_i32 : BitVec 32 := 2#32
  let c0_i32_20 : BitVec 32 := 0#32
  let v66 : BitVec 1 := Scalar.cmpi .sgt c2_i32 c0_i32_20
  let v67 : BitVec 32 := Scalar.extui v66
  let c0_i32_21 : BitVec 32 := 0#32
  let v68 : BitVec 1 := Scalar.cmpi .slt c2_i32 c0_i32_21
  let v69 : BitVec 32 := Scalar.extui v68
  let v70 : BitVec 32 := Scalar.subi v67 v69
  let v71 : BitVec 1 := Scalar.cmpi .ne v65 v70
  let v72 : BitVec 32 := Scalar.remsi arg2 c2_i32
  let c0_i32_22 : BitVec 32 := 0#32
  let v73 : BitVec 1 := Scalar.cmpi .ne v72 c0_i32_22
  let v74 : BitVec 1 := Scalar.andi v71 v73
  let v60 : BitVec 32 := Scalar.divsi arg2 c2_i32
  let c1_i32 : BitVec 32 := 1#32
  let v75 : BitVec 32 := Scalar.subi v60 c1_i32
  let v76 : BitVec 32 := Scalar.select v74 v75 v60
  let c1_i32_23 : BitVec 32 := 1#32
  let v77 : BitVec 32 := Scalar.addi v76 c1_i32_23
  let c1_i32_54 : BitVec 32 := 1#32
  let v154 : BitVec 32 := Scalar.subi v77 c1_i32_54
  let c1_i32_55 : BitVec 32 := 1#32
  let v155 : BitVec 32 := Scalar.maxsi v154 c1_i32_55
  let v156 : BitVec 32 := Scalar.subi v77 v155
  let c1_i32_56 : BitVec 32 := 1#32
  let v158 : BitVec 32 := Scalar.divsi v156 c1_i32_56
  let v159 : BitVec 32 := Scalar.muli v158 c1_i32_56
  let v160 : BitVec 32 := Scalar.addi v155 v159
  let v157 : BitVec 32 := Scalar.addi v155 v156
  let c1_i32_58 : BitVec 32 := 1#32
  ⟨v160, v157, c1_i32_58⟩
def k0_mult8 (i : grid0.Coords) (k0_t4 : Fin (k0_t4_loop i).trips) : BitVec 32 :=
  let arg2 : BitVec 32 := BitVec.ofNat 32 (i 2).val
  let c0_i32_18 : BitVec 32 := 0#32
  let v61 : BitVec 1 := Scalar.cmpi .sgt arg2 c0_i32_18
  let v62 : BitVec 32 := Scalar.extui v61
  let c0_i32_19 : BitVec 32 := 0#32
  let v63 : BitVec 1 := Scalar.cmpi .slt arg2 c0_i32_19
  let v64 : BitVec 32 := Scalar.extui v63
  let v65 : BitVec 32 := Scalar.subi v62 v64
  let c2_i32 : BitVec 32 := 2#32
  let c0_i32_20 : BitVec 32 := 0#32
  let v66 : BitVec 1 := Scalar.cmpi .sgt c2_i32 c0_i32_20
  let v67 : BitVec 32 := Scalar.extui v66
  let c0_i32_21 : BitVec 32 := 0#32
  let v68 : BitVec 1 := Scalar.cmpi .slt c2_i32 c0_i32_21
  let v69 : BitVec 32 := Scalar.extui v68
  let v70 : BitVec 32 := Scalar.subi v67 v69
  let v71 : BitVec 1 := Scalar.cmpi .ne v65 v70
  let v72 : BitVec 32 := Scalar.remsi arg2 c2_i32
  let c0_i32_22 : BitVec 32 := 0#32
  let v73 : BitVec 1 := Scalar.cmpi .ne v72 c0_i32_22
  let v74 : BitVec 1 := Scalar.andi v71 v73
  let v60 : BitVec 32 := Scalar.divsi arg2 c2_i32
  let c1_i32 : BitVec 32 := 1#32
  let v75 : BitVec 32 := Scalar.subi v60 c1_i32
  let v76 : BitVec 32 := Scalar.select v74 v75 v60
  let c1_i32_23 : BitVec 32 := 1#32
  let v77 : BitVec 32 := Scalar.addi v76 c1_i32_23
  let c1_i32_54 : BitVec 32 := 1#32
  let v154 : BitVec 32 := Scalar.subi v77 c1_i32_54
  let c1_i32_55 : BitVec 32 := 1#32
  let v155 : BitVec 32 := Scalar.maxsi v154 c1_i32_55
  let v156 : BitVec 32 := Scalar.subi v77 v155
  let c1_i32_56 : BitVec 32 := 1#32
  let v158 : BitVec 32 := Scalar.divsi v156 c1_i32_56
  let v159 : BitVec 32 := Scalar.muli v158 c1_i32_56
  let v160 : BitVec 32 := Scalar.addi v155 v159
  let c1_i32_58 : BitVec 32 := 1#32
  let arg17 : BitVec 32 := Scf.iv v160 c1_i32_58 k0_t4
  let c1_i32_76 : BitVec 32 := 1#32
  let v211 : BitVec 32 := Scalar.subi arg17 c1_i32_76
  let c256_i32_77 : BitVec 32 := 256#32
  let v212 : BitVec 32 := Scalar.muli v211 c256_i32_77
  v212
def k0_off7 (i : grid0.Coords) (k0_t4 : Fin (k0_t4_loop i).trips) : Fin 2 → Nat :=
  let arg2 : BitVec 32 := BitVec.ofNat 32 (i 2).val
  let c0_i32_18 : BitVec 32 := 0#32
  let v61 : BitVec 1 := Scalar.cmpi .sgt arg2 c0_i32_18
  let v62 : BitVec 32 := Scalar.extui v61
  let c0_i32_19 : BitVec 32 := 0#32
  let v63 : BitVec 1 := Scalar.cmpi .slt arg2 c0_i32_19
  let v64 : BitVec 32 := Scalar.extui v63
  let v65 : BitVec 32 := Scalar.subi v62 v64
  let c2_i32 : BitVec 32 := 2#32
  let c0_i32_20 : BitVec 32 := 0#32
  let v66 : BitVec 1 := Scalar.cmpi .sgt c2_i32 c0_i32_20
  let v67 : BitVec 32 := Scalar.extui v66
  let c0_i32_21 : BitVec 32 := 0#32
  let v68 : BitVec 1 := Scalar.cmpi .slt c2_i32 c0_i32_21
  let v69 : BitVec 32 := Scalar.extui v68
  let v70 : BitVec 32 := Scalar.subi v67 v69
  let v71 : BitVec 1 := Scalar.cmpi .ne v65 v70
  let v72 : BitVec 32 := Scalar.remsi arg2 c2_i32
  let c0_i32_22 : BitVec 32 := 0#32
  let v73 : BitVec 1 := Scalar.cmpi .ne v72 c0_i32_22
  let v74 : BitVec 1 := Scalar.andi v71 v73
  let v60 : BitVec 32 := Scalar.divsi arg2 c2_i32
  let c1_i32 : BitVec 32 := 1#32
  let v75 : BitVec 32 := Scalar.subi v60 c1_i32
  let v76 : BitVec 32 := Scalar.select v74 v75 v60
  let c1_i32_23 : BitVec 32 := 1#32
  let v77 : BitVec 32 := Scalar.addi v76 c1_i32_23
  let c1_i32_54 : BitVec 32 := 1#32
  let v154 : BitVec 32 := Scalar.subi v77 c1_i32_54
  let c1_i32_55 : BitVec 32 := 1#32
  let v155 : BitVec 32 := Scalar.maxsi v154 c1_i32_55
  let v156 : BitVec 32 := Scalar.subi v77 v155
  let c1_i32_56 : BitVec 32 := 1#32
  let v158 : BitVec 32 := Scalar.divsi v156 c1_i32_56
  let v159 : BitVec 32 := Scalar.muli v158 c1_i32_56
  let v160 : BitVec 32 := Scalar.addi v155 v159
  let c1_i32_58 : BitVec 32 := 1#32
  let arg17 : BitVec 32 := Scf.iv v160 c1_i32_58 k0_t4
  let c1_i32_76 : BitVec 32 := 1#32
  let v211 : BitVec 32 := Scalar.subi arg17 c1_i32_76
  let c256_i32_77 : BitVec 32 := 256#32
  let v212 : BitVec 32 := Scalar.muli v211 c256_i32_77
  let v213 : BitVec 32 := v212
  let v227 : Index := Scalar.indexCast v213
  let c0_82 : Index := 0#32
  ![v227.toNat, 0]
def k0_mult9 (i : grid0.Coords) (k0_t4 : Fin (k0_t4_loop i).trips) : BitVec 32 :=
  let arg2 : BitVec 32 := BitVec.ofNat 32 (i 2).val
  let c0_i32_18 : BitVec 32 := 0#32
  let v61 : BitVec 1 := Scalar.cmpi .sgt arg2 c0_i32_18
  let v62 : BitVec 32 := Scalar.extui v61
  let c0_i32_19 : BitVec 32 := 0#32
  let v63 : BitVec 1 := Scalar.cmpi .slt arg2 c0_i32_19
  let v64 : BitVec 32 := Scalar.extui v63
  let v65 : BitVec 32 := Scalar.subi v62 v64
  let c2_i32 : BitVec 32 := 2#32
  let c0_i32_20 : BitVec 32 := 0#32
  let v66 : BitVec 1 := Scalar.cmpi .sgt c2_i32 c0_i32_20
  let v67 : BitVec 32 := Scalar.extui v66
  let c0_i32_21 : BitVec 32 := 0#32
  let v68 : BitVec 1 := Scalar.cmpi .slt c2_i32 c0_i32_21
  let v69 : BitVec 32 := Scalar.extui v68
  let v70 : BitVec 32 := Scalar.subi v67 v69
  let v71 : BitVec 1 := Scalar.cmpi .ne v65 v70
  let v72 : BitVec 32 := Scalar.remsi arg2 c2_i32
  let c0_i32_22 : BitVec 32 := 0#32
  let v73 : BitVec 1 := Scalar.cmpi .ne v72 c0_i32_22
  let v74 : BitVec 1 := Scalar.andi v71 v73
  let v60 : BitVec 32 := Scalar.divsi arg2 c2_i32
  let c1_i32 : BitVec 32 := 1#32
  let v75 : BitVec 32 := Scalar.subi v60 c1_i32
  let v76 : BitVec 32 := Scalar.select v74 v75 v60
  let c1_i32_23 : BitVec 32 := 1#32
  let v77 : BitVec 32 := Scalar.addi v76 c1_i32_23
  let c1_i32_54 : BitVec 32 := 1#32
  let v154 : BitVec 32 := Scalar.subi v77 c1_i32_54
  let c1_i32_55 : BitVec 32 := 1#32
  let v155 : BitVec 32 := Scalar.maxsi v154 c1_i32_55
  let v156 : BitVec 32 := Scalar.subi v77 v155
  let c1_i32_56 : BitVec 32 := 1#32
  let v158 : BitVec 32 := Scalar.divsi v156 c1_i32_56
  let v159 : BitVec 32 := Scalar.muli v158 c1_i32_56
  let v160 : BitVec 32 := Scalar.addi v155 v159
  let c1_i32_58 : BitVec 32 := 1#32
  let arg17 : BitVec 32 := Scf.iv v160 c1_i32_58 k0_t4
  let c256_i32_91 : BitVec 32 := 256#32
  let v250 : BitVec 32 := Scalar.muli arg17 c256_i32_91
  v250
def k0_off8 (i : grid0.Coords) (k0_t4 : Fin (k0_t4_loop i).trips) : Fin 2 → Nat :=
  let arg2 : BitVec 32 := BitVec.ofNat 32 (i 2).val
  let c0_i32_18 : BitVec 32 := 0#32
  let v61 : BitVec 1 := Scalar.cmpi .sgt arg2 c0_i32_18
  let v62 : BitVec 32 := Scalar.extui v61
  let c0_i32_19 : BitVec 32 := 0#32
  let v63 : BitVec 1 := Scalar.cmpi .slt arg2 c0_i32_19
  let v64 : BitVec 32 := Scalar.extui v63
  let v65 : BitVec 32 := Scalar.subi v62 v64
  let c2_i32 : BitVec 32 := 2#32
  let c0_i32_20 : BitVec 32 := 0#32
  let v66 : BitVec 1 := Scalar.cmpi .sgt c2_i32 c0_i32_20
  let v67 : BitVec 32 := Scalar.extui v66
  let c0_i32_21 : BitVec 32 := 0#32
  let v68 : BitVec 1 := Scalar.cmpi .slt c2_i32 c0_i32_21
  let v69 : BitVec 32 := Scalar.extui v68
  let v70 : BitVec 32 := Scalar.subi v67 v69
  let v71 : BitVec 1 := Scalar.cmpi .ne v65 v70
  let v72 : BitVec 32 := Scalar.remsi arg2 c2_i32
  let c0_i32_22 : BitVec 32 := 0#32
  let v73 : BitVec 1 := Scalar.cmpi .ne v72 c0_i32_22
  let v74 : BitVec 1 := Scalar.andi v71 v73
  let v60 : BitVec 32 := Scalar.divsi arg2 c2_i32
  let c1_i32 : BitVec 32 := 1#32
  let v75 : BitVec 32 := Scalar.subi v60 c1_i32
  let v76 : BitVec 32 := Scalar.select v74 v75 v60
  let c1_i32_23 : BitVec 32 := 1#32
  let v77 : BitVec 32 := Scalar.addi v76 c1_i32_23
  let c1_i32_54 : BitVec 32 := 1#32
  let v154 : BitVec 32 := Scalar.subi v77 c1_i32_54
  let c1_i32_55 : BitVec 32 := 1#32
  let v155 : BitVec 32 := Scalar.maxsi v154 c1_i32_55
  let v156 : BitVec 32 := Scalar.subi v77 v155
  let c1_i32_56 : BitVec 32 := 1#32
  let v158 : BitVec 32 := Scalar.divsi v156 c1_i32_56
  let v159 : BitVec 32 := Scalar.muli v158 c1_i32_56
  let v160 : BitVec 32 := Scalar.addi v155 v159
  let c1_i32_58 : BitVec 32 := 1#32
  let arg17 : BitVec 32 := Scf.iv v160 c1_i32_58 k0_t4
  let c256_i32_91 : BitVec 32 := 256#32
  let v250 : BitVec 32 := Scalar.muli arg17 c256_i32_91
  let v251 : BitVec 32 := v250
  let v252 : Index := Scalar.indexCast v251
  let c0_92 : Index := 0#32
  ![v252.toNat, 0]
def k0_mult10 (i : grid0.Coords) : BitVec 32 :=
  let arg2 : BitVec 32 := BitVec.ofNat 32 (i 2).val
  let c0_i32_18 : BitVec 32 := 0#32
  let v61 : BitVec 1 := Scalar.cmpi .sgt arg2 c0_i32_18
  let v62 : BitVec 32 := Scalar.extui v61
  let c0_i32_19 : BitVec 32 := 0#32
  let v63 : BitVec 1 := Scalar.cmpi .slt arg2 c0_i32_19
  let v64 : BitVec 32 := Scalar.extui v63
  let v65 : BitVec 32 := Scalar.subi v62 v64
  let c2_i32 : BitVec 32 := 2#32
  let c0_i32_20 : BitVec 32 := 0#32
  let v66 : BitVec 1 := Scalar.cmpi .sgt c2_i32 c0_i32_20
  let v67 : BitVec 32 := Scalar.extui v66
  let c0_i32_21 : BitVec 32 := 0#32
  let v68 : BitVec 1 := Scalar.cmpi .slt c2_i32 c0_i32_21
  let v69 : BitVec 32 := Scalar.extui v68
  let v70 : BitVec 32 := Scalar.subi v67 v69
  let v71 : BitVec 1 := Scalar.cmpi .ne v65 v70
  let v72 : BitVec 32 := Scalar.remsi arg2 c2_i32
  let c0_i32_22 : BitVec 32 := 0#32
  let v73 : BitVec 1 := Scalar.cmpi .ne v72 c0_i32_22
  let v74 : BitVec 1 := Scalar.andi v71 v73
  let v60 : BitVec 32 := Scalar.divsi arg2 c2_i32
  let c1_i32 : BitVec 32 := 1#32
  let v75 : BitVec 32 := Scalar.subi v60 c1_i32
  let v76 : BitVec 32 := Scalar.select v74 v75 v60
  let c1_i32_23 : BitVec 32 := 1#32
  let v77 : BitVec 32 := Scalar.addi v76 c1_i32_23
  let c1_i32_59 : BitVec 32 := 1#32
  let v163 : BitVec 32 := Scalar.subi v77 c1_i32_59
  let c256_i32 : BitVec 32 := 256#32
  let v164 : BitVec 32 := Scalar.muli v163 c256_i32
  v164
def k0_off9 (i : grid0.Coords) : Fin 2 → Nat :=
  let arg2 : BitVec 32 := BitVec.ofNat 32 (i 2).val
  let c0_i32_18 : BitVec 32 := 0#32
  let v61 : BitVec 1 := Scalar.cmpi .sgt arg2 c0_i32_18
  let v62 : BitVec 32 := Scalar.extui v61
  let c0_i32_19 : BitVec 32 := 0#32
  let v63 : BitVec 1 := Scalar.cmpi .slt arg2 c0_i32_19
  let v64 : BitVec 32 := Scalar.extui v63
  let v65 : BitVec 32 := Scalar.subi v62 v64
  let c2_i32 : BitVec 32 := 2#32
  let c0_i32_20 : BitVec 32 := 0#32
  let v66 : BitVec 1 := Scalar.cmpi .sgt c2_i32 c0_i32_20
  let v67 : BitVec 32 := Scalar.extui v66
  let c0_i32_21 : BitVec 32 := 0#32
  let v68 : BitVec 1 := Scalar.cmpi .slt c2_i32 c0_i32_21
  let v69 : BitVec 32 := Scalar.extui v68
  let v70 : BitVec 32 := Scalar.subi v67 v69
  let v71 : BitVec 1 := Scalar.cmpi .ne v65 v70
  let v72 : BitVec 32 := Scalar.remsi arg2 c2_i32
  let c0_i32_22 : BitVec 32 := 0#32
  let v73 : BitVec 1 := Scalar.cmpi .ne v72 c0_i32_22
  let v74 : BitVec 1 := Scalar.andi v71 v73
  let v60 : BitVec 32 := Scalar.divsi arg2 c2_i32
  let c1_i32 : BitVec 32 := 1#32
  let v75 : BitVec 32 := Scalar.subi v60 c1_i32
  let v76 : BitVec 32 := Scalar.select v74 v75 v60
  let c1_i32_23 : BitVec 32 := 1#32
  let v77 : BitVec 32 := Scalar.addi v76 c1_i32_23
  let c1_i32_59 : BitVec 32 := 1#32
  let v163 : BitVec 32 := Scalar.subi v77 c1_i32_59
  let c256_i32 : BitVec 32 := 256#32
  let v164 : BitVec 32 := Scalar.muli v163 c256_i32
  let v165 : BitVec 32 := v164
  let v179 : Index := Scalar.indexCast v165
  let c0_64 : Index := 0#32
  ![v179.toNat, 0]
def k0_cond2 (i : grid0.Coords) : BitVec 1 :=
  let arg2 : BitVec 32 := BitVec.ofNat 32 (i 2).val
  let c32_i32 : BitVec 32 := 32#32
  let v208 : BitVec 1 := Scalar.cmpi .eq arg2 c32_i32
  let v209 : BitVec 32 := Scalar.extui v208
  let c0_i32_75 : BitVec 32 := 0#32
  let v210 : BitVec 1 := Scalar.cmpi .ne v209 c0_i32_75
  v210

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c33_i32 : BitVec 32 := 33#32
  let v0 : BitVec 32 := Scalar.muli arg0 c33_i32
  let v1 : BitVec 32 := Scalar.addi v0 arg2
  let c12_i32 : BitVec 32 := 12#32
  let v2 : BitVec 32 := Scalar.addi c12_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c33_i32 : BitVec 32 := 33#32
  let v0 : BitVec 32 := Scalar.muli arg0 c33_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c33_i32 : BitVec 32 := 33#32
  let v0 : BitVec 32 := Scalar.muli arg0 c33_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c33_i32 : BitVec 32 := 33#32
  let v0 : BitVec 32 := Scalar.muli arg0 c33_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4224x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4224x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S4224x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S4224x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S2x4112x6144 : Shape := ⟨3, ![2, 4112, 6144]⟩
abbrev S2x4112x512 : Shape := ⟨3, ![2, 4112, 512]⟩
abbrev S2x4112x8x64 : Shape := ⟨4, ![2, 4112, 8, 64]⟩
abbrev S2x8x4112x64 : Shape := ⟨4, ![2, 8, 4112, 64]⟩
abbrev S4112 : Shape := ⟨1, ![4112]⟩
abbrev S2x8x4112x4112 : Shape := ⟨4, ![2, 8, 4112, 4112]⟩
abbrev S_ : Shape := ⟨0, ![]⟩
abbrev S1x4112 : Shape := ⟨2, ![1, 4112]⟩
abbrev S4112x1 : Shape := ⟨2, ![4112, 1]⟩
abbrev S4112x4112 : Shape := ⟨2, ![4112, 4112]⟩
abbrev S2x8x64x4112 : Shape := ⟨4, ![2, 8, 64, 4112]⟩
abbrev S2x4224x512 : Shape := ⟨3, ![2, 4224, 512]⟩
abbrev S8448x512 : Shape := ⟨2, ![8448, 512]⟩

abbrev nBuf : Space → Nat
  | .hbm => 192
  | .vmem => 0
  | .smem => 0
  | _ => 0

abbrev hbmTy0_0 (i : Nat) : BufTy := match i % 128 with
  | 0 => ⟨S2x4112x6144, .f32⟩
  | 1 => ⟨S2x4112x512, .f32⟩
  | 2 => ⟨S2x4112x512, .f32⟩
  | 3 => ⟨S2x4112x512, .f32⟩
  | 4 => ⟨S2x4112x512, .f32⟩
  | 5 => ⟨S2x4112x8x64, .f32⟩
  | 6 => ⟨S2x8x4112x64, .f32⟩
  | 7 => ⟨S2x4112x8x64, .f32⟩
  | 8 => ⟨S2x8x4112x64, .f32⟩
  | 9 => ⟨S2x4112x8x64, .f32⟩
  | 10 => ⟨S2x8x4112x64, .f32⟩
  | 11 => ⟨S4112, .i32⟩
  | 12 => ⟨S2x8x4112x4112, .f32⟩
  | 13 => ⟨S_, .f32⟩
  | 14 => ⟨S2x8x4112x4112, .f32⟩
  | 15 => ⟨S2x8x4112x4112, .f32⟩
  | 16 => ⟨S1x4112, .i32⟩
  | 17 => ⟨S4112x1, .i32⟩
  | 18 => ⟨S4112x4112, .i32⟩
  | 19 => ⟨S4112x4112, .i32⟩
  | 20 => ⟨S4112x4112, .i1⟩
  | 21 => ⟨S2x8x4112x4112, .f32⟩
  | 22 => ⟨S2x8x4112x4112, .f32⟩
  | 23 => ⟨S_, .f32⟩
  | 24 => ⟨S2x8x4112x4112, .f32⟩
  | 25 => ⟨S2x8x4112x4112, .f32⟩
  | 26 => ⟨S2x8x4112x4112, .f32⟩
  | 27 => ⟨S2x8x4112x4112, .f32⟩
  | 28 => ⟨S2x8x4112x4112, .i1⟩
  | 29 => ⟨S2x8x4112x4112, .f32⟩
  | 30 => ⟨S2x8x4112x4112, .f32⟩
  | 31 => ⟨S2x8x4112x4112, .f32⟩
  | 32 => ⟨S2x8x4112x4112, .f32⟩
  | 33 => ⟨S2x8x4112x4112, .f32⟩
  | 34 => ⟨S2x8x4112x4112, .f32⟩
  | 35 => ⟨S2x8x4112x4112, .f32⟩
  | 36 => ⟨S2x8x4112x4112, .f32⟩
  | 37 => ⟨S_, .f32⟩
  | 38 => ⟨S2x8x4112x4112, .f32⟩
  | 39 => ⟨S2x8x4112x4112, .i1⟩
  | 40 => ⟨S_, .f32⟩
  | 41 => ⟨S2x8x4112x4112, .f32⟩
  | 42 => ⟨S2x8x4112x4112, .f32⟩
  | 43 => ⟨S_, .f32⟩
  | 44 => ⟨S2x8x4112x4112, .f32⟩
  | 45 => ⟨S2x8x4112x4112, .i1⟩
  | 46 => ⟨S_, .f32⟩
  | 47 => ⟨S2x8x4112x4112, .f32⟩
  | 48 => ⟨S2x8x4112x4112, .f32⟩
  | 49 => ⟨S2x8x4112x4112, .f32⟩
  | 50 => ⟨S2x8x4112x4112, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S2x8x4112x4112, .f32⟩
  | 59 => ⟨S2x8x4112x4112, .i1⟩
  | 60 => ⟨S_, .f32⟩
  | 61 => ⟨S2x8x4112x4112, .f32⟩
  | 62 => ⟨S2x8x4112x4112, .f32⟩
  | 63 => ⟨S2x8x4112x4112, .f32⟩
  | 64 => ⟨S2x8x4112x4112, .f32⟩
  | 65 => ⟨S2x8x4112x4112, .f32⟩
  | 66 => ⟨S_, .f32⟩
  | 67 => ⟨S2x8x4112x4112, .f32⟩
  | 68 => ⟨S2x8x4112x4112, .f32⟩
  | 69 => ⟨S2x8x4112x4112, .f32⟩
  | 70 => ⟨S_, .f32⟩
  | 71 => ⟨S_, .f32⟩
  | 72 => ⟨S2x8x4112x4112, .i1⟩
  | 73 => ⟨S2x8x4112x4112, .f32⟩
  | 74 => ⟨S2x8x4112x4112, .f32⟩
  | 75 => ⟨S_, .f32⟩
  | 76 => ⟨S2x8x4112x4112, .f32⟩
  | 77 => ⟨S_, .f32⟩
  | 78 => ⟨S_, .f32⟩
  | 79 => ⟨S2x8x4112x4112, .f32⟩
  | 80 => ⟨S2x8x4112x4112, .f32⟩
  | 81 => ⟨S2x8x4112x4112, .f32⟩
  | 82 => ⟨S_, .f32⟩
  | 83 => ⟨S2x8x4112x4112, .f32⟩
  | 84 => ⟨S2x8x4112x4112, .f32⟩
  | 85 => ⟨S2x8x4112x4112, .f32⟩
  | 86 => ⟨S2x8x4112x4112, .f32⟩
  | 87 => ⟨S2x8x4112x4112, .i1⟩
  | 88 => ⟨S2x8x4112x4112, .f32⟩
  | 89 => ⟨S2x8x4112x4112, .f32⟩
  | 90 => ⟨S2x8x4112x4112, .f32⟩
  | 91 => ⟨S2x8x4112x4112, .f32⟩
  | 92 => ⟨S2x8x4112x4112, .f32⟩
  | 93 => ⟨S2x8x4112x4112, .f32⟩
  | 94 => ⟨S2x8x4112x4112, .f32⟩
  | 95 => ⟨S2x8x4112x4112, .f32⟩
  | 96 => ⟨S_, .f32⟩
  | 97 => ⟨S2x8x4112x4112, .f32⟩
  | 98 => ⟨S2x8x4112x4112, .i1⟩
  | 99 => ⟨S_, .f32⟩
  | 100 => ⟨S2x8x4112x4112, .f32⟩
  | 101 => ⟨S2x8x4112x4112, .f32⟩
  | 102 => ⟨S_, .f32⟩
  | 103 => ⟨S2x8x4112x4112, .f32⟩
  | 104 => ⟨S2x8x4112x4112, .i1⟩
  | 105 => ⟨S_, .f32⟩
  | 106 => ⟨S2x8x4112x4112, .f32⟩
  | 107 => ⟨S2x8x4112x4112, .f32⟩
  | 108 => ⟨S2x8x4112x4112, .f32⟩
  | 109 => ⟨S2x8x4112x4112, .f32⟩
  | 110 => ⟨S_, .f32⟩
  | 111 => ⟨S_, .f32⟩
  | 112 => ⟨S_, .i1⟩
  | 113 => ⟨S_, .f32⟩
  | 114 => ⟨S_, .f32⟩
  | 115 => ⟨S_, .f32⟩
  | 116 => ⟨S_, .f32⟩
  | 117 => ⟨S2x8x4112x4112, .f32⟩
  | 118 => ⟨S2x8x4112x4112, .i1⟩
  | 119 => ⟨S_, .f32⟩
  | 120 => ⟨S2x8x4112x4112, .f32⟩
  | 121 => ⟨S2x8x4112x4112, .f32⟩
  | 122 => ⟨S2x8x4112x4112, .f32⟩
  | 123 => ⟨S2x8x4112x4112, .f32⟩
  | 124 => ⟨S2x8x4112x4112, .f32⟩
  | 125 => ⟨S_, .f32⟩
  | 126 => ⟨S2x8x4112x4112, .f32⟩
  | 127 => ⟨S2x8x4112x4112, .f32⟩
  | _ => ⟨S2x4112x6144, .f32⟩

abbrev hbmTy0_1 (i : Nat) : BufTy := match i % 128 with
  | 0 => ⟨S2x8x4112x4112, .f32⟩
  | 1 => ⟨S2x8x4112x4112, .f32⟩
  | 2 => ⟨S2x8x4112x4112, .f32⟩
  | 3 => ⟨S_, .f32⟩
  | 4 => ⟨S_, .f32⟩
  | 5 => ⟨S2x8x4112x4112, .i1⟩
  | 6 => ⟨S2x8x4112x4112, .f32⟩
  | 7 => ⟨S2x8x4112x4112, .f32⟩
  | 8 => ⟨S_, .f32⟩
  | 9 => ⟨S2x8x4112x4112, .f32⟩
  | 10 => ⟨S2x8x4112x64, .f32⟩
  | 11 => ⟨S2x4112x8x64, .f32⟩
  | 12 => ⟨S2x4112x512, .f32⟩
  | 13 => ⟨S2x4112x8x64, .f32⟩
  | 14 => ⟨S2x8x4112x64, .f32⟩
  | 15 => ⟨S2x8x64x4112, .f32⟩
  | 16 => ⟨S2x8x4112x64, .f32⟩
  | 17 => ⟨S2x8x4112x4112, .f32⟩
  | 18 => ⟨S_, .f32⟩
  | 19 => ⟨S2x8x4112x4112, .f32⟩
  | 20 => ⟨S2x8x4112x4112, .f32⟩
  | 21 => ⟨S2x8x4112x4112, .f32⟩
  | 22 => ⟨S2x8x4112x4112, .f32⟩
  | 23 => ⟨S2x8x4112x4112, .f32⟩
  | 24 => ⟨S2x8x4112x4112, .f32⟩
  | 25 => ⟨S2x8x4112x4112, .f32⟩
  | 26 => ⟨S_, .f32⟩
  | 27 => ⟨S_, .f32⟩
  | 28 => ⟨S2x8x4112x4112, .f32⟩
  | 29 => ⟨S2x8x4112x4112, .f32⟩
  | 30 => ⟨S_, .f32⟩
  | 31 => ⟨S2x8x4112x4112, .f32⟩
  | 32 => ⟨S2x8x4112x4112, .f32⟩
  | 33 => ⟨S2x8x4112x4112, .f32⟩
  | 34 => ⟨S2x8x4112x4112, .f32⟩
  | 35 => ⟨S2x8x4112x4112, .f32⟩
  | 36 => ⟨S2x8x4112x4112, .f32⟩
  | 37 => ⟨S2x8x4112x4112, .f32⟩
  | 38 => ⟨S_, .f32⟩
  | 39 => ⟨S2x8x4112x4112, .f32⟩
  | 40 => ⟨S2x8x4112x4112, .f32⟩
  | 41 => ⟨S2x8x4112x64, .f32⟩
  | 42 => ⟨S2x8x4112x64, .f32⟩
  | 43 => ⟨S2x4112x8x64, .f32⟩
  | 44 => ⟨S2x4112x512, .f32⟩
  | 45 => ⟨S2x4112x8x64, .f32⟩
  | 46 => ⟨S2x4112x512, .f32⟩
  | 47 => ⟨S2x4112x8x64, .f32⟩
  | 48 => ⟨S2x4112x512, .f32⟩
  | 49 => ⟨S_, .i32⟩
  | 50 => ⟨S_, .f32⟩
  | 51 => ⟨S2x4224x512, .f32⟩
  | 52 => ⟨S8448x512, .f32⟩
  | 53 => ⟨S8448x512, .bf16⟩
  | 54 => ⟨S_, .i32⟩
  | 55 => ⟨S_, .f32⟩
  | 56 => ⟨S2x4224x512, .f32⟩
  | 57 => ⟨S8448x512, .f32⟩
  | 58 => ⟨S8448x512, .bf16⟩
  | 59 => ⟨S_, .i32⟩
  | 60 => ⟨S_, .f32⟩
  | 61 => ⟨S2x4224x512, .f32⟩
  | 62 => ⟨S8448x512, .f32⟩
  | 63 => ⟨S8448x512, .bf16⟩
  | _ => ⟨S2x4112x6144, .f32⟩

abbrev hbmTy (i : Nat) : BufTy := match i / 128 with
  | 0 => hbmTy0_0 i
  | 1 => hbmTy0_1 i
  | _ => ⟨S2x4112x6144, .f32⟩

abbrev bufTy : (tb : Table) → Fin (tcTables nBuf tb) → BufTy
  | .hbm, ⟨i, _⟩ => hbmTy i
  | _, _ => ⟨S2x4112x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v19_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v19_2 : Ref sig .tc := ⟨.hbm, 68, rfl⟩
abbrev main_v19_0 : Ref sig .tc := ⟨.hbm, 69, rfl⟩
abbrev main_cst_0 : Ref sig .tc := ⟨.hbm, 70, rfl⟩
abbrev main_call1_v0 : Ref sig .tc := ⟨.hbm, 71, rfl⟩
abbrev main_v20_1 : Ref sig .tc := ⟨.hbm, 72, rfl⟩
abbrev main_call1_v2 : Ref sig .tc := ⟨.hbm, 73, rfl⟩
abbrev main_v20_0 : Ref sig .tc := ⟨.hbm, 74, rfl⟩
abbrev main_call1_cst : Ref sig .tc := ⟨.hbm, 75, rfl⟩
abbrev main_v20_2 : Ref sig .tc := ⟨.hbm, 76, rfl⟩
abbrev main_call2_cst : Ref sig .tc := ⟨.hbm, 77, rfl⟩
abbrev main_call2_v0 : Ref sig .tc := ⟨.hbm, 78, rfl⟩
abbrev main_v21 : Ref sig .tc := ⟨.hbm, 79, rfl⟩
abbrev main_v22 : Ref sig .tc := ⟨.hbm, 80, rfl⟩
abbrev main_call3_v0 : Ref sig .tc := ⟨.hbm, 81, rfl⟩
abbrev main_call3_call0_cst : Ref sig .tc := ⟨.hbm, 82, rfl⟩
abbrev main_call3_call0_v0 : Ref sig .tc := ⟨.hbm, 83, rfl⟩
abbrev main_call3_call0_v1 : Ref sig .tc := ⟨.hbm, 84, rfl⟩
abbrev main_call3_call0_v2 : Ref sig .tc := ⟨.hbm, 85, rfl⟩
abbrev main_call3_call0_v3 : Ref sig .tc := ⟨.hbm, 86, rfl⟩
abbrev main_call3_call0_v4 : Ref sig .tc := ⟨.hbm, 87, rfl⟩
abbrev main_call3_call0_v5 : Ref sig .tc := ⟨.hbm, 88, rfl⟩
abbrev main_call3_call0_v6 : Ref sig .tc := ⟨.hbm, 89, rfl⟩
abbrev main_call3_call0_v7 : Ref sig .tc := ⟨.hbm, 90, rfl⟩
abbrev main_call3_call0_v8 : Ref sig .tc := ⟨.hbm, 91, rfl⟩
abbrev main_call3_call0_v9 : Ref sig .tc := ⟨.hbm, 92, rfl⟩
abbrev main_call3_call0_v10 : Ref sig .tc := ⟨.hbm, 93, rfl⟩
abbrev main_call3_call0_v11 : Ref sig .tc := ⟨.hbm, 94, rfl⟩
abbrev main_call3_v1_0 : Ref sig .tc := ⟨.hbm, 95, rfl⟩
abbrev main_call3_call0_cst_0 : Ref sig .tc := ⟨.hbm, 96, rfl⟩
abbrev main_call3_call0_v13 : Ref sig .tc := ⟨.hbm, 97, rfl⟩
abbrev main_call3_call0_v14 : Ref sig .tc := ⟨.hbm, 98, rfl⟩
abbrev main_call3_call0_cst_1 : Ref sig .tc := ⟨.hbm, 99, rfl⟩
abbrev main_call3_call0_v15 : Ref sig .tc := ⟨.hbm, 100, rfl⟩
abbrev main_call3_call0_v16 : Ref sig .tc := ⟨.hbm, 101, rfl⟩
abbrev main_call3_call0_cst_2 : Ref sig .tc := ⟨.hbm, 102, rfl⟩
abbrev main_call3_call0_v17 : Ref sig .tc := ⟨.hbm, 103, rfl⟩
abbrev main_call3_call0_v18 : Ref sig .tc := ⟨.hbm, 104, rfl⟩
abbrev main_call3_call0_cst_3 : Ref sig .tc := ⟨.hbm, 105, rfl⟩
abbrev main_call3_call0_v19 : Ref sig .tc := ⟨.hbm, 106, rfl⟩
abbrev main_call3_call0_v20 : Ref sig .tc := ⟨.hbm, 107, rfl⟩
abbrev main_call3_call0_v21 : Ref sig .tc := ⟨.hbm, 108, rfl⟩
abbrev main_v23_1 : Ref sig .tc := ⟨.hbm, 109, rfl⟩
abbrev main_call3_call0_cst_4 : Ref sig .tc := ⟨.hbm, 110, rfl⟩
abbrev main_call3_call0_cst_5 : Ref sig .tc := ⟨.hbm, 111, rfl⟩
abbrev main_call3_call0_v23 : Ref sig .tc := ⟨.hbm, 112, rfl⟩
abbrev main_call3_call0_cst_6 : Ref sig .tc := ⟨.hbm, 113, rfl⟩
abbrev main_call3_call0_cst_7 : Ref sig .tc := ⟨.hbm, 114, rfl⟩
abbrev main_call3_call0_v24 : Ref sig .tc := ⟨.hbm, 115, rfl⟩
abbrev main_call3_call0_cst_8 : Ref sig .tc := ⟨.hbm, 116, rfl⟩
abbrev main_call3_call0_v25 : Ref sig .tc := ⟨.hbm, 117, rfl⟩
abbrev main_call3_call0_v26 : Ref sig .tc := ⟨.hbm, 118, rfl⟩
abbrev main_call3_call0_cst_9 : Ref sig .tc := ⟨.hbm, 119, rfl⟩
abbrev main_call3_call0_v27 : Ref sig .tc := ⟨.hbm, 120, rfl⟩
abbrev main_call3_call0_v28 : Ref sig .tc := ⟨.hbm, 121, rfl⟩
abbrev main_call3_call0_v29 : Ref sig .tc := ⟨.hbm, 122, rfl⟩
abbrev main_call3_call0_v30 : Ref sig .tc := ⟨.hbm, 123, rfl⟩
abbrev main_call3_call0_v31 : Ref sig .tc := ⟨.hbm, 124, rfl⟩
abbrev main_call3_call0_cst_10 : Ref sig .tc := ⟨.hbm, 125, rfl⟩
abbrev main_call3_call0_v32 : Ref sig .tc := ⟨.hbm, 126, rfl⟩
abbrev main_v23_2 : Ref sig .tc := ⟨.hbm, 127, rfl⟩
abbrev main_v23_0 : Ref sig .tc := ⟨.hbm, 128, rfl⟩
abbrev main_v24 : Ref sig .tc := ⟨.hbm, 129, rfl⟩
abbrev main_v25 : Ref sig .tc := ⟨.hbm, 130, rfl⟩
abbrev main_cst_1 : Ref sig .tc := ⟨.hbm, 131, rfl⟩
abbrev main_call4_v0 : Ref sig .tc := ⟨.hbm, 132, rfl⟩
abbrev main_v26_1 : Ref sig .tc := ⟨.hbm, 133, rfl⟩
abbrev main_call4_v2 : Ref sig .tc := ⟨.hbm, 134, rfl⟩
abbrev main_v26_0 : Ref sig .tc := ⟨.hbm, 135, rfl⟩
abbrev main_call4_cst : Ref sig .tc := ⟨.hbm, 136, rfl⟩
abbrev main_v26_2 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_call5_cst : Ref sig .tc := ⟨.hbm, 146, rfl⟩
abbrev main_call5_v0 : Ref sig .tc := ⟨.hbm, 147, rfl⟩
abbrev main_v35 : Ref sig .tc := ⟨.hbm, 148, rfl⟩
abbrev main_v36 : Ref sig .tc := ⟨.hbm, 149, rfl⟩
abbrev main_call6_v0 : Ref sig .tc := ⟨.hbm, 150, rfl⟩
abbrev main_call6_v1 : Ref sig .tc := ⟨.hbm, 151, rfl⟩
abbrev main_v37 : Ref sig .tc := ⟨.hbm, 152, rfl⟩
abbrev main_v38 : Ref sig .tc := ⟨.hbm, 153, rfl⟩
abbrev main_call7_cst : Ref sig .tc := ⟨.hbm, 154, rfl⟩
abbrev main_call7_v0 : Ref sig .tc := ⟨.hbm, 155, rfl⟩
abbrev main_v39 : Ref sig .tc := ⟨.hbm, 156, rfl⟩
abbrev main_v40 : Ref sig .tc := ⟨.hbm, 157, rfl⟩
abbrev main_call8_cst : Ref sig .tc := ⟨.hbm, 158, rfl⟩
abbrev main_call8_v0 : Ref sig .tc := ⟨.hbm, 159, rfl⟩
abbrev main_v41 : Ref sig .tc := ⟨.hbm, 160, rfl⟩
abbrev main_call9_v0 : Ref sig .tc := ⟨.hbm, 161, rfl⟩
abbrev main_call9_v1 : Ref sig .tc := ⟨.hbm, 162, rfl⟩
abbrev main_v42 : Ref sig .tc := ⟨.hbm, 163, rfl⟩
abbrev main_v43 : Ref sig .tc := ⟨.hbm, 164, rfl⟩
abbrev main_v44 : Ref sig .tc := ⟨.hbm, 165, rfl⟩
abbrev main_cst_2 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_c : Ref sig .tc := ⟨.hbm, 177, rfl⟩
abbrev main_call10_v0 : Ref sig .tc := ⟨.hbm, 178, rfl⟩
abbrev main_v55 : Ref sig .tc := ⟨.hbm, 179, rfl⟩
abbrev main_v56 : Ref sig .tc := ⟨.hbm, 180, rfl⟩
abbrev main_v57 : Ref sig .tc := ⟨.hbm, 181, rfl⟩
abbrev main_c_3 : Ref sig .tc := ⟨.hbm, 182, rfl⟩
abbrev main_call11_v0 : Ref sig .tc := ⟨.hbm, 183, rfl⟩
abbrev main_v58 : Ref sig .tc := ⟨.hbm, 184, rfl⟩
abbrev main_v59 : Ref sig .tc := ⟨.hbm, 185, rfl⟩
abbrev main_v60 : Ref sig .tc := ⟨.hbm, 186, rfl⟩
abbrev main_c_4 : Ref sig .tc := ⟨.hbm, 187, rfl⟩
abbrev main_call12_v0 : Ref sig .tc := ⟨.hbm, 188, rfl⟩
abbrev main_v61 : Ref sig .tc := ⟨.hbm, 189, rfl⟩
abbrev main_v62 : Ref sig .tc := ⟨.hbm, 190, rfl⟩
abbrev main_v63 : Ref sig .tc := ⟨.hbm, 191, rfl⟩

abbrev nD : Nat := 1
abbrev τ : Topo := Topo.v7x

variable {F : FTy → Type} [FloatOps F]
-- ==== Kernel2.lean ====
abbrev S8448x1024 : Shape := ⟨2, ![8448, 1024]⟩
abbrev S2816x1024 : Shape := ⟨2, ![2816, 1024]⟩
abbrev S8448x2816 : Shape := ⟨2, ![8448, 2816]⟩
abbrev S528x1024 : Shape := ⟨2, ![528, 1024]⟩
abbrev S1408x1024 : Shape := ⟨2, ![1408, 1024]⟩
abbrev S528x1408 : Shape := ⟨2, ![528, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8448x1024, .bf16⟩
  | .hbm, ⟨1, _⟩ => ⟨S2816x1024, .bf16⟩
  | .hbm, ⟨2, _⟩ => ⟨S8448x2816, .bf16⟩
  | .hbm, ⟨3, _⟩ => ⟨S8448x2816, .bf16⟩
  | .hbm, ⟨4, _⟩ => ⟨S8448x2816, .bf16⟩
  | .hbm, ⟨5, _⟩ => ⟨S8448x2816, .bf16⟩
  | .local _ .vmem, ⟨0, _⟩ => ⟨S528x1024, .bf16⟩
  | .local _ .vmem, ⟨1, _⟩ => ⟨S528x1024, .bf16⟩
  | .local _ .vmem, ⟨2, _⟩ => ⟨S1408x1024, .bf16⟩
  | .local _ .vmem, ⟨3, _⟩ => ⟨S1408x1024, .bf16⟩
  | .local _ .vmem, ⟨4, _⟩ => ⟨S528x1408, .bf16⟩
  | .local _ .vmem, ⟨5, _⟩ => ⟨S528x1408, .bf16⟩
  | .local _ .vmem, ⟨6, _⟩ => ⟨S528x1408, .bf16⟩
  | .local _ .vmem, ⟨7, _⟩ => ⟨S528x1408, .bf16⟩
  | .local _ .vmem, ⟨8, _⟩ => ⟨S528x1408, .bf16⟩
  | .local _ .vmem, ⟨9, _⟩ => ⟨S528x1408, .bf16⟩
  | .local _ .vmem, ⟨10, _⟩ => ⟨S528x1408, .bf16⟩
  | .local _ .vmem, ⟨11, _⟩ => ⟨S528x1408, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S528x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S528x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S528x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S528x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S528x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8448x1024 : Shape := ⟨2, ![8448, 1024]⟩
abbrev S2816x1024 : Shape := ⟨2, ![2816, 1024]⟩
abbrev S8448x2816 : Shape := ⟨2, ![8448, 2816]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S2816x1024, .bf16⟩
  | .hbm, ⟨2, _⟩ => ⟨S8448x2816, .bf16⟩
  | .hbm, ⟨3, _⟩ => ⟨S8448x2816, .bf16⟩
  | .hbm, ⟨4, _⟩ => ⟨S8448x2816, .f32⟩
  | .hbm, ⟨5, _⟩ => ⟨S8448x2816, .f32⟩
  | .hbm, ⟨6, _⟩ => ⟨S8448x2816, .f32⟩
  | .hbm, ⟨7, _⟩ => ⟨S8448x2816, .f32⟩
  | .hbm, ⟨8, _⟩ => ⟨S_, .f32⟩
  | .hbm, ⟨9, _⟩ => ⟨S8448x2816, .f32⟩
  | .hbm, ⟨10, _⟩ => ⟨S8448x2816, .f32⟩
  | .hbm, ⟨11, _⟩ => ⟨S_, .f32⟩
  | .hbm, ⟨12, _⟩ => ⟨S8448x2816, .f32⟩
  | .hbm, ⟨13, _⟩ => ⟨S8448x2816, .f32⟩
  | .hbm, ⟨14, _⟩ => ⟨S_, .f32⟩
  | .hbm, ⟨15, _⟩ => ⟨S8448x2816, .f32⟩
  | .hbm, ⟨16, _⟩ => ⟨S8448x2816, .f32⟩
  | .hbm, ⟨17, _⟩ => ⟨S8448x2816, .f32⟩
  | .hbm, ⟨18, _⟩ => ⟨S8448x2816, .f32⟩
  | .hbm, ⟨19, _⟩ => ⟨S8448x2816, .f32⟩
  | .hbm, ⟨20, _⟩ => ⟨S2816x1024, .f32⟩
  | .hbm, ⟨21, _⟩ => ⟨S8448x1024, .f32⟩
  | .hbm, ⟨22, _⟩ => ⟨S_, .f32⟩
  | .hbm, ⟨23, _⟩ => ⟨S8448x1024, .f32⟩
  | .hbm, ⟨24, _⟩ => ⟨S8448x1024, .f32⟩
  | .hbm, ⟨25, _⟩ => ⟨S8448x1024, .f32⟩
  | .hbm, ⟨26, _⟩ => ⟨S_, .f32⟩
  | .hbm, ⟨27, _⟩ => ⟨S8448x1024, .f32⟩
  | .hbm, ⟨28, _⟩ => ⟨S8448x1024, .f32⟩
  | .hbm, ⟨29, _⟩ => ⟨S8448x2816, .f32⟩
  | .hbm, ⟨30, _⟩ => ⟨S8448x2816, .f32⟩
  | .hbm, ⟨31, _⟩ => ⟨S8448x2816, .f32⟩
  | .hbm, ⟨32, _⟩ => ⟨S8448x2816, .f32⟩
  | .hbm, ⟨33, _⟩ => ⟨S8448x2816, .f32⟩
  | .hbm, ⟨34, _⟩ => ⟨S8448x2816, .f32⟩
  | .hbm, ⟨35, _⟩ => ⟨S8448x2816, .f32⟩
  | .hbm, ⟨36, _⟩ => ⟨S8448x2816, .bf16⟩
  | .hbm, ⟨37, _⟩ => ⟨S8448x2816, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩

abbrev nD : Nat := 1
abbrev τ : Topo := Topo.v7x

variable {F : FTy → Type} [FloatOps F]
-- ==== Kernel3.lean ====
abbrev S8448x2816 : Shape := ⟨2, ![8448, 2816]⟩
abbrev S8448x1024 : Shape := ⟨2, ![8448, 1024]⟩
abbrev S2816x1024 : Shape := ⟨2, ![2816, 1024]⟩
abbrev S1056x1408 : Shape := ⟨2, ![1056, 1408]⟩
abbrev S1056x1024 : Shape := ⟨2, ![1056, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S2816x1024, .f32⟩
  | .local _ .vmem, ⟨0, _⟩ => ⟨S1056x1408, .bf16⟩
  | .local _ .vmem, ⟨1, _⟩ => ⟨S1056x1408, .bf16⟩
  | .local _ .vmem, ⟨2, _⟩ => ⟨S1056x1024, .bf16⟩
  | .local _ .vmem, ⟨3, _⟩ => ⟨S1056x1024, .bf16⟩
  | .local _ .vmem, ⟨4, _⟩ => ⟨S1408x1024, .f32⟩
  | .local _ .vmem, ⟨5, _⟩ => ⟨S1408x1024, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1056x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8448x2816 : Shape := ⟨2, ![8448, 2816]⟩
abbrev S8448x1024 : Shape := ⟨2, ![8448, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S_, .f32⟩
  | .hbm, ⟨3, _⟩ => ⟨S2816x1024, .f32⟩
  | .hbm, ⟨4, _⟩ => ⟨S8448x2816, .f32⟩
  | .hbm, ⟨5, _⟩ => ⟨S8448x1024, .f32⟩
  | .hbm, ⟨6, _⟩ => ⟨S_, .f32⟩
  | .hbm, ⟨7, _⟩ => ⟨S8448x1024, .f32⟩
  | .hbm, ⟨8, _⟩ => ⟨S8448x1024, .f32⟩
  | .hbm, ⟨9, _⟩ => ⟨S8448x1024, .f32⟩
  | .hbm, ⟨10, _⟩ => ⟨S_, .f32⟩
  | .hbm, ⟨11, _⟩ => ⟨S8448x1024, .f32⟩
  | .hbm, ⟨12, _⟩ => ⟨S8448x1024, .f32⟩
  | .hbm, ⟨13, _⟩ => ⟨S1024x2816, .f32⟩
  | .hbm, ⟨14, _⟩ => ⟨S2816x1024, .f32⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel4.lean ====
abbrev S8448x2816 : Shape := ⟨2, ![8448, 2816]⟩
abbrev S8448x1024 : Shape := ⟨2, ![8448, 1024]⟩
abbrev S2816x1024 : Shape := ⟨2, ![2816, 1024]⟩
abbrev S1056x1408 : Shape := ⟨2, ![1056, 1408]⟩
abbrev S1056x1024 : Shape := ⟨2, ![1056, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S2816x1024, .f32⟩
  | .local _ .vmem, ⟨0, _⟩ => ⟨S1056x1408, .bf16⟩
  | .local _ .vmem, ⟨1, _⟩ => ⟨S1056x1408, .bf16⟩
  | .local _ .vmem, ⟨2, _⟩ => ⟨S1056x1024, .bf16⟩
  | .local _ .vmem, ⟨3, _⟩ => ⟨S1056x1024, .bf16⟩
  | .local _ .vmem, ⟨4, _⟩ => ⟨S1408x1024, .f32⟩
  | .local _ .vmem, ⟨5, _⟩ => ⟨S1408x1024, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1056x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8448x2816 : Shape := ⟨2, ![8448, 2816]⟩
abbrev S8448x1024 : Shape := ⟨2, ![8448, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S_, .f32⟩
  | .hbm, ⟨3, _⟩ => ⟨S2816x1024, .f32⟩
  | .hbm, ⟨4, _⟩ => ⟨S8448x1024, .f32⟩
  | .hbm, ⟨5, _⟩ => ⟨S1024x2816, .f32⟩
  | .hbm, ⟨6, _⟩ => ⟨S8448x2816, .f32⟩
  | .hbm, ⟨7, _⟩ => ⟨S8448x2816, .f32⟩
  | .hbm, ⟨8, _⟩ => ⟨S2816x1024, .f32⟩
  | .hbm, ⟨9, _⟩ => ⟨S1024x2816, .f32⟩
  | .hbm, ⟨10, _⟩ => ⟨S2816x1024, .f32⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S8448x2816 : Shape := ⟨2, ![8448, 2816]⟩
abbrev S5632x1024 : Shape := ⟨2, ![5632, 1024]⟩
abbrev S8448x1024 : Shape := ⟨2, ![8448, 1024]⟩
abbrev S352x2816 : Shape := ⟨2, ![352, 2816]⟩
abbrev S2816x1024 : Shape := ⟨2, ![2816, 1024]⟩
abbrev S352x1024 : Shape := ⟨2, ![352, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8448x2816, .bf16⟩
  | .hbm, ⟨1, _⟩ => ⟨S8448x2816, .bf16⟩
  | .hbm, ⟨2, _⟩ => ⟨S5632x1024, .bf16⟩
  | .hbm, ⟨3, _⟩ => ⟨S8448x1024, .f32⟩
  | .local _ .vmem, ⟨0, _⟩ => ⟨S352x2816, .bf16⟩
  | .local _ .vmem, ⟨1, _⟩ => ⟨S352x2816, .bf16⟩
  | .local _ .vmem, ⟨2, _⟩ => ⟨S2816x1024, .bf16⟩
  | .local _ .vmem, ⟨3, _⟩ => ⟨S352x2816, .bf16⟩
  | .local _ .vmem, ⟨4, _⟩ => ⟨S352x2816, .bf16⟩
  | .local _ .vmem, ⟨5, _⟩ => ⟨S2816x1024, .bf16⟩
  | .local _ .vmem, ⟨6, _⟩ => ⟨S352x1024, .f32⟩
  | .local _ .vmem, ⟨7, _⟩ => ⟨S352x1024, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![24, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S352x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S352x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S8448x2816 : Shape := ⟨2, ![8448, 2816]⟩
abbrev S5632x1024 : Shape := ⟨2, ![5632, 1024]⟩
abbrev S_ : Shape := ⟨0, ![]⟩
abbrev S8448x1024 : Shape := ⟨2, ![8448, 1024]⟩
abbrev S1024x5632 : Shape := ⟨2, ![1024, 5632]⟩
abbrev S8448x5632 : Shape := ⟨2, ![8448, 5632]⟩

abbrev nBuf : Space → Nat
  | .hbm => 14
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S8448x2816, .bf16⟩
  | .hbm, ⟨2, _⟩ => ⟨S5632x1024, .bf16⟩
  | .hbm, ⟨3, _⟩ => ⟨S_, .f32⟩
  | .hbm, ⟨4, _⟩ => ⟨S8448x1024, .f32⟩
  | .hbm, ⟨5, _⟩ => ⟨S5632x1024, .f32⟩
  | .hbm, ⟨6, _⟩ => ⟨S1024x5632, .f32⟩
  | .hbm, ⟨7, _⟩ => ⟨S8448x5632, .f32⟩
  | .hbm, ⟨8, _⟩ => ⟨S8448x2816, .f32⟩
  | .hbm, ⟨9, _⟩ => ⟨S8448x2816, .f32⟩
  | .hbm, ⟨10, _⟩ => ⟨S8448x2816, .f32⟩
  | .hbm, ⟨11, _⟩ => ⟨S8448x2816, .f32⟩
  | .hbm, ⟨12, _⟩ => ⟨S8448x5632, .f32⟩
  | .hbm, ⟨13, _⟩ => ⟨S8448x1024, .f32⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel6.lean ====
abbrev S8448x1024 : Shape := ⟨2, ![8448, 1024]⟩
abbrev S5632x1024 : Shape := ⟨2, ![5632, 1024]⟩
abbrev S8448x2816 : Shape := ⟨2, ![8448, 2816]⟩
abbrev S528x1024 : Shape := ⟨2, ![528, 1024]⟩
abbrev S1408x1024 : Shape := ⟨2, ![1408, 1024]⟩
abbrev S528x1408 : Shape := ⟨2, ![528, 1408]⟩

abbrev nBuf : Space → Nat
  | .hbm => 5
  | .vmem => 12
  | .smem => 0
  | _ => 0

abbrev bufTy : (tb : Table) → Fin (tcTables nBuf tb) → BufTy
  | .hbm, ⟨0, _⟩ => ⟨S8448x1024, .bf16⟩
  | .hbm, ⟨1, _⟩ => ⟨S5632x1024, .bf16⟩
  | .hbm, ⟨2, _⟩ => ⟨S8448x2816, .bf16⟩
  | .hbm, ⟨3, _⟩ => ⟨S8448x2816, .bf16⟩
  | .hbm, ⟨4, _⟩ => ⟨S8448x2816, .bf16⟩
  | .local _ .vmem, ⟨0, _⟩ => ⟨S528x1024, .bf16⟩
  | .local _ .vmem, ⟨1, _⟩ => ⟨S528x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S528x1408, .bf16⟩
  | .local _ .vmem, ⟨7, _⟩ => ⟨S528x1408, .bf16⟩
  | .local _ .vmem, ⟨8, _⟩ => ⟨S528x1408, .bf16⟩
  | .local _ .vmem, ⟨9, _⟩ => ⟨S528x1408, .bf16⟩
  | .local _ .vmem, ⟨10, _⟩ => ⟨S528x1408, .bf16⟩
  | .local _ .vmem, ⟨11, _⟩ => ⟨S528x1408, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S528x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S528x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S528x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S528x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S8448x1024 : Shape := ⟨2, ![8448, 1024]⟩
abbrev S5632x1024 : Shape := ⟨2, ![5632, 1024]⟩
abbrev S1024x5632 : Shape := ⟨2, ![1024, 5632]⟩
abbrev S8448x5632 : Shape := ⟨2, ![8448, 5632]⟩
abbrev S8448x2816 : Shape := ⟨2, ![8448, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S5632x1024, .bf16⟩
  | .hbm, ⟨2, _⟩ => ⟨S8448x1024, .f32⟩
  | .hbm, ⟨3, _⟩ => ⟨S5632x1024, .f32⟩
  | .hbm, ⟨4, _⟩ => ⟨S1024x5632, .f32⟩
  | .hbm, ⟨5, _⟩ => ⟨S8448x5632, .f32⟩
  | .hbm, ⟨6, _⟩ => ⟨S8448x2816, .f32⟩
  | .hbm, ⟨7, _⟩ => ⟨S8448x2816, .f32⟩
  | .hbm, ⟨8, _⟩ => ⟨S8448x2816, .bf16⟩
  | .hbm, ⟨9, _⟩ => ⟨S8448x2816, .bf16⟩
  | .hbm, ⟨10, _⟩ => ⟨S8448x2816, .f32⟩
  | .hbm, ⟨11, _⟩ => ⟨S8448x2816, .f32⟩
  | .hbm, ⟨12, _⟩ => ⟨S_, .f32⟩
  | .hbm, ⟨13, _⟩ => ⟨S8448x2816, .f32⟩
  | .hbm, ⟨14, _⟩ => ⟨S8448x2816, .f32⟩
  | .hbm, ⟨15, _⟩ => ⟨S_, .f32⟩
  | .hbm, ⟨16, _⟩ => ⟨S8448x2816, .f32⟩
  | .hbm, ⟨17, _⟩ => ⟨S8448x2816, .f32⟩
  | .hbm, ⟨18, _⟩ => ⟨S8448x2816, .f32⟩
  | .hbm, ⟨19, _⟩ => ⟨S8448x2816, .f32⟩
  | .hbm, ⟨20, _⟩ => ⟨S8448x2816, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== Kernel7.lean ====
abbrev S8448x2816 : Shape := ⟨2, ![8448, 2816]⟩
abbrev S2816x1024 : Shape := ⟨2, ![2816, 1024]⟩
abbrev S8448x1024 : Shape := ⟨2, ![8448, 1024]⟩
abbrev S528x2816 : Shape := ⟨2, ![528, 2816]⟩
abbrev S528x1024 : Shape := ⟨2, ![528, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8448x2816, .bf16⟩
  | .hbm, ⟨1, _⟩ => ⟨S2816x1024, .bf16⟩
  | .hbm, ⟨2, _⟩ => ⟨S8448x1024, .f32⟩
  | .hbm, ⟨3, _⟩ => ⟨S8448x1024, .f32⟩
  | .local _ .vmem, ⟨0, _⟩ => ⟨S528x2816, .bf16⟩
  | .local _ .vmem, ⟨1, _⟩ => ⟨S528x2816, .bf16⟩
  | .local _ .vmem, ⟨2, _⟩ => ⟨S2816x1024, .bf16⟩
  | .local _ .vmem, ⟨3, _⟩ => ⟨S528x1024, .f32⟩
  | .local _ .vmem, ⟨4, _⟩ => ⟨S528x1024, .f32⟩
  | .local _ .vmem, ⟨5, _⟩ => ⟨S528x1024, .f32⟩
  | .local _ .vmem, ⟨6, _⟩ => ⟨S528x1024, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S528x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S528x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S528x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8448x2816 : Shape := ⟨2, ![8448, 2816]⟩
abbrev S2816x1024 : Shape := ⟨2, ![2816, 1024]⟩
abbrev S8448x1024 : Shape := ⟨2, ![8448, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S2816x1024, .bf16⟩
  | .hbm, ⟨2, _⟩ => ⟨S8448x1024, .f32⟩
  | .hbm, ⟨3, _⟩ => ⟨S8448x2816, .f32⟩
  | .hbm, ⟨4, _⟩ => ⟨S2816x1024, .f32⟩
  | .hbm, ⟨5, _⟩ => ⟨S8448x1024, .f32⟩
  | .hbm, ⟨6, _⟩ => ⟨S_, .f32⟩
  | .hbm, ⟨7, _⟩ => ⟨S8448x1024, .f32⟩
  | .hbm, ⟨8, _⟩ => ⟨S8448x1024, .f32⟩
  | .hbm, ⟨9, _⟩ => ⟨S8448x1024, .f32⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel8.lean ====
abbrev S8448x1024 : Shape := ⟨2, ![8448, 1024]⟩
abbrev S6144x1024 : Shape := ⟨2, ![6144, 1024]⟩
abbrev S8448x6144 : Shape := ⟨2, ![8448, 6144]⟩
abbrev S1056x1024 : Shape := ⟨2, ![1056, 1024]⟩
abbrev S512x1024 : Shape := ⟨2, ![512, 1024]⟩
abbrev S1056x512 : Shape := ⟨2, ![1056, 512]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S6144x1024, .bf16⟩
  | .hbm, ⟨2, _⟩ => ⟨S8448x6144, .f32⟩
  | .local _ .vmem, ⟨0, _⟩ => ⟨S1056x1024, .bf16⟩
  | .local _ .vmem, ⟨1, _⟩ => ⟨S1056x1024, .bf16⟩
  | .local _ .vmem, ⟨2, _⟩ => ⟨S512x1024, .bf16⟩
  | .local _ .vmem, ⟨3, _⟩ => ⟨S512x1024, .bf16⟩
  | .local _ .vmem, ⟨4, _⟩ => ⟨S1056x512, .f32⟩
  | .local _ .vmem, ⟨5, _⟩ => ⟨S1056x512, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S8448x1024 : Shape := ⟨2, ![8448, 1024]⟩
abbrev S6144x1024 : Shape := ⟨2, ![6144, 1024]⟩
abbrev S1024x6144 : Shape := ⟨2, ![1024, 6144]⟩
abbrev S8448x6144 : Shape := ⟨2, ![8448, 6144]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S6144x1024, .bf16⟩
  | .hbm, ⟨2, _⟩ => ⟨S8448x1024, .f32⟩
  | .hbm, ⟨3, _⟩ => ⟨S6144x1024, .f32⟩
  | .hbm, ⟨4, _⟩ => ⟨S1024x6144, .f32⟩
  | .hbm, ⟨5, _⟩ => ⟨S8448x6144, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S8448x6144 : Shape := ⟨2, ![8448, 6144]⟩
abbrev S6144x1024 : Shape := ⟨2, ![6144, 1024]⟩
abbrev S8448x1024 : Shape := ⟨2, ![8448, 1024]⟩
abbrev S352x6144 : Shape := ⟨2, ![352, 6144]⟩
abbrev S352x1024 : Shape := ⟨2, ![352, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x6144, .bf16⟩
  | .hbm, ⟨1, _⟩ => ⟨S6144x1024, .bf16⟩
  | .hbm, ⟨2, _⟩ => ⟨S8448x1024, .f32⟩
  | .local _ .vmem, ⟨0, _⟩ => ⟨S352x6144, .bf16⟩
  | .local _ .vmem, ⟨1, _⟩ => ⟨S352x6144, .bf16⟩
  | .local _ .vmem, ⟨2, _⟩ => ⟨S6144x1024, .bf16⟩
  | .local _ .vmem, ⟨3, _⟩ => ⟨S352x1024, .f32⟩
  | .local _ .vmem, ⟨4, _⟩ => ⟨S352x1024, .f32⟩
  | _, _ => ⟨S8448x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![24, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S352x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S6144x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S8448x6144 : Shape := ⟨2, ![8448, 6144]⟩
abbrev S6144x1024 : Shape := ⟨2, ![6144, 1024]⟩
abbrev S_ : Shape := ⟨0, ![]⟩
abbrev S8448x1024 : Shape := ⟨2, ![8448, 1024]⟩
abbrev S1024x6144 : Shape := ⟨2, ![1024, 6144]⟩

abbrev nBuf : Space → Nat
  | .hbm => 9
  | .vmem => 0
  | .smem => 0
  | _ => 0

abbrev bufTy : (tb : Table) → Fin (tcTables nBuf tb) → BufTy
  | .hbm, ⟨0, _⟩ => ⟨S8448x6144, .bf16⟩
  | .hbm, ⟨1, _⟩ => ⟨S6144x1024, .bf16⟩
  | .hbm, ⟨2, _⟩ => ⟨S_, .f32⟩
  | .hbm, ⟨3, _⟩ => ⟨S8448x1024, .f32⟩
  | .hbm, ⟨4, _⟩ => ⟨S6144x1024, .f32⟩
  | .hbm, ⟨5, _⟩ => ⟨S1024x6144, .f32⟩
  | .hbm, ⟨6, _⟩ => ⟨S8448x6144, .f32⟩
  | .hbm, ⟨7, _⟩ => ⟨S8448x6144, .f32⟩
  | .hbm, ⟨8, _⟩ => ⟨S8448x1024, .f32⟩
  | _, _ => ⟨S8448x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8448x6144 : Shape := ⟨2, ![8448, 6144]⟩
abbrev S8448x1024 : Shape := ⟨2, ![8448, 1024]⟩
abbrev S6144x1024 : Shape := ⟨2, ![6144, 1024]⟩
abbrev S1056x1536 : Shape := ⟨2, ![1056, 1536]⟩
abbrev S1056x1024 : Shape := ⟨2, ![1056, 1024]⟩
abbrev S1536x1024 : Shape := ⟨2, ![1536, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x6144, .bf16⟩
  | .hbm, ⟨1, _⟩ => ⟨S8448x1024, .bf16⟩
  | .hbm, ⟨2, _⟩ => ⟨S6144x1024, .f32⟩
  | .local _ .vmem, ⟨0, _⟩ => ⟨S1056x1536, .bf16⟩
  | .local _ .vmem, ⟨1, _⟩ => ⟨S1056x1536, .bf16⟩
  | .local _ .vmem, ⟨2, _⟩ => ⟨S1056x1024, .bf16⟩
  | .local _ .vmem, ⟨3, _⟩ => ⟨S1056x1024, .bf16⟩
  | .local _ .vmem, ⟨4, _⟩ => ⟨S1536x1024, .f32⟩
  | .local _ .vmem, ⟨5, _⟩ => ⟨S1536x1024, .f32⟩
  | _, _ => ⟨S8448x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1056x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8448x6144 : Shape := ⟨2, ![8448, 6144]⟩
abbrev S8448x1024 : Shape := ⟨2, ![8448, 1024]⟩
abbrev S_ : Shape := ⟨0, ![]⟩
abbrev S6144x1024 : Shape := ⟨2, ![6144, 1024]⟩
abbrev S1024x6144 : Shape := ⟨2, ![1024, 6144]⟩

abbrev nBuf : Space → Nat
  | .hbm => 11
  | .vmem => 0
  | .smem => 0
  | _ => 0

abbrev bufTy : (tb : Table) → Fin (tcTables nBuf tb) → BufTy
  | .hbm, ⟨0, _⟩ => ⟨S8448x6144, .bf16⟩
  | .hbm, ⟨1, _⟩ => ⟨S8448x1024, .bf16⟩
  | .hbm, ⟨2, _⟩ => ⟨S_, .f32⟩
  | .hbm, ⟨3, _⟩ => ⟨S6144x1024, .f32⟩
  | .hbm, ⟨4, _⟩ => ⟨S8448x1024, .f32⟩
  | .hbm, ⟨5, _⟩ => ⟨S1024x6144, .f32⟩
  | .hbm, ⟨6, _⟩ => ⟨S8448x6144, .f32⟩
  | .hbm, ⟨7, _⟩ => ⟨S8448x6144, .f32⟩
  | .hbm, ⟨8, _⟩ => ⟨S6144x1024, .f32⟩
  | .hbm, ⟨9, _⟩ => ⟨S1024x6144, .f32⟩
  | .hbm, ⟨10, _⟩ => ⟨S6144x1024, .f32⟩
  | _, _ => ⟨S8448x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S8448x1024 : Shape := ⟨2, ![8448, 1024]⟩
abbrev S1024x1024 : Shape := ⟨2, ![1024, 1024]⟩
abbrev S528x1024 : Shape := ⟨2, ![528, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .hbm, ⟨3, _⟩ => ⟨S8448x1024, .f32⟩
  | .local _ .vmem, ⟨0, _⟩ => ⟨S528x1024, .bf16⟩
  | .local _ .vmem, ⟨1, _⟩ => ⟨S528x1024, .bf16⟩
  | .local _ .vmem, ⟨2, _⟩ => ⟨S1024x1024, .bf16⟩
  | .local _ .vmem, ⟨3, _⟩ => ⟨S528x1024, .f32⟩
  | .local _ .vmem, ⟨4, _⟩ => ⟨S528x1024, .f32⟩
  | .local _ .vmem, ⟨5, _⟩ => ⟨S528x1024, .f32⟩
  | .local _ .vmem, ⟨6, _⟩ => ⟨S528x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S528x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S528x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S528x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S8448x1024 : Shape := ⟨2, ![8448, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .hbm, ⟨3, _⟩ => ⟨S8448x1024, .f32⟩
  | .hbm, ⟨4, _⟩ => ⟨S1024x1024, .f32⟩
  | .hbm, ⟨5, _⟩ => ⟨S8448x1024, .f32⟩
  | .hbm, ⟨6, _⟩ => ⟨S8448x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S8448x1024 : Shape := ⟨2, ![8448, 1024]⟩
abbrev S1024x1024 : Shape := ⟨2, ![1024, 1024]⟩
abbrev S1056x1024 : Shape := ⟨2, ![1056, 1024]⟩
abbrev S512x1024 : Shape := ⟨2, ![512, 1024]⟩
abbrev S1056x512 : Shape := ⟨2, ![1056, 512]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .local _ .vmem, ⟨0, _⟩ => ⟨S1056x1024, .bf16⟩
  | .local _ .vmem, ⟨1, _⟩ => ⟨S1056x1024, .bf16⟩
  | .local _ .vmem, ⟨2, _⟩ => ⟨S512x1024, .bf16⟩
  | .local _ .vmem, ⟨3, _⟩ => ⟨S512x1024, .bf16⟩
  | .local _ .vmem, ⟨4, _⟩ => ⟨S1056x512, .f32⟩
  | .local _ .vmem, ⟨5, _⟩ => ⟨S1056x512, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S8448x1024 : Shape := ⟨2, ![8448, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S_, .f32⟩
  | .hbm, ⟨3, _⟩ => ⟨S8448x1024, .f32⟩
  | .hbm, ⟨4, _⟩ => ⟨S1024x1024, .f32⟩
  | .hbm, ⟨5, _⟩ => ⟨S8448x1024, .f32⟩
  | .hbm, ⟨6, _⟩ => ⟨S8448x1024, .f32⟩
  | .hbm, ⟨7, _⟩ => ⟨S8448x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8448x1024 : Shape := ⟨2, ![8448, 1024]⟩
abbrev S1024x1024 : Shape := ⟨2, ![1024, 1024]⟩
abbrev S1056x1024 : Shape := ⟨2, ![1056, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1024x1024, .f32⟩
  | .local _ .vmem, ⟨0, _⟩ => ⟨S1056x1024, .bf16⟩
  | .local _ .vmem, ⟨1, _⟩ => ⟨S1056x1024, .bf16⟩
  | .local _ .vmem, ⟨2, _⟩ => ⟨S1056x1024, .bf16⟩
  | .local _ .vmem, ⟨3, _⟩ => ⟨S1056x1024, .bf16⟩
  | .local _ .vmem, ⟨4, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1056x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference13Ideal.lean ====
abbrev S8448x1024 : Shape := ⟨2, ![8448, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S_, .f32⟩
  | .hbm, ⟨3, _⟩ => ⟨S1024x1024, .f32⟩
  | .hbm, ⟨4, _⟩ => ⟨S8448x1024, .f32⟩
  | .hbm, ⟨5, _⟩ => ⟨S8448x1024, .f32⟩
  | .hbm, ⟨6, _⟩ => ⟨S8448x1024, .f32⟩
  | .hbm, ⟨7, _⟩ => ⟨S1024x1024, .f32⟩
  | .hbm, ⟨8, _⟩ => ⟨S1024x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S8448x512 : Shape := ⟨2, ![8448, 512]⟩
abbrev S2048x512 : Shape := ⟨2, ![2048, 512]⟩
abbrev S8448x1024 : Shape := ⟨2, ![8448, 1024]⟩
abbrev S528x512 : Shape := ⟨2, ![528, 512]⟩
abbrev S1024x512 : Shape := ⟨2, ![1024, 512]⟩
abbrev S528x1024 : Shape := ⟨2, ![528, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8448x512, .bf16⟩
  | .hbm, ⟨1, _⟩ => ⟨S2048x512, .bf16⟩
  | .hbm, ⟨2, _⟩ => ⟨S8448x1024, .f32⟩
  | .hbm, ⟨3, _⟩ => ⟨S8448x1024, .f32⟩
  | .hbm, ⟨4, _⟩ => ⟨S8448x1024, .f32⟩
  | .local _ .vmem, ⟨0, _⟩ => ⟨S528x512, .bf16⟩
  | .local _ .vmem, ⟨1, _⟩ => ⟨S528x512, .bf16⟩
  | .local _ .vmem, ⟨2, _⟩ => ⟨S1024x512, .bf16⟩
  | .local _ .vmem, ⟨3, _⟩ => ⟨S1024x512, .bf16⟩
  | .local _ .vmem, ⟨4, _⟩ => ⟨S528x1024, .f32⟩
  | .local _ .vmem, ⟨5, _⟩ => ⟨S528x1024, .f32⟩
  | .local _ .vmem, ⟨6, _⟩ => ⟨S528x1024, .f32⟩
  | .local _ .vmem, ⟨7, _⟩ => ⟨S528x1024, .f32⟩
  | .local _ .vmem, ⟨8, _⟩ => ⟨S528x1024, .f32⟩
  | .local _ .vmem, ⟨9, _⟩ => ⟨S528x1024, .f32⟩
  | _, _ => ⟨S8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S528x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S528x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S528x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S528x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference14Ideal.lean ====
abbrev S8448x512 : Shape := ⟨2, ![8448, 512]⟩
abbrev S2048x512 : Shape := ⟨2, ![2048, 512]⟩
abbrev S512x2048 : Shape := ⟨2, ![512, 2048]⟩
abbrev S8448x2048 : Shape := ⟨2, ![8448, 2048]⟩
abbrev S8448x1024 : Shape := ⟨2, ![8448, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8448x512, .bf16⟩
  | .hbm, ⟨1, _⟩ => ⟨S2048x512, .bf16⟩
  | .hbm, ⟨2, _⟩ => ⟨S8448x512, .f32⟩
  | .hbm, ⟨3, _⟩ => ⟨S2048x512, .f32⟩
  | .hbm, ⟨4, _⟩ => ⟨S512x2048, .f32⟩
  | .hbm, ⟨5, _⟩ => ⟨S8448x2048, .f32⟩
  | .hbm, ⟨6, _⟩ => ⟨S8448x1024, .f32⟩
  | .hbm, ⟨7, _⟩ => ⟨S8448x1024, .f32⟩
  | .hbm, ⟨8, _⟩ => ⟨S8448x1024, .f32⟩
  | .hbm, ⟨9, _⟩ => ⟨S8448x1024, .f32⟩
  | .hbm, ⟨10, _⟩ => ⟨S_, .f32⟩
  | .hbm, ⟨11, _⟩ => ⟨S8448x1024, .f32⟩
  | .hbm, ⟨12, _⟩ => ⟨S8448x1024, .f32⟩
  | .hbm, ⟨13, _⟩ => ⟨S_, .f32⟩
  | .hbm, ⟨14, _⟩ => ⟨S8448x1024, .f32⟩
  | .hbm, ⟨15, _⟩ => ⟨S8448x1024, .f32⟩
  | .hbm, ⟨16, _⟩ => ⟨S8448x1024, .f32⟩
  | _, _ => ⟨S8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel15.lean ====
abbrev S8448x1024 : Shape := ⟨2, ![8448, 1024]⟩
abbrev S2048x512 : Shape := ⟨2, ![2048, 512]⟩
abbrev S8448x512 : Shape := ⟨2, ![8448, 512]⟩
abbrev S528x1024 : Shape := ⟨2, ![528, 1024]⟩
abbrev S1024x512 : Shape := ⟨2, ![1024, 512]⟩
abbrev S528x512 : Shape := ⟨2, ![528, 512]⟩

abbrev nBuf : Space → Nat
  | .hbm => 4
  | .vmem => 8
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S2048x512, .bf16⟩
  | .hbm, ⟨3, _⟩ => ⟨S8448x512, .f32⟩
  | .local _ .vmem, ⟨0, _⟩ => ⟨S528x1024, .bf16⟩
  | .local _ .vmem, ⟨1, _⟩ => ⟨S528x1024, .bf16⟩
  | .local _ .vmem, ⟨2, _⟩ => ⟨S1024x512, .bf16⟩
  | .local _ .vmem, ⟨3, _⟩ => ⟨S528x1024, .bf16⟩
  | .local _ .vmem, ⟨4, _⟩ => ⟨S528x1024, .bf16⟩
  | .local _ .vmem, ⟨5, _⟩ => ⟨S1024x512, .bf16⟩
  | .local _ .vmem, ⟨6, _⟩ => ⟨S528x512, .f32⟩
  | .local _ .vmem, ⟨7, _⟩ => ⟨S528x512, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S528x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S528x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S528x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference15Ideal.lean ====
abbrev S8448x1024 : Shape := ⟨2, ![8448, 1024]⟩
abbrev S2048x512 : Shape := ⟨2, ![2048, 512]⟩
abbrev S_ : Shape := ⟨0, ![]⟩
abbrev S8448x512 : Shape := ⟨2, ![8448, 512]⟩
abbrev S512x2048 : Shape := ⟨2, ![512, 2048]⟩
abbrev S8448x2048 : Shape := ⟨2, ![8448, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S2048x512, .bf16⟩
  | .hbm, ⟨3, _⟩ => ⟨S_, .f32⟩
  | .hbm, ⟨4, _⟩ => ⟨S8448x512, .f32⟩
  | .hbm, ⟨5, _⟩ => ⟨S2048x512, .f32⟩
  | .hbm, ⟨6, _⟩ => ⟨S512x2048, .f32⟩
  | .hbm, ⟨7, _⟩ => ⟨S8448x2048, .f32⟩
  | .hbm, ⟨8, _⟩ => ⟨S8448x1024, .f32⟩
  | .hbm, ⟨9, _⟩ => ⟨S8448x1024, .f32⟩
  | .hbm, ⟨10, _⟩ => ⟨S8448x1024, .f32⟩
  | .hbm, ⟨11, _⟩ => ⟨S8448x1024, .f32⟩
  | .hbm, ⟨12, _⟩ => ⟨S8448x2048, .f32⟩
  | .hbm, ⟨13, _⟩ => ⟨S8448x512, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel16.lean ====
abbrev S8448x1024 : Shape := ⟨2, ![8448, 1024]⟩
abbrev S8448x512 : Shape := ⟨2, ![8448, 512]⟩
abbrev S1024x512 : Shape := ⟨2, ![1024, 512]⟩
abbrev S1056x1024 : Shape := ⟨2, ![1056, 1024]⟩
abbrev S1056x512 : Shape := ⟨2, ![1056, 512]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S8448x512, .bf16⟩
  | .hbm, ⟨2, _⟩ => ⟨S1024x512, .f32⟩
  | .local _ .vmem, ⟨0, _⟩ => ⟨S1056x1024, .bf16⟩
  | .local _ .vmem, ⟨1, _⟩ => ⟨S1056x1024, .bf16⟩
  | .local _ .vmem, ⟨2, _⟩ => ⟨S1056x512, .bf16⟩
  | .local _ .vmem, ⟨3, _⟩ => ⟨S1056x512, .bf16⟩
  | .local _ .vmem, ⟨4, _⟩ => ⟨S1024x512, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1056x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S8448x1024 : Shape := ⟨2, ![8448, 1024]⟩
abbrev S8448x512 : Shape := ⟨2, ![8448, 512]⟩
abbrev S_ : Shape := ⟨0, ![]⟩
abbrev S1024x512 : Shape := ⟨2, ![1024, 512]⟩
abbrev S512x1024 : Shape := ⟨2, ![512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x512, .bf16⟩
  | .hbm, ⟨2, _⟩ => ⟨S_, .f32⟩
  | .hbm, ⟨3, _⟩ => ⟨S1024x512, .f32⟩
  | .hbm, ⟨4, _⟩ => ⟨S8448x512, .f32⟩
  | .hbm, ⟨5, _⟩ => ⟨S512x1024, .f32⟩
  | .hbm, ⟨6, _⟩ => ⟨S8448x1024, .f32⟩
  | .hbm, ⟨7, _⟩ => ⟨S8448x1024, .f32⟩
  | .hbm, ⟨8, _⟩ => ⟨S1024x512, .f32⟩
  | .hbm, ⟨9, _⟩ => ⟨S512x1024, .f32⟩
  | .hbm, ⟨10, _⟩ => ⟨S1024x512, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel17.lean ====
abbrev S8448x512 : Shape := ⟨2, ![8448, 512]⟩
abbrev S1024x512 : Shape := ⟨2, ![1024, 512]⟩
abbrev S8448x1024 : Shape := ⟨2, ![8448, 1024]⟩
abbrev S1056x512 : Shape := ⟨2, ![1056, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8448x512, .bf16⟩
  | .hbm, ⟨1, _⟩ => ⟨S1024x512, .bf16⟩
  | .hbm, ⟨2, _⟩ => ⟨S8448x1024, .f32⟩
  | .local _ .vmem, ⟨0, _⟩ => ⟨S1056x512, .bf16⟩
  | .local _ .vmem, ⟨1, _⟩ => ⟨S1056x512, .bf16⟩
  | .local _ .vmem, ⟨2, _⟩ => ⟨S512x512, .bf16⟩
  | .local _ .vmem, ⟨3, _⟩ => ⟨S512x512, .bf16⟩
  | .local _ .vmem, ⟨4, _⟩ => ⟨S1056x512, .f32⟩
  | .local _ .vmem, ⟨5, _⟩ => ⟨S1056x512, .f32⟩
  | _, _ => ⟨S8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S8448x512 : Shape := ⟨2, ![8448, 512]⟩
abbrev S1024x512 : Shape := ⟨2, ![1024, 512]⟩
abbrev S512x1024 : Shape := ⟨2, ![512, 1024]⟩
abbrev S8448x1024 : Shape := ⟨2, ![8448, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8448x512, .bf16⟩
  | .hbm, ⟨1, _⟩ => ⟨S1024x512, .bf16⟩
  | .hbm, ⟨2, _⟩ => ⟨S8448x512, .f32⟩
  | .hbm, ⟨3, _⟩ => ⟨S1024x512, .f32⟩
  | .hbm, ⟨4, _⟩ => ⟨S512x1024, .f32⟩
  | .hbm, ⟨5, _⟩ => ⟨S8448x1024, .f32⟩
  | _, _ => ⟨S8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S8448x1024 : Shape := ⟨2, ![8448, 1024]⟩
abbrev S1024x512 : Shape := ⟨2, ![1024, 512]⟩
abbrev S8448x512 : Shape := ⟨2, ![8448, 512]⟩
abbrev S528x1024 : Shape := ⟨2, ![528, 1024]⟩
abbrev S528x512 : Shape := ⟨2, ![528, 512]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x512, .bf16⟩
  | .hbm, ⟨2, _⟩ => ⟨S8448x512, .f32⟩
  | .local _ .vmem, ⟨0, _⟩ => ⟨S528x1024, .bf16⟩
  | .local _ .vmem, ⟨1, _⟩ => ⟨S528x1024, .bf16⟩
  | .local _ .vmem, ⟨2, _⟩ => ⟨S1024x512, .bf16⟩
  | .local _ .vmem, ⟨3, _⟩ => ⟨S528x512, .f32⟩
  | .local _ .vmem, ⟨4, _⟩ => ⟨S528x512, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S528x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S528x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference18Ideal.lean ====
abbrev S8448x1024 : Shape := ⟨2, ![8448, 1024]⟩
abbrev S1024x512 : Shape := ⟨2, ![1024, 512]⟩
abbrev S_ : Shape := ⟨0, ![]⟩
abbrev S8448x512 : Shape := ⟨2, ![8448, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x512, .bf16⟩
  | .hbm, ⟨2, _⟩ => ⟨S_, .f32⟩
  | .hbm, ⟨3, _⟩ => ⟨S8448x512, .f32⟩
  | .hbm, ⟨4, _⟩ => ⟨S1024x512, .f32⟩
  | .hbm, ⟨5, _⟩ => ⟨S512x1024, .f32⟩
  | .hbm, ⟨6, _⟩ => ⟨S8448x1024, .f32⟩
  | .hbm, ⟨7, _⟩ => ⟨S8448x1024, .f32⟩
  | .hbm, ⟨8, _⟩ => ⟨S8448x512, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S8448x1024 : Shape := ⟨2, ![8448, 1024]⟩
abbrev S8448x6144 : Shape := ⟨2, ![8448, 6144]⟩
abbrev S528x512 : Shape := ⟨2, ![528, 512]⟩

abbrev nBuf : Space → Nat
  | .hbm => 13
  | .vmem => 30
  | .smem => 0
  | _ => 0

abbrev bufTy : (tb : Table) → Fin (tcTables nBuf tb) → BufTy
  | .hbm, ⟨0, _⟩ => ⟨S8448x1024, .f32⟩
  | .hbm, ⟨1, _⟩ => ⟨S8448x6144, .f32⟩
  | .hbm, ⟨2, _⟩ => ⟨S8448x1024, .f32⟩
  | .hbm, ⟨3, _⟩ => ⟨S8448x1024, .f32⟩
  | .hbm, ⟨4, _⟩ => ⟨S8448x1024, .f32⟩
  | .hbm, ⟨5, _⟩ => ⟨S8448x1024, .f32⟩
  | .hbm, ⟨6, _⟩ => ⟨S8448x1024, .bf16⟩
  | .hbm, ⟨7, _⟩ => ⟨S8448x1024, .bf16⟩
  | .hbm, ⟨8, _⟩ => ⟨S8448x1024, .bf16⟩
  | .hbm, ⟨9, _⟩ => ⟨S8448x1024, .bf16⟩
  | .hbm, ⟨10, _⟩ => ⟨S8448x1024, .bf16⟩
  | .hbm, ⟨11, _⟩ => ⟨S8448x1024, .bf16⟩
  | .hbm, ⟨12, _⟩ => ⟨S8448x1024, .bf16⟩
  | .local _ .vmem, ⟨0, _⟩ => ⟨S528x512, .f32⟩
  | .local _ .vmem, ⟨1, _⟩ => ⟨S528x512, .f32⟩
  | .local _ .vmem, ⟨2, _⟩ => ⟨S528x512, .f32⟩
  | .local _ .vmem, ⟨3, _⟩ => ⟨S528x512, .f32⟩
  | .local _ .vmem, ⟨4, _⟩ => ⟨S528x512, .f32⟩
  | .local _ .vmem, ⟨5, _⟩ => ⟨S528x512, .f32⟩
  | .local _ .vmem, ⟨6, _⟩ => ⟨S528x512, .f32⟩
  | .local _ .vmem, ⟨7, _⟩ => ⟨S528x512, .f32⟩
  | .local _ .vmem, ⟨8, _⟩ => ⟨S528x512, .f32⟩
  | .local _ .vmem, ⟨9, _⟩ => ⟨S528x512, .f32⟩
  | .local _ .vmem, ⟨10, _⟩ => ⟨S528x512, .f32⟩
  | .local _ .vmem, ⟨11, _⟩ => ⟨S528x512, .f32⟩
  | .local _ .vmem, ⟨12, _⟩ => ⟨S528x512, .f32⟩
  | .local _ .vmem, ⟨13, _⟩ => ⟨S528x512, .f32⟩
  | .local _ .vmem, ⟨14, _⟩ => ⟨S528x512, .f32⟩
  | .local _ .vmem, ⟨15, _⟩ => ⟨S528x512, .f32⟩
  | .local _ .vmem, ⟨16, _⟩ => ⟨S528x512, .bf16⟩
  | .local _ .vmem, ⟨17, _⟩ => ⟨S528x512, .bf16⟩
  | .local _ .vmem, ⟨18, _⟩ => ⟨S528x512, .bf16⟩
  | .local _ .vmem, ⟨19, _⟩ => ⟨S528x512, .bf16⟩
  | .local _ .vmem, ⟨20, _⟩ => ⟨S528x512, .bf16⟩
  | .local _ .vmem, ⟨21, _⟩ => ⟨S528x512, .bf16⟩
  | .local _ .vmem, ⟨22, _⟩ => ⟨S528x512, .bf16⟩
  | .local _ .vmem, ⟨23, _⟩ => ⟨S528x512, .bf16⟩
  | .local _ .vmem, ⟨24, _⟩ => ⟨S528x512, .bf16⟩
  | .local _ .vmem, ⟨25, _⟩ => ⟨S528x512, .bf16⟩
  | .local _ .vmem, ⟨26, _⟩ => ⟨S528x512, .bf16⟩
  | .local _ .vmem, ⟨27, _⟩ => ⟨S528x512, .bf16⟩
  | .local _ .vmem, ⟨28, _⟩ => ⟨S528x512, .bf16⟩
  | .local _ .vmem, ⟨29, _⟩ => ⟨S528x512, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S528x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S528x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S528x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S528x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S528x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S528x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S528x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S528x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S528x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S528x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S528x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S528x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S528x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S528x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S528x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference19Ideal.lean ====
abbrev S8448x1024 : Shape := ⟨2, ![8448, 1024]⟩
abbrev S8448x6144 : Shape := ⟨2, ![8448, 6144]⟩
abbrev S8448x3072 : Shape := ⟨2, ![8448, 3072]⟩
abbrev S_ : Shape := ⟨0, ![]⟩

abbrev nBuf : Space → Nat
  | .hbm => 85
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x6144, .f32⟩
  | .hbm, ⟨2, _⟩ => ⟨S8448x1024, .f32⟩
  | .hbm, ⟨3, _⟩ => ⟨S8448x1024, .f32⟩
  | .hbm, ⟨4, _⟩ => ⟨S8448x1024, .f32⟩
  | .hbm, ⟨5, _⟩ => ⟨S8448x1024, .f32⟩
  | .hbm, ⟨6, _⟩ => ⟨S8448x3072, .f32⟩
  | .hbm, ⟨7, _⟩ => ⟨S8448x1024, .f32⟩
  | .hbm, ⟨8, _⟩ => ⟨S8448x1024, .f32⟩
  | .hbm, ⟨9, _⟩ => ⟨S8448x1024, .f32⟩
  | .hbm, ⟨10, _⟩ => ⟨S8448x1024, .f32⟩
  | .hbm, ⟨11, _⟩ => ⟨S8448x1024, .f32⟩
  | .hbm, ⟨12, _⟩ => ⟨S_, .f32⟩
  | .hbm, ⟨13, _⟩ => ⟨S8448x1024, .f32⟩
  | .hbm, ⟨14, _⟩ => ⟨S8448x1024, .f32⟩
  | .hbm, ⟨15, _⟩ => ⟨S_, .f32⟩
  | .hbm, ⟨16, _⟩ => ⟨S8448x1024, .f32⟩
  | .hbm, ⟨17, _⟩ => ⟨S8448x1024, .f32⟩
  | .hbm, ⟨18, _⟩ => ⟨S_, .f32⟩
  | .hbm, ⟨19, _⟩ => ⟨S8448x1024, .f32⟩
  | .hbm, ⟨20, _⟩ => ⟨S8448x1024, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S8448x1024, .f32⟩
  | .hbm, ⟨25, _⟩ => ⟨S_, .f32⟩
  | .hbm, ⟨26, _⟩ => ⟨S8448x1024, .f32⟩
  | .hbm, ⟨27, _⟩ => ⟨S8448x1024, .f32⟩
  | .hbm, ⟨28, _⟩ => ⟨S_, .f32⟩
  | .hbm, ⟨29, _⟩ => ⟨S8448x1024, .f32⟩
  | .hbm, ⟨30, _⟩ => ⟨S8448x1024, .f32⟩
  | .hbm, ⟨31, _⟩ => ⟨S_, .f32⟩
  | .hbm, ⟨32, _⟩ => ⟨S8448x1024, .f32⟩
  | .hbm, ⟨33, _⟩ => ⟨S8448x1024, .f32⟩
  | .hbm, ⟨34, _⟩ => ⟨S8448x1024, .f32⟩
  | .hbm, ⟨35, _⟩ => ⟨S8448x1024, .f32⟩
  | .hbm, ⟨36, _⟩ => ⟨S8448x1024, .f32⟩
  | .hbm, ⟨37, _⟩ => ⟨S8448x1024, .f32⟩
  | .hbm, ⟨38, _⟩ => ⟨S_, .f32⟩
  | .hbm, ⟨39, _⟩ => ⟨S8448x1024, .f32⟩
  | .hbm, ⟨40, _⟩ => ⟨S8448x1024, .f32⟩
  | .hbm, ⟨41, _⟩ => ⟨S_, .f32⟩
  | .hbm, ⟨42, _⟩ => ⟨S8448x1024, .f32⟩
  | .hbm, ⟨43, _⟩ => ⟨S8448x1024, .f32⟩
  | .hbm, ⟨44, _⟩ => ⟨S_, .f32⟩
  | .hbm, ⟨45, _⟩ => ⟨S8448x1024, .f32⟩
  | .hbm, ⟨46, _⟩ => ⟨S8448x1024, .f32⟩
  | .hbm, ⟨47, _⟩ => ⟨S8448x1024, .f32⟩
  | .hbm, ⟨48, _⟩ => ⟨S8448x1024, .f32⟩
  | .hbm, ⟨49, _⟩ => ⟨S8448x1024, .f32⟩
  | .hbm, ⟨50, _⟩ => ⟨S8448x1024, .f32⟩
  | .hbm, ⟨51, _⟩ => ⟨S8448x1024, .f32⟩
  | .hbm, ⟨52, _⟩ => ⟨S_, .f32⟩
  | .hbm, ⟨53, _⟩ => ⟨S8448x1024, .f32⟩
  | .hbm, ⟨54, _⟩ => ⟨S8448x1024, .f32⟩
  | .hbm, ⟨55, _⟩ => ⟨S_, .f32⟩
  | .hbm, ⟨56, _⟩ => ⟨S8448x1024, .f32⟩
  | .hbm, ⟨57, _⟩ => ⟨S8448x1024, .f32⟩
  | .hbm, ⟨58, _⟩ => ⟨S_, .f32⟩
  | .hbm, ⟨59, _⟩ => ⟨S8448x1024, .f32⟩
  | .hbm, ⟨60, _⟩ => ⟨S8448x1024, .f32⟩
  | .hbm, ⟨61, _⟩ => ⟨S8448x1024, .f32⟩
  | .hbm, ⟨62, _⟩ => ⟨S8448x1024, .f32⟩
  | .hbm, ⟨63, _⟩ => ⟨S8448x1024, .f32⟩
  | .hbm, ⟨64, _⟩ => ⟨S8448x1024, .f32⟩
  | .hbm, ⟨65, _⟩ => ⟨S8448x1024, .f32⟩
  | .hbm, ⟨66, _⟩ => ⟨S8448x1024, .f32⟩
  | .hbm, ⟨67, _⟩ => ⟨S8448x1024, .f32⟩
  | .hbm, ⟨68, _⟩ => ⟨S8448x1024, .f32⟩
  | .hbm, ⟨69, _⟩ => ⟨S8448x1024, .f32⟩
  | .hbm, ⟨70, _⟩ => ⟨S8448x1024, .f32⟩
  | .hbm, ⟨71, _⟩ => ⟨S8448x1024, .f32⟩
  | .hbm, ⟨72, _⟩ => ⟨S8448x1024, .f32⟩
  | .hbm, ⟨73, _⟩ => ⟨S8448x1024, .f32⟩
  | .hbm, ⟨74, _⟩ => ⟨S8448x1024, .f32⟩
  | .hbm, ⟨75, _⟩ => ⟨S8448x1024, .f32⟩
  | .hbm, ⟨76, _⟩ => ⟨S8448x1024, .f32⟩
  | .hbm, ⟨77, _⟩ => ⟨S8448x1024, .f32⟩
  | .hbm, ⟨78, _⟩ => ⟨S8448x1024, .bf16⟩
  | .hbm, ⟨79, _⟩ => ⟨S8448x1024, .bf16⟩
  | .hbm, ⟨80, _⟩ => ⟨S8448x1024, .bf16⟩
  | .hbm, ⟨81, _⟩ => ⟨S8448x1024, .bf16⟩
  | .hbm, ⟨82, _⟩ => ⟨S8448x1024, .bf16⟩
  | .hbm, ⟨83, _⟩ => ⟨S8448x1024, .bf16⟩
  | .hbm, ⟨84, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== Kernel20.lean ====
abbrev S8448x1024 : Shape := ⟨2, ![8448, 1024]⟩
abbrev S1024 : Shape := ⟨1, ![1024]⟩
abbrev S1x1024 : Shape := ⟨2, ![1, 1024]⟩
abbrev S1056x1024 : Shape := ⟨2, ![1056, 1024]⟩
abbrev S1056 : Shape := ⟨1, ![1056]⟩
abbrev S1056x1 : Shape := ⟨2, ![1056, 1]⟩

abbrev nBuf : Space → Nat
  | .hbm => 4
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S1x1024, .f32⟩
  | .hbm, ⟨3, _⟩ => ⟨S8448x1024, .bf16⟩
  | .local _ .vmem, ⟨0, _⟩ => ⟨S1056x1024, .f32⟩
  | .local _ .vmem, ⟨1, _⟩ => ⟨S1056x1024, .f32⟩
  | .local _ .vmem, ⟨2, _⟩ => ⟨S1x1024, .f32⟩
  | .local _ .vmem, ⟨3, _⟩ => ⟨S1056x1024, .bf16⟩
  | .local _ .vmem, ⟨4, _⟩ => ⟨S1056x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1056x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S8448x1024 : Shape := ⟨2, ![8448, 1024]⟩
abbrev S1024 : Shape := ⟨1, ![1024]⟩
abbrev S_ : Shape := ⟨0, ![]⟩
abbrev S8448 : Shape := ⟨1, ![8448]⟩
abbrev S8448x1 : Shape := ⟨2, ![8448, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024, .f32⟩
  | .hbm, ⟨2, _⟩ => ⟨S8448x1024, .f32⟩
  | .hbm, ⟨3, _⟩ => ⟨S_, .f32⟩
  | .hbm, ⟨4, _⟩ => ⟨S8448, .f32⟩
  | .hbm, ⟨5, _⟩ => ⟨S8448x1, .f32⟩
  | .hbm, ⟨6, _⟩ => ⟨S_, .f32⟩
  | .hbm, ⟨7, _⟩ => ⟨S8448x1, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S8448x1, .f32⟩
  | .hbm, ⟨13, _⟩ => ⟨S8448x1024, .f32⟩
  | .hbm, ⟨14, _⟩ => ⟨S8448x1024, .f32⟩
  | .hbm, ⟨15, _⟩ => ⟨S1x1024, .f32⟩
  | .hbm, ⟨16, _⟩ => ⟨S8448x1024, .f32⟩
  | .hbm, ⟨17, _⟩ => ⟨S8448x1024, .f32⟩
  | .hbm, ⟨18, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel21.lean ====
abbrev S8448x6144 : Shape := ⟨2, ![8448, 6144]⟩
abbrev S8448x1024 : Shape := ⟨2, ![8448, 1024]⟩
abbrev S528x512 : Shape := ⟨2, ![528, 512]⟩
abbrev S528x1 : Shape := ⟨2, ![528, 1]⟩

abbrev nBuf : Space → Nat
  | .hbm => 5
  | .vmem => 14
  | .smem => 0
  | _ => 0

abbrev bufTy : (tb : Table) → Fin (tcTables nBuf tb) → BufTy
  | .hbm, ⟨0, _⟩ => ⟨S8448x6144, .f32⟩
  | .hbm, ⟨1, _⟩ => ⟨S8448x1024, .f32⟩
  | .hbm, ⟨2, _⟩ => ⟨S8448x1024, .f32⟩
  | .hbm, ⟨3, _⟩ => ⟨S8448x1024, .f32⟩
  | .hbm, ⟨4, _⟩ => ⟨S8448x1024, .bf16⟩
  | .local _ .vmem, ⟨0, _⟩ => ⟨S528x512, .f32⟩
  | .local _ .vmem, ⟨1, _⟩ => ⟨S528x512, .f32⟩
  | .local _ .vmem, ⟨2, _⟩ => ⟨S528x512, .f32⟩
  | .local _ .vmem, ⟨3, _⟩ => ⟨S528x512, .f32⟩
  | .local _ .vmem, ⟨4, _⟩ => ⟨S528x512, .f32⟩
  | .local _ .vmem, ⟨5, _⟩ => ⟨S528x512, .f32⟩
  | .local _ .vmem, ⟨6, _⟩ => ⟨S528x512, .f32⟩
  | .local _ .vmem, ⟨7, _⟩ => ⟨S528x512, .f32⟩
  | .local _ .vmem, ⟨8, _⟩ => ⟨S528x512, .f32⟩
  | .local _ .vmem, ⟨9, _⟩ => ⟨S528x512, .f32⟩
  | .local _ .vmem, ⟨10, _⟩ => ⟨S528x512, .f32⟩
  | .local _ .vmem, ⟨11, _⟩ => ⟨S528x512, .f32⟩
  | .local _ .vmem, ⟨12, _⟩ => ⟨S528x512, .bf16⟩
  | .local _ .vmem, ⟨13, _⟩ => ⟨S528x512, .bf16⟩
  | _, _ => ⟨S8448x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S528x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S528x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S528x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S528x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S528x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S528x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S528x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference21Ideal.lean ====
abbrev S8448x6144 : Shape := ⟨2, ![8448, 6144]⟩
abbrev S8448x1024 : Shape := ⟨2, ![8448, 1024]⟩
abbrev S2x4224x6144 : Shape := ⟨3, ![2, 4224, 6144]⟩
abbrev S2x4112x6144 : Shape := ⟨3, ![2, 4112, 6144]⟩
abbrev S2x4112x3072 : Shape := ⟨3, ![2, 4112, 3072]⟩
abbrev S_ : Shape := ⟨0, ![]⟩
abbrev S2x4112x1024 : Shape := ⟨3, ![2, 4112, 1024]⟩
abbrev S2x4224x1024 : Shape := ⟨3, ![2, 4224, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8448x6144, .f32⟩
  | .hbm, ⟨1, _⟩ => ⟨S8448x1024, .f32⟩
  | .hbm, ⟨2, _⟩ => ⟨S8448x1024, .f32⟩
  | .hbm, ⟨3, _⟩ => ⟨S8448x1024, .f32⟩
  | .hbm, ⟨4, _⟩ => ⟨S2x4224x6144, .f32⟩
  | .hbm, ⟨5, _⟩ => ⟨S2x4112x6144, .f32⟩
  | .hbm, ⟨6, _⟩ => ⟨S2x4112x3072, .f32⟩
  | .hbm, ⟨7, _⟩ => ⟨S2x4112x3072, .f32⟩
  | .hbm, ⟨8, _⟩ => ⟨S2x4112x3072, .f32⟩
  | .hbm, ⟨9, _⟩ => ⟨S_, .f32⟩
  | .hbm, ⟨10, _⟩ => ⟨S2x4112x3072, .f32⟩
  | .hbm, ⟨11, _⟩ => ⟨S2x4112x3072, .f32⟩
  | .hbm, ⟨12, _⟩ => ⟨S_, .f32⟩
  | .hbm, ⟨13, _⟩ => ⟨S2x4112x3072, .f32⟩
  | .hbm, ⟨14, _⟩ => ⟨S2x4112x3072, .f32⟩
  | .hbm, ⟨15, _⟩ => ⟨S2x4112x1024, .f32⟩
  | .hbm, ⟨16, _⟩ => ⟨S2x4112x1024, .f32⟩
  | .hbm, ⟨17, _⟩ => ⟨S2x4112x1024, .f32⟩
  | .hbm, ⟨18, _⟩ => ⟨S2x4224x1024, .f32⟩
  | .hbm, ⟨19, _⟩ => ⟨S2x4112x1024, .f32⟩
  | .hbm, ⟨20, _⟩ => ⟨S2x4112x1024, .f32⟩
  | .hbm, ⟨21, _⟩ => ⟨S2x4224x1024, .f32⟩
  | .hbm, ⟨22, _⟩ => ⟨S2x4112x1024, .f32⟩
  | .hbm, ⟨23, _⟩ => ⟨S2x4112x1024, .f32⟩
  | .hbm, ⟨24, _⟩ => ⟨S2x4112x1024, .f32⟩
  | .hbm, ⟨25, _⟩ => ⟨S2x4224x1024, .f32⟩
  | .hbm, ⟨26, _⟩ => ⟨S2x4112x1024, .f32⟩
  | .hbm, ⟨27, _⟩ => ⟨S2x4112x1024, .f32⟩
  | .hbm, ⟨28, _⟩ => ⟨S2x4112x1024, .f32⟩
  | .hbm, ⟨29, _⟩ => ⟨S_, .i32⟩
  | .hbm, ⟨30, _⟩ => ⟨S_, .f32⟩
  | .hbm, ⟨31, _⟩ => ⟨S2x4224x1024, .f32⟩
  | .hbm, ⟨32, _⟩ => ⟨S8448x1024, .f32⟩
  | .hbm, ⟨33, _⟩ => ⟨S8448x1024, .bf16⟩
  | _, _ => ⟨S8448x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_call0_v0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel22.lean ====
abbrev S8x3264x1024 : Shape := ⟨3, ![8, 3264, 1024]⟩
abbrev S3264x1024 : Shape := ⟨2, ![3264, 1024]⟩
abbrev S8x96x1024 : Shape := ⟨3, ![8, 96, 1024]⟩
abbrev S96x1024 : Shape := ⟨2, ![96, 1024]⟩
abbrev S1x96x1024 : Shape := ⟨3, ![1, 96, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x3264x1024, .bf16⟩
  | .hbm, ⟨1, _⟩ => ⟨S3264x1024, .f32⟩
  | .local _ .vmem, ⟨0, _⟩ => ⟨S8x96x1024, .bf16⟩
  | .local _ .vmem, ⟨1, _⟩ => ⟨S8x96x1024, .bf16⟩
  | .local _ .vmem, ⟨2, _⟩ => ⟨S96x1024, .f32⟩
  | .local _ .vmem, ⟨3, _⟩ => ⟨S96x1024, .f32⟩
  | _, _ => ⟨S8x3264x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![34], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x96x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S96x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference22Ideal.lean ====
abbrev S8x3264x1024 : Shape := ⟨3, ![8, 3264, 1024]⟩
abbrev S_ : Shape := ⟨0, ![]⟩
abbrev S3264x1024 : Shape := ⟨2, ![3264, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x3264x1024, .bf16⟩
  | .hbm, ⟨1, _⟩ => ⟨S8x3264x1024, .f32⟩
  | .hbm, ⟨2, _⟩ => ⟨S_, .f32⟩
  | .hbm, ⟨3, _⟩ => ⟨S3264x1024, .f32⟩
  | _, _ => ⟨S8x3264x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel23.lean ====
abbrev S8x640x1024 : Shape := ⟨3, ![8, 640, 1024]⟩
abbrev S640x1024 : Shape := ⟨2, ![640, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x640x1024, .f32⟩
  | .hbm, ⟨1, _⟩ => ⟨S640x1024, .f32⟩
  | .local _ .vmem, ⟨0, _⟩ => ⟨S8x128x1024, .f32⟩
  | .local _ .vmem, ⟨1, _⟩ => ⟨S8x128x1024, .f32⟩
  | .local _ .vmem, ⟨2, _⟩ => ⟨S128x1024, .f32⟩
  | .local _ .vmem, ⟨3, _⟩ => ⟨S128x1024, .f32⟩
  | _, _ => ⟨S8x640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference23Ideal.lean ====
abbrev S8x640x1024 : Shape := ⟨3, ![8, 640, 1024]⟩
abbrev S_ : Shape := ⟨0, ![]⟩
abbrev S640x1024 : Shape := ⟨2, ![640, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x640x1024, .f32⟩
  | .hbm, ⟨1, _⟩ => ⟨S_, .f32⟩
  | .hbm, ⟨2, _⟩ => ⟨S640x1024, .f32⟩
  | _, _ => ⟨S8x640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel31.lean ====
abbrev S16x128 : Shape := ⟨2, ![16, 128]⟩

abbrev nBuf : Space → Nat
  | .hbm => 7
  | .vmem => 7
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel31Ideal.lean ====
abbrev S16x128 : Shape := ⟨2, ![16, 128]⟩

abbrev nBuf : Space → Nat
  | .hbm => 7
  | .vmem => 7
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference31Ideal.lean ====
abbrev S16x128 : Shape := ⟨2, ![16, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S_, .f32⟩
  | .hbm, ⟨5, _⟩ => ⟨S16x128, .f32⟩
  | .hbm, ⟨6, _⟩ => ⟨S16x128, .f32⟩
  | .hbm, ⟨7, _⟩ => ⟨S_, .f32⟩
  | .hbm, ⟨8, _⟩ => ⟨S16x128, .f32⟩
  | .hbm, ⟨9, _⟩ => ⟨S16x128, .f32⟩
  | .hbm, ⟨10, _⟩ => ⟨S16x128, .f32⟩
  | .hbm, ⟨11, _⟩ => ⟨S_, .f32⟩
  | .hbm, ⟨12, _⟩ => ⟨S16x128, .f32⟩
  | .hbm, ⟨13, _⟩ => ⟨S16x128, .f32⟩
  | .hbm, ⟨14, _⟩ => ⟨S16x128, .f32⟩
  | .hbm, ⟨15, _⟩ => ⟨S_, .f32⟩
  | .hbm, ⟨16, _⟩ => ⟨S16x128, .f32⟩
  | .hbm, ⟨17, _⟩ => ⟨S16x128, .f32⟩
  | .hbm, ⟨18, _⟩ => ⟨S16x128, .f32⟩
  | .hbm, ⟨19, _⟩ => ⟨S_, .f32⟩
  | .hbm, ⟨20, _⟩ => ⟨S16x128, .f32⟩
  | .hbm, ⟨21, _⟩ => ⟨S16x128, .f32⟩
  | .hbm, ⟨22, _⟩ => ⟨S_, .f32⟩
  | .hbm, ⟨23, _⟩ => ⟨S16x128, .f32⟩
  | .hbm, ⟨24, _⟩ => ⟨S16x128, .f32⟩
  | .hbm, ⟨25, _⟩ => ⟨S16x128, .f32⟩
  | .hbm, ⟨26, _⟩ => ⟨S_, .f32⟩
  | .hbm, ⟨27, _⟩ => ⟨S16x128, .f32⟩
  | .hbm, ⟨28, _⟩ => ⟨S16x128, .f32⟩
  | .hbm, ⟨29, _⟩ => ⟨S16x128, .f32⟩
  | .hbm, ⟨30, _⟩ => ⟨S_, .f32⟩
  | .hbm, ⟨31, _⟩ => ⟨S16x128, .f32⟩
  | .hbm, ⟨32, _⟩ => ⟨S16x128, .f32⟩
  | .hbm, ⟨33, _⟩ => ⟨S16x128, .f32⟩
  | .hbm, ⟨34, _⟩ => ⟨S_, .f32⟩
  | .hbm, ⟨35, _⟩ => ⟨S16x128, .f32⟩
  | .hbm, ⟨36, _⟩ => ⟨S16x128, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel32.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel32Ideal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference32Ideal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel33.lean ====
abbrev S4096x704 : Shape := ⟨2, ![4096, 704]⟩
abbrev S512x704 : Shape := ⟨2, ![512, 704]⟩

abbrev nBuf : Space → Nat
  | .hbm => 7
  | .vmem => 14
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel33Ideal.lean ====
abbrev S4096x704 : Shape := ⟨2, ![4096, 704]⟩
abbrev S512x704 : Shape := ⟨2, ![512, 704]⟩

abbrev nBuf : Space → Nat
  | .hbm => 7
  | .vmem => 14
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S4096x704, .f32⟩
  | .hbm, ⟨5, _⟩ => ⟨S4096x704, .f32⟩
  | .hbm, ⟨6, _⟩ => ⟨S4096x704, .f32⟩
  | .local _ .vmem, ⟨0, _⟩ => ⟨S512x704, .f32⟩
  | .local _ .vmem, ⟨1, _⟩ => ⟨S512x704, .f32⟩
  | .local _ .vmem, ⟨2, _⟩ => ⟨S512x704, .f32⟩
  | .local _ .vmem, ⟨3, _⟩ => ⟨S512x704, .f32⟩
  | .local _ .vmem, ⟨4, _⟩ => ⟨S512x704, .f32⟩
  | .local _ .vmem, ⟨5, _⟩ => ⟨S512x704, .f32⟩
  | .local _ .vmem, ⟨6, _⟩ => ⟨S512x704, .f32⟩
  | .local _ .vmem, ⟨7, _⟩ => ⟨S512x704, .f32⟩
  | .local _ .vmem, ⟨8, _⟩ => ⟨S512x704, .f32⟩
  | .local _ .vmem, ⟨9, _⟩ => ⟨S512x704, .f32⟩
  | .local _ .vmem, ⟨10, _⟩ => ⟨S512x704, .f32⟩
  | .local _ .vmem, ⟨11, _⟩ => ⟨S512x704, .f32⟩
  | .local _ .vmem, ⟨12, _⟩ => ⟨S512x704, .f32⟩
  | .local _ .vmem, ⟨13, _⟩ => ⟨S512x704, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference33Ideal.lean ====
abbrev S4096x704 : Shape := ⟨2, ![4096, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x704, .f32⟩
  | .hbm, ⟨1, _⟩ => ⟨S4096x704, .f32⟩
  | .hbm, ⟨2, _⟩ => ⟨S4096x704, .f32⟩
  | .hbm, ⟨3, _⟩ => ⟨S4096x704, .f32⟩
  | .hbm, ⟨4, _⟩ => ⟨S_, .f32⟩
  | .hbm, ⟨5, _⟩ => ⟨S4096x704, .f32⟩
  | .hbm, ⟨6, _⟩ => ⟨S4096x704, .f32⟩
  | .hbm, ⟨7, _⟩ => ⟨S_, .f32⟩
  | .hbm, ⟨8, _⟩ => ⟨S4096x704, .f32⟩
  | .hbm, ⟨9, _⟩ => ⟨S4096x704, .f32⟩
  | .hbm, ⟨10, _⟩ => ⟨S4096x704, .f32⟩
  | .hbm, ⟨11, _⟩ => ⟨S_, .f32⟩
  | .hbm, ⟨12, _⟩ => ⟨S4096x704, .f32⟩
  | .hbm, ⟨13, _⟩ => ⟨S4096x704, .f32⟩
  | .hbm, ⟨14, _⟩ => ⟨S4096x704, .f32⟩
  | .hbm, ⟨15, _⟩ => ⟨S_, .f32⟩
  | .hbm, ⟨16, _⟩ => ⟨S4096x704, .f32⟩
  | .hbm, ⟨17, _⟩ => ⟨S4096x704, .f32⟩
  | .hbm, ⟨18, _⟩ => ⟨S4096x704, .f32⟩
  | .hbm, ⟨19, _⟩ => ⟨S_, .f32⟩
  | .hbm, ⟨20, _⟩ => ⟨S4096x704, .f32⟩
  | .hbm, ⟨21, _⟩ => ⟨S4096x704, .f32⟩
  | .hbm, ⟨22, _⟩ => ⟨S_, .f32⟩
  | .hbm, ⟨23, _⟩ => ⟨S4096x704, .f32⟩
  | .hbm, ⟨24, _⟩ => ⟨S4096x704, .f32⟩
  | .hbm, ⟨25, _⟩ => ⟨S4096x704, .f32⟩
  | .hbm, ⟨26, _⟩ => ⟨S_, .f32⟩
  | .hbm, ⟨27, _⟩ => ⟨S4096x704, .f32⟩
  | .hbm, ⟨28, _⟩ => ⟨S4096x704, .f32⟩
  | .hbm, ⟨29, _⟩ => ⟨S4096x704, .f32⟩
  | .hbm, ⟨30, _⟩ => ⟨S_, .f32⟩
  | .hbm, ⟨31, _⟩ => ⟨S4096x704, .f32⟩
  | .hbm, ⟨32, _⟩ => ⟨S4096x704, .f32⟩
  | .hbm, ⟨33, _⟩ => ⟨S4096x704, .f32⟩
  | .hbm, ⟨34, _⟩ => ⟨S_, .f32⟩
  | .hbm, ⟨35, _⟩ => ⟨S4096x704, .f32⟩
  | .hbm, ⟨36, _⟩ => ⟨S4096x704, .f32⟩
  | _, _ => ⟨S4096x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel34.lean ====
abbrev S1408x1024 : Shape := ⟨2, ![1408, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel34Ideal.lean ====
abbrev S1408x1024 : Shape := ⟨2, ![1408, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference34Ideal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel35.lean ====
abbrev S4096x768 : Shape := ⟨2, ![4096, 768]⟩
abbrev S512x768 : Shape := ⟨2, ![512, 768]⟩

abbrev nBuf : Space → Nat
  | .hbm => 7
  | .vmem => 14
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S4096x768, .f32⟩
  | .hbm, ⟨6, _⟩ => ⟨S4096x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel35Ideal.lean ====
abbrev S4096x768 : Shape := ⟨2, ![4096, 768]⟩
abbrev S512x768 : Shape := ⟨2, ![512, 768]⟩

abbrev nBuf : Space → Nat
  | .hbm => 7
  | .vmem => 14
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S4096x768, .f32⟩
  | .hbm, ⟨6, _⟩ => ⟨S4096x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference35Ideal.lean ====
abbrev S4096x768 : Shape := ⟨2, ![4096, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S_, .f32⟩
  | .hbm, ⟨5, _⟩ => ⟨S4096x768, .f32⟩
  | .hbm, ⟨6, _⟩ => ⟨S4096x768, .f32⟩
  | .hbm, ⟨7, _⟩ => ⟨S_, .f32⟩
  | .hbm, ⟨8, _⟩ => ⟨S4096x768, .f32⟩
  | .hbm, ⟨9, _⟩ => ⟨S4096x768, .f32⟩
  | .hbm, ⟨10, _⟩ => ⟨S4096x768, .f32⟩
  | .hbm, ⟨11, _⟩ => ⟨S_, .f32⟩
  | .hbm, ⟨12, _⟩ => ⟨S4096x768, .f32⟩
  | .hbm, ⟨13, _⟩ => ⟨S4096x768, .f32⟩
  | .hbm, ⟨14, _⟩ => ⟨S4096x768, .f32⟩
  | .hbm, ⟨15, _⟩ => ⟨S_, .f32⟩
  | .hbm, ⟨16, _⟩ => ⟨S4096x768, .f32⟩
  | .hbm, ⟨17, _⟩ => ⟨S4096x768, .f32⟩
  | .hbm, ⟨18, _⟩ => ⟨S4096x768, .f32⟩
  | .hbm, ⟨19, _⟩ => ⟨S_, .f32⟩
  | .hbm, ⟨20, _⟩ => ⟨S4096x768, .f32⟩
  | .hbm, ⟨21, _⟩ => ⟨S4096x768, .f32⟩
  | .hbm, ⟨22, _⟩ => ⟨S_, .f32⟩
  | .hbm, ⟨23, _⟩ => ⟨S4096x768, .f32⟩
  | .hbm, ⟨24, _⟩ => ⟨S4096x768, .f32⟩
  | .hbm, ⟨25, _⟩ => ⟨S4096x768, .f32⟩
  | .hbm, ⟨26, _⟩ => ⟨S_, .f32⟩
  | .hbm, ⟨27, _⟩ => ⟨S4096x768, .f32⟩
  | .hbm, ⟨28, _⟩ => ⟨S4096x768, .f32⟩
  | .hbm, ⟨29, _⟩ => ⟨S4096x768, .f32⟩
  | .hbm, ⟨30, _⟩ => ⟨S_, .f32⟩
  | .hbm, ⟨31, _⟩ => ⟨S4096x768, .f32⟩
  | .hbm, ⟨32, _⟩ => ⟨S4096x768, .f32⟩
  | .hbm, ⟨33, _⟩ => ⟨S4096x768, .f32⟩
  | .hbm, ⟨34, _⟩ => ⟨S_, .f32⟩
  | .hbm, ⟨35, _⟩ => ⟨S4096x768, .f32⟩
  | .hbm, ⟨36, _⟩ => ⟨S4096x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel36.lean ====
abbrev S8x1024 : Shape := ⟨2, ![8, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel36Ideal.lean ====
abbrev S8x1024 : Shape := ⟨2, ![8, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference36Ideal.lean ====
abbrev S8x1024 : Shape := ⟨2, ![8, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S_, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S_, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S8x1024, .f32⟩
  | .hbm, ⟨26, _⟩ => ⟨S_, .f32⟩
  | .hbm, ⟨27, _⟩ => ⟨S8x1024, .f32⟩
  | .hbm, ⟨28, _⟩ => ⟨S8x1024, .f32⟩
  | .hbm, ⟨29, _⟩ => ⟨S8x1024, .f32⟩
  | .hbm, ⟨30, _⟩ => ⟨S_, .f32⟩
  | .hbm, ⟨31, _⟩ => ⟨S8x1024, .f32⟩
  | .hbm, ⟨32, _⟩ => ⟨S8x1024, .f32⟩
  | .hbm, ⟨33, _⟩ => ⟨S8x1024, .f32⟩
  | .hbm, ⟨34, _⟩ => ⟨S_, .f32⟩
  | .hbm, ⟨35, _⟩ => ⟨S8x1024, .f32⟩
  | .hbm, ⟨36, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel37.lean ====
abbrev S4x32 : Shape := ⟨2, ![4, 32]⟩

abbrev nBuf : Space → Nat
  | .hbm => 7
  | .vmem => 7
  | .smem => 0
  | _ => 0

abbrev bufTy : (tb : Table) → Fin (tcTables nBuf tb) → BufTy
  | .hbm, ⟨0, _⟩ => ⟨S4x32, .f32⟩
  | .hbm, ⟨1, _⟩ => ⟨S4x32, .f32⟩
  | .hbm, ⟨2, _⟩ => ⟨S4x32, .f32⟩
  | .hbm, ⟨3, _⟩ => ⟨S4x32, .f32⟩
  | .hbm, ⟨4, _⟩ => ⟨S4x32, .f32⟩
  | .hbm, ⟨5, _⟩ => ⟨S4x32, .f32⟩
  | .hbm, ⟨6, _⟩ => ⟨S4x32, .f32⟩
  | .local _ .vmem, ⟨0, _⟩ => ⟨S4x32, .f32⟩
  | .local _ .vmem, ⟨1, _⟩ => ⟨S4x32, .f32⟩
  | .local _ .vmem, ⟨2, _⟩ => ⟨S4x32, .f32⟩
  | .local _ .vmem, ⟨3, _⟩ => ⟨S4x32, .f32⟩
  | .local _ .vmem, ⟨4, _⟩ => ⟨S4x32, .f32⟩
  | .local _ .vmem, ⟨5, _⟩ => ⟨S4x32, .f32⟩
  | .local _ .vmem, ⟨6, _⟩ => ⟨S4x32, .f32⟩
  | _, _ => ⟨S4x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel37Ideal.lean ====
abbrev S4x32 : Shape := ⟨2, ![4, 32]⟩

abbrev nBuf : Space → Nat
  | .hbm => 7
  | .vmem => 7
  | .smem => 0
  | _ => 0

abbrev bufTy : (tb : Table) → Fin (tcTables nBuf tb) → BufTy
  | .hbm, ⟨0, _⟩ => ⟨S4x32, .f32⟩
  | .hbm, ⟨1, _⟩ => ⟨S4x32, .f32⟩
  | .hbm, ⟨2, _⟩ => ⟨S4x32, .f32⟩
  | .hbm, ⟨3, _⟩ => ⟨S4x32, .f32⟩
  | .hbm, ⟨4, _⟩ => ⟨S4x32, .f32⟩
  | .hbm, ⟨5, _⟩ => ⟨S4x32, .f32⟩
  | .hbm, ⟨6, _⟩ => ⟨S4x32, .f32⟩
  | .local _ .vmem, ⟨0, _⟩ => ⟨S4x32, .f32⟩
  | .local _ .vmem, ⟨1, _⟩ => ⟨S4x32, .f32⟩
  | .local _ .vmem, ⟨2, _⟩ => ⟨S4x32, .f32⟩
  | .local _ .vmem, ⟨3, _⟩ => ⟨S4x32, .f32⟩
  | .local _ .vmem, ⟨4, _⟩ => ⟨S4x32, .f32⟩
  | .local _ .vmem, ⟨5, _⟩ => ⟨S4x32, .f32⟩
  | .local _ .vmem, ⟨6, _⟩ => ⟨S4x32, .f32⟩
  | _, _ => ⟨S4x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference37Ideal.lean ====
abbrev S4x32 : Shape := ⟨2, ![4, 32]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x32, .f32⟩
  | .hbm, ⟨1, _⟩ => ⟨S4x32, .f32⟩
  | .hbm, ⟨2, _⟩ => ⟨S4x32, .f32⟩
  | .hbm, ⟨3, _⟩ => ⟨S4x32, .f32⟩
  | .hbm, ⟨4, _⟩ => ⟨S_, .f32⟩
  | .hbm, ⟨5, _⟩ => ⟨S4x32, .f32⟩
  | .hbm, ⟨6, _⟩ => ⟨S4x32, .f32⟩
  | .hbm, ⟨7, _⟩ => ⟨S_, .f32⟩
  | .hbm, ⟨8, _⟩ => ⟨S4x32, .f32⟩
  | .hbm, ⟨9, _⟩ => ⟨S4x32, .f32⟩
  | .hbm, ⟨10, _⟩ => ⟨S4x32, .f32⟩
  | .hbm, ⟨11, _⟩ => ⟨S_, .f32⟩
  | .hbm, ⟨12, _⟩ => ⟨S4x32, .f32⟩
  | .hbm, ⟨13, _⟩ => ⟨S4x32, .f32⟩
  | .hbm, ⟨14, _⟩ => ⟨S4x32, .f32⟩
  | .hbm, ⟨15, _⟩ => ⟨S_, .f32⟩
  | .hbm, ⟨16, _⟩ => ⟨S4x32, .f32⟩
  | .hbm, ⟨17, _⟩ => ⟨S4x32, .f32⟩
  | .hbm, ⟨18, _⟩ => ⟨S4x32, .f32⟩
  | .hbm, ⟨19, _⟩ => ⟨S_, .f32⟩
  | .hbm, ⟨20, _⟩ => ⟨S4x32, .f32⟩
  | .hbm, ⟨21, _⟩ => ⟨S4x32, .f32⟩
  | .hbm, ⟨22, _⟩ => ⟨S_, .f32⟩
  | .hbm, ⟨23, _⟩ => ⟨S4x32, .f32⟩
  | .hbm, ⟨24, _⟩ => ⟨S4x32, .f32⟩
  | .hbm, ⟨25, _⟩ => ⟨S4x32, .f32⟩
  | .hbm, ⟨26, _⟩ => ⟨S_, .f32⟩
  | .hbm, ⟨27, _⟩ => ⟨S4x32, .f32⟩
  | .hbm, ⟨28, _⟩ => ⟨S4x32, .f32⟩
  | .hbm, ⟨29, _⟩ => ⟨S4x32, .f32⟩
  | .hbm, ⟨30, _⟩ => ⟨S_, .f32⟩
  | .hbm, ⟨31, _⟩ => ⟨S4x32, .f32⟩
  | .hbm, ⟨32, _⟩ => ⟨S4x32, .f32⟩
  | .hbm, ⟨33, _⟩ => ⟨S4x32, .f32⟩
  | .hbm, ⟨34, _⟩ => ⟨S_, .f32⟩
  | .hbm, ⟨35, _⟩ => ⟨S4x32, .f32⟩
  | .hbm, ⟨36, _⟩ => ⟨S4x32, .f32⟩
  | _, _ => ⟨S4x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel38.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel38Ideal.lean ====
abbrev S128x1024 : Shape := ⟨2, ![128, 1024]⟩

abbrev nBuf : Space → Nat
  | .hbm => 7
  | .vmem => 7
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference38Ideal.lean ====
abbrev S128x1024 : Shape := ⟨2, ![128, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel39.lean ====
abbrev S4x512 : Shape := ⟨2, ![4, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel39Ideal.lean ====
abbrev S4x512 : Shape := ⟨2, ![4, 512]⟩

abbrev nBuf : Space → Nat
  | .hbm => 7
  | .vmem => 7
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S4x512, .f32⟩
  | .hbm, ⟨5, _⟩ => ⟨S4x512, .f32⟩
  | .hbm, ⟨6, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | .local _ .vmem, ⟨3, _⟩ => ⟨S4x512, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference39Ideal.lean ====
abbrev S4x512 : Shape := ⟨2, ![4, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .hbm, ⟨3, _⟩ => ⟨S4x512, .f32⟩
  | .hbm, ⟨4, _⟩ => ⟨S_, .f32⟩
  | .hbm, ⟨5, _⟩ => ⟨S4x512, .f32⟩
  | .hbm, ⟨6, _⟩ => ⟨S4x512, .f32⟩
  | .hbm, ⟨7, _⟩ => ⟨S_, .f32⟩
  | .hbm, ⟨8, _⟩ => ⟨S4x512, .f32⟩
  | .hbm, ⟨9, _⟩ => ⟨S4x512, .f32⟩
  | .hbm, ⟨10, _⟩ => ⟨S4x512, .f32⟩
  | .hbm, ⟨11, _⟩ => ⟨S_, .f32⟩
  | .hbm, ⟨12, _⟩ => ⟨S4x512, .f32⟩
  | .hbm, ⟨13, _⟩ => ⟨S4x512, .f32⟩
  | .hbm, ⟨14, _⟩ => ⟨S4x512, .f32⟩
  | .hbm, ⟨15, _⟩ => ⟨S_, .f32⟩
  | .hbm, ⟨16, _⟩ => ⟨S4x512, .f32⟩
  | .hbm, ⟨17, _⟩ => ⟨S4x512, .f32⟩
  | .hbm, ⟨18, _⟩ => ⟨S4x512, .f32⟩
  | .hbm, ⟨19, _⟩ => ⟨S_, .f32⟩
  | .hbm, ⟨20, _⟩ => ⟨S4x512, .f32⟩
  | .hbm, ⟨21, _⟩ => ⟨S4x512, .f32⟩
  | .hbm, ⟨22, _⟩ => ⟨S_, .f32⟩
  | .hbm, ⟨23, _⟩ => ⟨S4x512, .f32⟩
  | .hbm, ⟨24, _⟩ => ⟨S4x512, .f32⟩
  | .hbm, ⟨25, _⟩ => ⟨S4x512, .f32⟩
  | .hbm, ⟨26, _⟩ => ⟨S_, .f32⟩
  | .hbm, ⟨27, _⟩ => ⟨S4x512, .f32⟩
  | .hbm, ⟨28, _⟩ => ⟨S4x512, .f32⟩
  | .hbm, ⟨29, _⟩ => ⟨S4x512, .f32⟩
  | .hbm, ⟨30, _⟩ => ⟨S_, .f32⟩
  | .hbm, ⟨31, _⟩ => ⟨S4x512, .f32⟩
  | .hbm, ⟨32, _⟩ => ⟨S4x512, .f32⟩
  | .hbm, ⟨33, _⟩ => ⟨S4x512, .f32⟩
  | .hbm, ⟨34, _⟩ => ⟨S_, .f32⟩
  | .hbm, ⟨35, _⟩ => ⟨S4x512, .f32⟩
  | .hbm, ⟨36, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel40.lean ====
abbrev S2048x256 : Shape := ⟨2, ![2048, 256]⟩

abbrev nBuf : Space → Nat
  | .hbm => 7
  | .vmem => 7
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S2048x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel40Ideal.lean ====
abbrev S2048x256 : Shape := ⟨2, ![2048, 256]⟩

abbrev nBuf : Space → Nat
  | .hbm => 7
  | .vmem => 7
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S2048x256, .f32⟩
  | .hbm, ⟨5, _⟩ => ⟨S2048x256, .f32⟩
  | .hbm, ⟨6, _⟩ => ⟨S2048x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference40Ideal.lean ====
abbrev S2048x256 : Shape := ⟨2, ![2048, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S_, .f32⟩
  | .hbm, ⟨5, _⟩ => ⟨S2048x256, .f32⟩
  | .hbm, ⟨6, _⟩ => ⟨S2048x256, .f32⟩
  | .hbm, ⟨7, _⟩ => ⟨S_, .f32⟩
  | .hbm, ⟨8, _⟩ => ⟨S2048x256, .f32⟩
  | .hbm, ⟨9, _⟩ => ⟨S2048x256, .f32⟩
  | .hbm, ⟨10, _⟩ => ⟨S2048x256, .f32⟩
  | .hbm, ⟨11, _⟩ => ⟨S_, .f32⟩
  | .hbm, ⟨12, _⟩ => ⟨S2048x256, .f32⟩
  | .hbm, ⟨13, _⟩ => ⟨S2048x256, .f32⟩
  | .hbm, ⟨14, _⟩ => ⟨S2048x256, .f32⟩
  | .hbm, ⟨15, _⟩ => ⟨S_, .f32⟩
  | .hbm, ⟨16, _⟩ => ⟨S2048x256, .f32⟩
  | .hbm, ⟨17, _⟩ => ⟨S2048x256, .f32⟩
  | .hbm, ⟨18, _⟩ => ⟨S2048x256, .f32⟩
  | .hbm, ⟨19, _⟩ => ⟨S_, .f32⟩
  | .hbm, ⟨20, _⟩ => ⟨S2048x256, .f32⟩
  | .hbm, ⟨21, _⟩ => ⟨S2048x256, .f32⟩
  | .hbm, ⟨22, _⟩ => ⟨S_, .f32⟩
  | .hbm, ⟨23, _⟩ => ⟨S2048x256, .f32⟩
  | .hbm, ⟨24, _⟩ => ⟨S2048x256, .f32⟩
  | .hbm, ⟨25, _⟩ => ⟨S2048x256, .f32⟩
  | .hbm, ⟨26, _⟩ => ⟨S_, .f32⟩
  | .hbm, ⟨27, _⟩ => ⟨S2048x256, .f32⟩
  | .hbm, ⟨28, _⟩ => ⟨S2048x256, .f32⟩
  | .hbm, ⟨29, _⟩ => ⟨S2048x256, .f32⟩
  | .hbm, ⟨30, _⟩ => ⟨S_, .f32⟩
  | .hbm, ⟨31, _⟩ => ⟨S2048x256, .f32⟩
  | .hbm, ⟨32, _⟩ => ⟨S2048x256, .f32⟩
  | .hbm, ⟨33, _⟩ => ⟨S2048x256, .f32⟩
  | .hbm, ⟨34, _⟩ => ⟨S_, .f32⟩
  | .hbm, ⟨35, _⟩ => ⟨S2048x256, .f32⟩
  | .hbm, ⟨36, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel41.lean ====
abbrev S124x64 : Shape := ⟨2, ![124, 64]⟩

abbrev nBuf : Space → Nat
  | .hbm => 7
  | .vmem => 7
  | .smem => 0
  | _ => 0

abbrev bufTy : (tb : Table) → Fin (tcTables nBuf tb) → BufTy
  | .hbm, ⟨0, _⟩ => ⟨S124x64, .f32⟩
  | .hbm, ⟨1, _⟩ => ⟨S124x64, .f32⟩
  | .hbm, ⟨2, _⟩ => ⟨S124x64, .f32⟩
  | .hbm, ⟨3, _⟩ => ⟨S124x64, .f32⟩
  | .hbm, ⟨4, _⟩ => ⟨S124x64, .f32⟩
  | .hbm, ⟨5, _⟩ => ⟨S124x64, .f32⟩
  | .hbm, ⟨6, _⟩ => ⟨S124x64, .f32⟩
  | .local _ .vmem, ⟨0, _⟩ => ⟨S124x64, .f32⟩
  | .local _ .vmem, ⟨1, _⟩ => ⟨S124x64, .f32⟩
  | .local _ .vmem, ⟨2, _⟩ => ⟨S124x64, .f32⟩
  | .local _ .vmem, ⟨3, _⟩ => ⟨S124x64, .f32⟩
  | .local _ .vmem, ⟨4, _⟩ => ⟨S124x64, .f32⟩
  | .local _ .vmem, ⟨5, _⟩ => ⟨S124x64, .f32⟩
  | .local _ .vmem, ⟨6, _⟩ => ⟨S124x64, .f32⟩
  | _, _ => ⟨S124x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S124x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S124x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S124x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S124x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S124x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S124x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S124x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel41Ideal.lean ====
abbrev S124x64 : Shape := ⟨2, ![124, 64]⟩

abbrev nBuf : Space → Nat
  | .hbm => 7
  | .vmem => 7
  | .smem => 0
  | _ => 0

abbrev bufTy : (tb : Table) → Fin (tcTables nBuf tb) → BufTy
  | .hbm, ⟨0, _⟩ => ⟨S124x64, .f32⟩
  | .hbm, ⟨1, _⟩ => ⟨S124x64, .f32⟩
  | .hbm, ⟨2, _⟩ => ⟨S124x64, .f32⟩
  | .hbm, ⟨3, _⟩ => ⟨S124x64, .f32⟩
  | .hbm, ⟨4, _⟩ => ⟨S124x64, .f32⟩
  | .hbm, ⟨5, _⟩ => ⟨S124x64, .f32⟩
  | .hbm, ⟨6, _⟩ => ⟨S124x64, .f32⟩
  | .local _ .vmem, ⟨0, _⟩ => ⟨S124x64, .f32⟩
  | .local _ .vmem, ⟨1, _⟩ => ⟨S124x64, .f32⟩
  | .local _ .vmem, ⟨2, _⟩ => ⟨S124x64, .f32⟩
  | .local _ .vmem, ⟨3, _⟩ => ⟨S124x64, .f32⟩
  | .local _ .vmem, ⟨4, _⟩ => ⟨S124x64, .f32⟩
  | .local _ .vmem, ⟨5, _⟩ => ⟨S124x64, .f32⟩
  | .local _ .vmem, ⟨6, _⟩ => ⟨S124x64, .f32⟩
  | _, _ => ⟨S124x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S124x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S124x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S124x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S124x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S124x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S124x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S124x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference41Ideal.lean ====
abbrev S124x64 : Shape := ⟨2, ![124, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S124x64, .f32⟩
  | .hbm, ⟨1, _⟩ => ⟨S124x64, .f32⟩
  | .hbm, ⟨2, _⟩ => ⟨S124x64, .f32⟩
  | .hbm, ⟨3, _⟩ => ⟨S124x64, .f32⟩
  | .hbm, ⟨4, _⟩ => ⟨S_, .f32⟩
  | .hbm, ⟨5, _⟩ => ⟨S124x64, .f32⟩
  | .hbm, ⟨6, _⟩ => ⟨S124x64, .f32⟩
  | .hbm, ⟨7, _⟩ => ⟨S_, .f32⟩
  | .hbm, ⟨8, _⟩ => ⟨S124x64, .f32⟩
  | .hbm, ⟨9, _⟩ => ⟨S124x64, .f32⟩
  | .hbm, ⟨10, _⟩ => ⟨S124x64, .f32⟩
  | .hbm, ⟨11, _⟩ => ⟨S_, .f32⟩
  | .hbm, ⟨12, _⟩ => ⟨S124x64, .f32⟩
  | .hbm, ⟨13, _⟩ => ⟨S124x64, .f32⟩
  | .hbm, ⟨14, _⟩ => ⟨S124x64, .f32⟩
  | .hbm, ⟨15, _⟩ => ⟨S_, .f32⟩
  | .hbm, ⟨16, _⟩ => ⟨S124x64, .f32⟩
  | .hbm, ⟨17, _⟩ => ⟨S124x64, .f32⟩
  | .hbm, ⟨18, _⟩ => ⟨S124x64, .f32⟩
  | .hbm, ⟨19, _⟩ => ⟨S_, .f32⟩
  | .hbm, ⟨20, _⟩ => ⟨S124x64, .f32⟩
  | .hbm, ⟨21, _⟩ => ⟨S124x64, .f32⟩
  | .hbm, ⟨22, _⟩ => ⟨S_, .f32⟩
  | .hbm, ⟨23, _⟩ => ⟨S124x64, .f32⟩
  | .hbm, ⟨24, _⟩ => ⟨S124x64, .f32⟩
  | .hbm, ⟨25, _⟩ => ⟨S124x64, .f32⟩
  | .hbm, ⟨26, _⟩ => ⟨S_, .f32⟩
  | .hbm, ⟨27, _⟩ => ⟨S124x64, .f32⟩
  | .hbm, ⟨28, _⟩ => ⟨S124x64, .f32⟩
  | .hbm, ⟨29, _⟩ => ⟨S124x64, .f32⟩
  | .hbm, ⟨30, _⟩ => ⟨S_, .f32⟩
  | .hbm, ⟨31, _⟩ => ⟨S124x64, .f32⟩
  | .hbm, ⟨32, _⟩ => ⟨S124x64, .f32⟩
  | .hbm, ⟨33, _⟩ => ⟨S124x64, .f32⟩
  | .hbm, ⟨34, _⟩ => ⟨S_, .f32⟩
  | .hbm, ⟨35, _⟩ => ⟨S124x64, .f32⟩
  | .hbm, ⟨36, _⟩ => ⟨S124x64, .f32⟩
  | _, _ => ⟨S124x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel42.lean ====
abbrev S2048x128 : Shape := ⟨2, ![2048, 128]⟩

abbrev nBuf : Space → Nat
  | .hbm => 7
  | .vmem => 7
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel42Ideal.lean ====
abbrev S2048x128 : Shape := ⟨2, ![2048, 128]⟩

abbrev nBuf : Space → Nat
  | .hbm => 7
  | .vmem => 7
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference42Ideal.lean ====
abbrev S2048x128 : Shape := ⟨2, ![2048, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S_, .f32⟩
  | .hbm, ⟨5, _⟩ => ⟨S2048x128, .f32⟩
  | .hbm, ⟨6, _⟩ => ⟨S2048x128, .f32⟩
  | .hbm, ⟨7, _⟩ => ⟨S_, .f32⟩
  | .hbm, ⟨8, _⟩ => ⟨S2048x128, .f32⟩
  | .hbm, ⟨9, _⟩ => ⟨S2048x128, .f32⟩
  | .hbm, ⟨10, _⟩ => ⟨S2048x128, .f32⟩
  | .hbm, ⟨11, _⟩ => ⟨S_, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S_, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S_, .f32⟩
  | .hbm, ⟨20, _⟩ => ⟨S2048x128, .f32⟩
  | .hbm, ⟨21, _⟩ => ⟨S2048x128, .f32⟩
  | .hbm, ⟨22, _⟩ => ⟨S_, .f32⟩
  | .hbm, ⟨23, _⟩ => ⟨S2048x128, .f32⟩
  | .hbm, ⟨24, _⟩ => ⟨S2048x128, .f32⟩
  | .hbm, ⟨25, _⟩ => ⟨S2048x128, .f32⟩
  | .hbm, ⟨26, _⟩ => ⟨S_, .f32⟩
  | .hbm, ⟨27, _⟩ => ⟨S2048x128, .f32⟩
  | .hbm, ⟨28, _⟩ => ⟨S2048x128, .f32⟩
  | .hbm, ⟨29, _⟩ => ⟨S2048x128, .f32⟩
  | .hbm, ⟨30, _⟩ => ⟨S_, .f32⟩
  | .hbm, ⟨31, _⟩ => ⟨S2048x128, .f32⟩
  | .hbm, ⟨32, _⟩ => ⟨S2048x128, .f32⟩
  | .hbm, ⟨33, _⟩ => ⟨S2048x128, .f32⟩
  | .hbm, ⟨34, _⟩ => ⟨S_, .f32⟩
  | .hbm, ⟨35, _⟩ => ⟨S2048x128, .f32⟩
  | .hbm, ⟨36, _⟩ => ⟨S2048x128, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel43.lean ====
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel43Ideal.lean ====
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference43Ideal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel44.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference44Ideal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.IBody.lean ====
module

public import proofs.«01_k».proof.Proof.Gen.KernelIdeal.Frame
public import proofs.«01_k».proof.Proof.Gen.KernelIdeal.Skeleton
public import Idealize.ShloMosaic.Lib.WholeRead
public import Idealize.ShloMosaic.Lib.Pipeline.FrameBody
public import Idealize.ShloMosaic.Lib.Tactic

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-- The fills at a head pair's first query block: the keys and values rounded and padded into
    scratch, the two gradient sums cleared, the two triangles of ones written. -/
def fillPart (i : grid0.Coords) (arg3 : Memref sig .tc .vmem S128x128 .f32) (harg3 : arg3.IsWhole) (arg4 : Memref sig .tc .vmem S4224x128 .f32) (harg4 : arg4.IsWhole) (arg5 : Memref sig .tc .vmem S4224x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .bf16) (harg8 : arg8.IsWhole) (arg9 : Memref sig .tc .vmem S4224x128 .bf16) (harg9 : arg9.IsWhole) (arg10 : Memref sig .tc .vmem S4224x128 .bf16) (harg10 : arg10.IsWhole) (arg11 : Memref sig .tc .vmem S4352x128 .bf16) (harg11 : arg11.IsWhole) (arg12 : Memref sig .tc .vmem S4352x128 .bf16) (harg12 : arg12.IsWhole) (arg13 : Memref sig .tc .vmem S4352x128 .f32) (harg13 : arg13.IsWhole) (arg14 : Memref sig .tc .vmem S4352x128 .f32) (harg14 : arg14.IsWhole) (arg15 : Memref sig .tc .vmem S256x256 .bf16) (harg15 : arg15.IsWhole) (arg16 : Memref sig .tc .vmem S256x256 .bf16) (harg16 : arg16.IsWhole) :
    Prog (TpuEff nD τ sig (Elt F) Λ₀ .tc) PUnit := do
  let v0 : BitVec 1 := Scalar.cmpi .eq (BitVec.ofNat 32 (i 2).val) 0#32
  let v1 : BitVec 32 := Scalar.extui v0
  let v2 : BitVec 1 := Scalar.cmpi .ne v1 0#32
  if k0_h1 : v2 = 1#1 then do
    let ⟨v239, v240, v244⟩ : Σ' (v239 : IVec S256x256 32) (v240 : IVec S256x256 32), FVec F S256x256 .bf16 ← k0_part1 i arg3 harg3 arg4 harg4 arg5 harg5 arg6 harg6 arg7 harg7 arg8 harg8 arg9 harg9 arg10 harg10 arg11 harg11 arg12 harg12 arg13 harg13 arg14 harg14 arg15 harg15 arg16 harg16
    let v245 : Vec F S256x256 .bf16 ← Prog.lift (.load arg15 (Rect.unit (s := S256x256) ![0, 0] S256x256.size inb_S256x256_S256x256_0_0).toLoadRect (View.loadsAt_vmem h_S256x256))
    Prog.lift (.store arg15 (Rect.unit (s := S256x256) ![0, 0] S256x256.size inb_S256x256_S256x256_0_0) (k0_pay42 v244) Finset.univ (View.stores_vmem h_S256x256 (harg15.storeExact_slice rfl _ packedbf16_S256x256_S256x256_0_0) (fun _ => rfl)) (.inl rfl))
    let v252 : Vec F S256x256 .bf16 ← Prog.lift (.load arg16 (Rect.unit (s := S256x256) ![0, 0] S256x256.size inb_S256x256_S256x256_0_0).toLoadRect (View.loadsAt_vmem h_S256x256))
    Prog.lift (.store arg16 (Rect.unit (s := S256x256) ![0, 0] S256x256.size inb_S256x256_S256x256_0_0) (k0_pay43 (F := F) v239 v240) Finset.univ (View.stores_vmem h_S256x256 (harg16.storeExact_slice rfl _ packedbf16_S256x256_S256x256_0_0) (fun _ => rfl)) (.inl rfl))
    pure ⟨⟩
  else do
    pure ⟨⟩

/-- One query block: the chunk walk over the keys and the query block's gradient. -/
def mainPart (i : grid0.Coords) (arg3 : Memref sig .tc .vmem S128x128 .f32) (harg3 : arg3.IsWhole) (arg4 : Memref sig .tc .vmem S4224x128 .f32) (harg4 : arg4.IsWhole) (arg5 : Memref sig .tc .vmem S4224x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .bf16) (harg8 : arg8.IsWhole) (arg9 : Memref sig .tc .vmem S4224x128 .bf16) (harg9 : arg9.IsWhole) (arg10 : Memref sig .tc .vmem S4224x128 .bf16) (harg10 : arg10.IsWhole) (arg11 : Memref sig .tc .vmem S4352x128 .bf16) (harg11 : arg11.IsWhole) (arg12 : Memref sig .tc .vmem S4352x128 .bf16) (harg12 : arg12.IsWhole) (arg13 : Memref sig .tc .vmem S4352x128 .f32) (harg13 : arg13.IsWhole) (arg14 : Memref sig .tc .vmem S4352x128 .f32) (harg14 : arg14.IsWhole) (arg15 : Memref sig .tc .vmem S256x256 .bf16) (harg15 : arg15.IsWhole) (arg16 : Memref sig .tc .vmem S256x256 .bf16) (harg16 : arg16.IsWhole) :
    Prog (TpuEff nD τ sig (Elt F) Λ₀ .tc) (BitVec 32) := do
  let v3 : Vec F S128x128 .f32 ← Prog.lift (.load arg3 (Rect.unit (s := S128x128) ![0, 0] S128x128.size inb_S128x128_S128x128_0_0).toLoadRect (View.loadsAt_vmem h_S128x128))
  let v7 : Vec F S128x128 .f32 ← Prog.lift (.load arg6 (Rect.unit (s := S128x128) ![0, 0] S128x128.size inb_S128x128_S128x128_0_0).toLoadRect (View.loadsAt_vmem h_S128x128))
  let v9 : Vec F S128x128 .f32 ← Prog.lift (.load arg7 (Rect.unit (s := S128x128) ![0, 0] S128x128.size inb_S128x128_S128x128_0_0).toLoadRect (View.loadsAt_vmem h_S128x128))
  let r9 ← k0_part9 i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) (k0_pay44 v7) (iota .tc S1x128 32 [1] iota_S1x128_d1_w32) (k0_pay48 v7)
  let r10 ← k0_part10 i arg3 harg3 arg4 harg4 arg5 harg5 arg6 harg6 arg7 harg7 arg8 harg8 arg9 harg9 arg10 harg10 arg11 harg11 arg12 harg12 arg13 harg13 arg14 harg14 arg15 harg15 arg16 harg16 (k0_pay46 v3) (k0_pay47 v9) r9.1 r9.2.1 r9.2.2.2.1 r9.2.2.2.2.1 r9.2.2.2.2.2
  let r11 ← k0_part11 i arg3 harg3 arg4 harg4 arg5 harg5 arg6 harg6 arg7 harg7 arg8 harg8 arg9 harg9 arg10 harg10 arg11 harg11 arg12 harg12 arg13 harg13 arg14 harg14 arg15 harg15 arg16 harg16 (iota .tc S1x128 32 [1] iota_S1x128_d1_w32) (k0_pay46 v3) (k0_pay47 v9) r9.1 r9.2.1 r9.2.2.1 r10.1 r10.2.1 r10.2.2.1 r10.2.2.2.1 r10.2.2.2.2.1 r10.2.2.2.2.2
  k0_part12 i arg3 harg3 arg4 harg4 arg5 harg5 arg6 harg6 arg7 harg7 arg8 harg8 arg9 harg9 arg10 harg10 arg11 harg11 arg12 harg12 arg13 harg13 arg14 harg14 arg15 harg15 arg16 harg16 k0_pay45 (k0_pay46 v3) (k0_pay47 v9) r11.1 r11.2.1 r11.2.2.1 r11.2.2.2.1 r11.2.2.2.2.1 r11.2.2.2.2.2

/-- The last query block's rounding of the two gradient sums into the results. -/
def endPart (i : grid0.Coords) (arg3 : Memref sig .tc .vmem S128x128 .f32) (harg3 : arg3.IsWhole) (arg4 : Memref sig .tc .vmem S4224x128 .f32) (harg4 : arg4.IsWhole) (arg5 : Memref sig .tc .vmem S4224x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .bf16) (harg8 : arg8.IsWhole) (arg9 : Memref sig .tc .vmem S4224x128 .bf16) (harg9 : arg9.IsWhole) (arg10 : Memref sig .tc .vmem S4224x128 .bf16) (harg10 : arg10.IsWhole) (arg11 : Memref sig .tc .vmem S4352x128 .bf16) (harg11 : arg11.IsWhole) (arg12 : Memref sig .tc .vmem S4352x128 .bf16) (harg12 : arg12.IsWhole) (arg13 : Memref sig .tc .vmem S4352x128 .f32) (harg13 : arg13.IsWhole) (arg14 : Memref sig .tc .vmem S4352x128 .f32) (harg14 : arg14.IsWhole) (arg15 : Memref sig .tc .vmem S256x256 .bf16) (harg15 : arg15.IsWhole) (arg16 : Memref sig .tc .vmem S256x256 .bf16) (harg16 : arg16.IsWhole) :
    Prog (TpuEff nD τ sig (Elt F) Λ₀ .tc) PUnit := do
  if k0_h2 : k0_cond2 i = 1#1 then do
    let v211 : Vec F S4224x128 .f32 ← Prog.lift (.load arg13 (Rect.unit (s := S4352x128) ![0, 0] S4224x128.size inb_S4352x128_S4224x128_0_0).toLoadRect (View.loadsAt_vmem h_S4224x128))
    let v213 : Vec F S4224x128 .bf16 ← Prog.lift (.load arg9 (Rect.unit (s := S4224x128) ![0, 0] S4224x128.size inb_S4224x128_S4224x128_0_0).toLoadRect (View.loadsAt_vmem h_S4224x128))
    Prog.lift (.store arg9 (Rect.unit (s := S4224x128) ![0, 0] S4224x128.size inb_S4224x128_S4224x128_0_0) (k0_pay1 v211) Finset.univ (View.stores_vmem h_S4224x128 (harg9.storeExact_slice rfl _ packedbf16_S4224x128_S4224x128_0_0) (fun _ => rfl)) (.inl rfl))
    let v214 : Vec F S4224x128 .f32 ← Prog.lift (.load arg14 (Rect.unit (s := S4352x128) ![0, 0] S4224x128.size inb_S4352x128_S4224x128_0_0).toLoadRect (View.loadsAt_vmem h_S4224x128))
    let v216 : Vec F S4224x128 .bf16 ← Prog.lift (.load arg10 (Rect.unit (s := S4224x128) ![0, 0] S4224x128.size inb_S4224x128_S4224x128_0_0).toLoadRect (View.loadsAt_vmem h_S4224x128))
    Prog.lift (.store arg10 (Rect.unit (s := S4224x128) ![0, 0] S4224x128.size inb_S4224x128_S4224x128_0_0) (k0_pay2 v214) Finset.univ (View.stores_vmem h_S4224x128 (harg10.storeExact_slice rfl _ packedbf16_S4224x128_S4224x128_0_0) (fun _ => rfl)) (.inl rfl))
    pure ⟨⟩
  else do
    pure ⟨⟩
  pure ⟨⟩

set_option maxHeartbeats 1600000 in
/-- The kernel's body is the three in a row. -/
theorem body_split (i : grid0.Coords) (arg3 : Memref sig .tc .vmem S128x128 .f32) (harg3 : arg3.IsWhole) (arg4 : Memref sig .tc .vmem S4224x128 .f32) (harg4 : arg4.IsWhole) (arg5 : Memref sig .tc .vmem S4224x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .bf16) (harg8 : arg8.IsWhole) (arg9 : Memref sig .tc .vmem S4224x128 .bf16) (harg9 : arg9.IsWhole) (arg10 : Memref sig .tc .vmem S4224x128 .bf16) (harg10 : arg10.IsWhole) (arg11 : Memref sig .tc .vmem S4352x128 .bf16) (harg11 : arg11.IsWhole) (arg12 : Memref sig .tc .vmem S4352x128 .bf16) (harg12 : arg12.IsWhole) (arg13 : Memref sig .tc .vmem S4352x128 .f32) (harg13 : arg13.IsWhole) (arg14 : Memref sig .tc .vmem S4352x128 .f32) (harg14 : arg14.IsWhole) (arg15 : Memref sig .tc .vmem S256x256 .bf16) (harg15 : arg15.IsWhole) (arg16 : Memref sig .tc .vmem S256x256 .bf16) (harg16 : arg16.IsWhole) :
    cc0_attn_bwd (F := F) i arg3 harg3 arg4 harg4 arg5 harg5 arg6 harg6 arg7 harg7 arg8 harg8 arg9 harg9 arg10 harg10 arg11 harg11 arg12 harg12 arg13 harg13 arg14 harg14 arg15 harg15 arg16 harg16
      = fillPart i arg3 harg3 arg4 harg4 arg5 harg5 arg6 harg6 arg7 harg7 arg8 harg8 arg9 harg9 arg10 harg10 arg11 harg11 arg12 harg12 arg13 harg13 arg14 harg14 arg15 harg15 arg16 harg16 >>= fun _ => mainPart i arg3 harg3 arg4 harg4 arg5 harg5 arg6 harg6 arg7 harg7 arg8 harg8 arg9 harg9 arg10 harg10 arg11 harg11 arg12 harg12 arg13 harg13 arg14 harg14 arg15 harg15 arg16 harg16 >>= fun _ => endPart i arg3 harg3 arg4 harg4 arg5 harg5 arg6 harg6 arg7 harg7 arg8 harg8 arg9 harg9 arg10 harg10 arg11 harg11 arg12 harg12 arg13 harg13 arg14 harg14 arg15 harg15 arg16 harg16 := by
  rw [cc0_attn_bwd_eq_skeleton]
  unfold cc0_attn_bwd_skel
  rw [k0_part8_eq_skeleton]
  unfold k0_part8_skel fillPart mainPart
  by_cases h : Scalar.cmpi .ne (Scalar.extui (Scalar.cmpi .eq (BitVec.ofNat 32 (i 2).val) 0#32)) 0#32 = 1#1
  · simp only [dif_pos h, Prog.bind_assoc]
    rfl
  · simp only [dif_neg h, Prog.bind_assoc]
    rfl

end Cert.KernelIdeal.Attn

end
-- ==== Proof.IIdx.lean ====
module

public import proofs.«01_k».proof.Proof.IBody

@[expose] public section

set_option maxRecDepth 16384

noncomputable section

namespace Cert.KernelIdeal.Attn

open Idealize.ShloMosaic Idealize.ShloMosaic.TcCoe Idealize.ShloMosaic.Tactic
open Cert.KernelIdeal.Gen

/-- The key block that holds the queries of a grid point: half the query block's number. -/
def hb (i : grid0.Coords) : ℕ := (i 2).val / 2

theorem hb_lt (i : grid0.Coords) : hb i < 17 := by
  have h : (i 2).val < 33 := (i 2).isLt
  unfold hb; omega

/-- Where the `n`-th key block begins. -/
def offB (n : ℕ) : Fin 2 → ℕ := ![256 * (n % 17), 0]

theorem offB_inb (n : ℕ) : ∀ a, offB n a + S256x128.size a ≤ S4352x128.size a := by
  have h : n % 17 < 17 := Nat.mod_lt _ (by norm_num)
  intro a
  match a with
  | 0 => show 256 * (n % 17) + 256 ≤ 4352; omega
  | 1 => show 0 + 128 ≤ 128; omega

theorem trips1 : ∀ i : grid0.Coords, (k0_t1_loop i).trips = hb i - 1 := by decide +kernel
theorem trips2 : ∀ i : grid0.Coords, (k0_t2_loop i).trips = 0 := by decide +kernel
theorem trips3 : ∀ i : grid0.Coords, (k0_t3_loop i).trips = min (hb i) 1 := by decide +kernel
theorem trips4 : ∀ i : grid0.Coords, (k0_t4_loop i).trips = 0 := by decide +kernel

theorem off1_eq : ∀ (i : grid0.Coords) (k : Fin (k0_t1_loop i).trips), k0_off1 i k = offB k.val := by decide +kernel
theorem off2_eq : ∀ (i : grid0.Coords) (k : Fin (k0_t1_loop i).trips), k0_off2 i k = offB (k.val + 1) := by decide +kernel
theorem off5_eq : ∀ (i : grid0.Coords) (k : Fin (k0_t3_loop i).trips), k0_off5 i k = offB (hb i - 1) := by decide +kernel
theorem off6_eq : ∀ (i : grid0.Coords) (k : Fin (k0_t3_loop i).trips), k0_off6 i k = offB (hb i) := by decide +kernel
theorem off9_eq : ∀ (i : grid0.Coords), k0_off9 i = offB (hb i) := by decide +kernel

/-- The number the code computes for the key blocks up to a grid point's own, as a word. -/
def nWord (i : grid0.Coords) : BitVec 32 :=
  let arg2 : BitVec 32 := BitVec.ofNat 32 (i 2).val
  let v65 : BitVec 32 := Scalar.subi (Scalar.extui (Scalar.cmpi .sgt arg2 0#32)) (Scalar.extui (Scalar.cmpi .slt arg2 0#32))
  let v70 : BitVec 32 := Scalar.subi (Scalar.extui (Scalar.cmpi .sgt 2#32 0#32)) (Scalar.extui (Scalar.cmpi .slt 2#32 0#32))
  let v74 : BitVec 1 := Scalar.andi (Scalar.cmpi .ne v65 v70) (Scalar.cmpi .ne (Scalar.remsi arg2 2#32) 0#32)
  let v60 : BitVec 32 := Scalar.divsi arg2 2#32
  Scalar.addi (Scalar.select v74 (Scalar.subi v60 1#32) v60) 1#32

/-- The masked trip's key block as the code computes it. -/
theorem iv3_eq : ∀ (i : grid0.Coords) (k : Fin (k0_t3_loop i).trips),
    Scf.iv (Scalar.maxsi (Scalar.subi (nWord i) 1#32) 1#32) 1#32 k = BitVec.ofNat 32 (hb i) := by decide +kernel

end Cert.KernelIdeal.Attn

end
-- ==== Proof.IModel.lean ====
module

public import proofs.«01_k».proof.Proof.IIdx

@[expose] public section

set_option maxRecDepth 16384

noncomputable section

namespace Cert.KernelIdeal.Attn

open Idealize.ShloMosaic Idealize.ShloMosaic.TcCoe Idealize.ShloMosaic.Tactic
open Cert.KernelIdeal.Gen

variable {F : FTy → Type} [FloatOps F] [Named F]

open Classical in
/-- Contents with the block at a rectangle replaced. -/
def wr {S : Shape} {α : Type} (b : S.Idx → α) (r : Rect S) (w : r.shape.Idx → α) : S.Idx → α :=
  fun y => if h : ∃ x, r.emb x = y then w h.choose else b y

theorem wr_emb {S : Shape} {α : Type} (b : S.Idx → α) (r : Rect S) (w : r.shape.Idx → α) (x : r.shape.Idx) :
    wr b r w (r.emb x) = w x := by
  have h : ∃ x', r.emb x' = r.emb x := ⟨x, rfl⟩
  unfold wr
  rw [dif_pos h]
  exact congrArg w (r.emb.injective h.choose_spec)

theorem wr_miss {S : Shape} {α : Type} (b : S.Idx → α) (r : Rect S) (w : r.shape.Idx → α) (y : S.Idx)
    (hy : y ∉ r.set) : wr b r w y = b y := by
  unfold wr
  rw [dif_neg]
  rintro ⟨x, rfl⟩
  exact hy (r.idx_mem x)

/-- What one store leaves in a whole buffer, as contents. -/
theorem writes_unread {sp : Space} {S : Shape} {e : EltTy} {m : Memref sig .tc sp S e} (h : m.IsWhole)
    (b : S.Idx → Elt F e) (r : Rect S) (w : r.shape.Idx → Elt F e) :
    m.view.writes (Elt F) (h.unread b) [⟨r, w⟩] = h.unread (wr b r w) := by
  apply h.eq_unread
  funext y
  by_cases hy : y ∈ r.set
  · obtain ⟨x, rfl⟩ := r.exists_idx_of_mem hy
    exact (View.read_writes_cons_emb _ _ r w [] x).trans (wr_emb b r w x).symm
  · rw [wr_miss b r w y hy, View.read_writes_cons_miss _ _ _ _ _ hy]
    exact congrFun (h.read_unread b) y

/-- The rectangle of the `n`-th key block. -/
abbrev rB (n : ℕ) : Rect S4352x128 := Rect.unit (s := S4352x128) (offB n) S256x128.size (offB_inb n)

/-- The `n`-th key block of contents. -/
def rd {α : Type} (b : S4352x128.Idx → α) (n : ℕ) : S256x128.Idx → α := fun x => b ((rB n).emb x)

/-- Contents with the `n`-th key block replaced. -/
def wrB {α : Type} (b : S4352x128.Idx → α) (n : ℕ) (w : S256x128.Idx → α) : S4352x128.Idx → α := wr b (rB n) w

theorem readAt_block {e : EltTy} {m : Memref sig .tc .vmem S4352x128 e} (h : m.IsWhole) (b : S4352x128.Idx → Elt F e)
    (off : Fin 2 → ℕ) (inb) (n : ℕ) (hoff : off = offB n) :
    View.readAt (Elt F) m.view (Rect.unit (s := S4352x128) off S256x128.size inb).toLoadRect (h.unread b) = rd b n := by
  subst hoff
  funext x
  exact h.readAt_unread b _ x

theorem writes_block {e : EltTy} {m : Memref sig .tc .vmem S4352x128 e} (h : m.IsWhole) (b : S4352x128.Idx → Elt F e)
    (off : Fin 2 → ℕ) (inb) (n : ℕ) (hoff : off = offB n) (w : S256x128.Idx → Elt F e) :
    m.view.writes (Elt F) (h.unread b) [⟨Rect.unit (s := S4352x128) off S256x128.size inb, w⟩] = h.unread (wrB b n w) := by
  subst hoff
  exact writes_unread h b (rB n) w

theorem zero2 : (![0, 0] : Fin 2 → ℕ) = fun _ => 0 := by decide

/-- A load through the rectangle that is the whole buffer. -/
theorem readAt_full {S : Shape} {e : EltTy} {m : Memref sig .tc .vmem S e} (h : m.IsWhole) (b : S.Idx → Elt F e)
    (off : Fin S.rank → ℕ) (inb) (hoff : off = fun _ => 0) :
    View.readAt (Elt F) m.view (Rect.unit (s := S) off S.size inb).toLoadRect (h.unread b) = b := by
  rw [View.readAt_eq_ld, h.read_unread]
  exact View.ld_unit_zero hoff inb b

theorem readAt_full256 {e : EltTy} {m : Memref sig .tc .vmem S256x256 e} (h : m.IsWhole) (b : S256x256.Idx → Elt F e)
    (off : Fin 2 → ℕ) (inb) (hoff : off = fun _ => 0) :
    View.readAt (Elt F) m.view (Rect.unit (s := S256x256) off S256x256.size inb).toLoadRect (h.unread b) = b :=
  readAt_full h b off inb hoff

theorem readAt_full128 {e : EltTy} {m : Memref sig .tc .vmem S128x128 e} (h : m.IsWhole) (b : S128x128.Idx → Elt F e)
    (off : Fin 2 → ℕ) (inb) (hoff : off = fun _ => 0) :
    View.readAt (Elt F) m.view (Rect.unit (s := S128x128) off S128x128.size inb).toLoadRect (h.unread b) = b :=
  readAt_full h b off inb hoff

/-- A store through the rectangle that is the whole buffer. -/
theorem writes_full {S : Shape} {e : EltTy} {m : Memref sig .tc .vmem S e} (h : m.IsWhole) (f : m.view.ty.Contents (Elt F))
    (off : Fin S.rank → ℕ) (inb) (hoff : off = fun _ => 0) (w : S.Idx → Elt F e) :
    m.view.writes (Elt F) f [⟨Rect.unit (s := S) off S.size inb, w⟩] = h.unread w := by
  subst hoff
  apply h.eq_unread
  funext y
  have hy : (Rect.unit (s := S) (fun _ => 0) S.size inb).emb y = y := Rect.emb_whole_apply S y
  conv_lhs => rw [← hy]
  exact View.read_writes_cons_emb _ _ (Rect.unit (s := S) (fun _ => 0) S.size inb) w [] y

/-- What a trip of the key loops carries: the terms of the block before, the query gradient so far, the sums. -/
abbrev Acc (F : FTy → Type) [FloatOps F] [Named F] : Type :=
  FVec F S256x256 .f32 × FVec F S256x256 .bf16 × FVec F S256x256 .f32 × FVec F S256x128 .f32 × FVec F S256x1 .f32 × FVec F S256x1 .f32

/-- The carried values and the two gradient buffers. -/
structure St (F : FTy → Type) [FloatOps F] [Named F] where
  acc : Acc F
  dk : Vec F S4352x128 .f32
  dv : Vec F S4352x128 .f32

section
variable (v23 v33 : FVec F S256x128 .bf16) (v50 : FVec F S256x1 .f32) (v59 : IVec S256x1 32)
  (kb vb : Vec F S4352x128 .bf16) (tb tu : Vec F S256x256 .bf16)

/-- One unmasked trip: block `n`'s terms leave for the gradients, block `n + 1`'s are computed. -/
def step1 (n : ℕ) (s : St F) : St F :=
  match s.acc with
  | (e, w, z, dq, l, t) =>
    { acc := (k0_pay72 v23 v33 v50 l (rd kb (n + 1)) (rd vb (n + 1)) tb, k0_pay73 v23 v50 l (rd kb (n + 1)) tb,
        k0_pay71 v23 (rd kb (n + 1)), k0_pay13 e z dq t tu (rd kb n), k0_pay74 v23 l (rd kb (n + 1)), k0_pay14 e t)
      dk := wrB s.dk n (k0_pay11 v23 e z t tu (rd s.dk n))
      dv := wrB s.dv n (k0_pay12 v33 w (rd s.dv n)) }

/-- The trip into the block that holds the queries themselves, masked. -/
def step3 (h : ℕ) (s : St F) : St F :=
  match s.acc with
  | (e, w, z, dq, l, t) =>
    { acc := (k0_pay84 (k0_pay27 v23 v59 (BitVec.ofNat 32 h) (rd kb h)) (k0_pay29 v33 (rd vb h)) (k0_pay30 v23 v50 v59 l (BitVec.ofNat 32 h) (rd kb h) tb),
        k0_pay85 (k0_pay27 v23 v59 (BitVec.ofNat 32 h) (rd kb h)) (k0_pay30 v23 v50 v59 l (BitVec.ofNat 32 h) (rd kb h) tb),
        k0_pay83 (k0_pay28 v23 v59 (BitVec.ofNat 32 h) (rd kb h)), k0_pay23 e z dq t tu (rd kb (h - 1)),
        k0_pay86 l (k0_pay28 v23 v59 (BitVec.ofNat 32 h) (rd kb h)), k0_pay24 e t)
      dk := wrB s.dk (h - 1) (k0_pay21 v23 e z t tu (rd s.dk (h - 1)))
      dv := wrB s.dv (h - 1) (k0_pay22 v33 w (rd s.dv (h - 1))) }

/-- The unmasked trips from a state, the first `n`. -/
def iter1 (s : St F) : ℕ → St F
  | 0 => s
  | n + 1 => step1 v23 v33 v50 kb vb tb tu n (iter1 s n)

/-- The state after `n` masked trips, of which there is one at most. -/
def iter3 (h : ℕ) (s : St F) (n : ℕ) : St F := if n = 0 then s else step3 v23 v33 v50 v59 kb vb tb tu h s

/-- All the trips before the last block leaves for the gradients. -/
@[reducible] def trips (h : ℕ) (s : St F) : St F :=
  iter3 v23 v33 v50 v59 kb vb tb tu h (iter1 v23 v33 v50 kb vb tb tu s (h - 1)) (min h 1)

end

end Cert.KernelIdeal.Attn

end
-- ==== Proof.ILoops.lean ====
module

public import proofs.«01_k».proof.Proof.IModel

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-- A counted loop by an invariant, its trip count named. -/
theorem loop_bind (c : Dev nD) (E : Set ℕ) {σ β : Type} (l : Scf.Loop 32) (hok : l.OK) (n : ℕ) (hn : l.trips = n) (init : σ)
    (body : Fin l.trips → σ → Prog (TpuEff nD τ sig (Elt F) Λ₀ .tc) σ) (I : ℕ → σ → sProp 𝕄)
    (hbody : ∀ (k : Fin l.trips) (acc : σ), I k.val acc ⊢ wp frame (wpE (defs₀ (F := F)) Variants.none (c : Thread nD τ) none) E (body k acc) (I (k.val + 1)))
    {kk : σ → Prog (TpuEff nD τ sig (Elt F) Λ₀ .tc) β} {Q : β → sProp 𝕄} :
    I 0 init ⊢ iprop((∀ acc, I n acc -∗ wp frame (wpE (defs₀ (F := F)) Variants.none (c : Thread nD τ) none) E (kk acc) Q)
      -∗ wp frame (wpE (defs₀ (F := F)) Variants.none (c : Thread nD τ) none) E (Scf.Loop.for l hok init body >>= kk) Q) := by
  subst hn
  exact Scf.wp_for_bind frame (wpE (defs₀ (F := F)) Variants.none (c : Thread nD τ) none) E l.lb l.ub l.st hok init body I hbody

/-- What the key loops touch: the rounded keys and values and the two triangles, read only; the two
    gradient buffers, written. -/
abbrev Res (c : Dev nD) (arg11 : Memref sig .tc .vmem S4352x128 .bf16) (harg11 : arg11.IsWhole) (arg12 : Memref sig .tc .vmem S4352x128 .bf16) (harg12 : arg12.IsWhole) (arg13 : Memref sig .tc .vmem S4352x128 .f32) (harg13 : arg13.IsWhole) (arg14 : Memref sig .tc .vmem S4352x128 .f32) (harg14 : arg14.IsWhole) (arg15 : Memref sig .tc .vmem S256x256 .bf16) (harg15 : arg15.IsWhole) (arg16 : Memref sig .tc .vmem S256x256 .bf16) (harg16 : arg16.IsWhole)
    (kb vb : Vec F S4352x128 .bf16) (tb tu : Vec F S256x256 .bf16) (dk dv : Vec F S4352x128 .f32) : sProp 𝕄 :=
  iprop((arg11.view.loc (c : Thread nD τ) ↦[arg11.view.set]{fullShare} harg11.unread kb) ∗ (arg12.view.loc (c : Thread nD τ) ↦[arg12.view.set]{fullShare} harg12.unread vb) ∗ (arg15.view.loc (c : Thread nD τ) ↦[arg15.view.set]{fullShare} harg15.unread tb) ∗ (arg16.view.loc (c : Thread nD τ) ↦[arg16.view.set]{fullShare} harg16.unread tu)
    ∗ (∃ f, (arg13.view.loc (c : Thread nD τ) ↦[arg13.view.set]{fullShare} f) ∗ ⌜f = harg13.unread dk⌝)
    ∗ (∃ f, (arg14.view.loc (c : Thread nD τ) ↦[arg14.view.set]{fullShare} f) ∗ ⌜f = harg14.unread dv⌝))

section
variable (c : Dev nD) (E : Set ℕ) (i : grid0.Coords) (arg3 : Memref sig .tc .vmem S128x128 .f32) (harg3 : arg3.IsWhole) (arg4 : Memref sig .tc .vmem S4224x128 .f32) (harg4 : arg4.IsWhole) (arg5 : Memref sig .tc .vmem S4224x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .bf16) (harg8 : arg8.IsWhole) (arg9 : Memref sig .tc .vmem S4224x128 .bf16) (harg9 : arg9.IsWhole) (arg10 : Memref sig .tc .vmem S4224x128 .bf16) (harg10 : arg10.IsWhole) (arg11 : Memref sig .tc .vmem S4352x128 .bf16) (harg11 : arg11.IsWhole) (arg12 : Memref sig .tc .vmem S4352x128 .bf16) (harg12 : arg12.IsWhole) (arg13 : Memref sig .tc .vmem S4352x128 .f32) (harg13 : arg13.IsWhole) (arg14 : Memref sig .tc .vmem S4352x128 .f32) (harg14 : arg14.IsWhole) (arg15 : Memref sig .tc .vmem S256x256 .bf16) (harg15 : arg15.IsWhole) (arg16 : Memref sig .tc .vmem S256x256 .bf16) (harg16 : arg16.IsWhole)
  (v11 : IVec S1x128 32) (v23 : FVec F S256x128 .bf16) (v33 : FVec F S256x128 .bf16) (v50 : FVec F S256x1 .f32) (v59 : IVec S256x1 32) (v77 : BitVec 32) (v82 : FVec F S256x1 .f32) (v110 : FVec F S256x256 .f32) (v112 : FVec F S256x256 .f32) (v115 : FVec F S256x256 .f32) (v116 : FVec F S256x1 .f32) (v124 : FVec F S256x256 .f32)
  (kb vb : Vec F S4352x128 .bf16) (tb tu : Vec F S256x256 .bf16) (dk dv : Vec F S4352x128 .f32)

set_option maxHeartbeats 1600000 in
/-- One unmasked trip. -/
theorem trip1_run (k : Fin (k0_t1_loop i).trips) (acc : Acc F) :
    Res c arg11 harg11 arg12 harg12 arg13 harg13 arg14 harg14 arg15 harg15 arg16 harg16 kb vb tb tu dk dv
      ⊢ wp frame (wpE (defs₀ (F := F)) Variants.none (c : Thread nD τ) none) E (k0_t1_body i arg3 harg3 arg4 harg4 arg5 harg5 arg6 harg6 arg7 harg7 arg8 harg8 arg9 harg9 arg10 harg10 arg11 harg11 arg12 harg12 arg13 harg13 arg14 harg14 arg15 harg15 arg16 harg16 v11 v23 v33 v50 v59 v77 v82 v110 v112 v115 v116 v124 k acc)
        (fun yld => iprop(Res c arg11 harg11 arg12 harg12 arg13 harg13 arg14 harg14 arg15 harg15 arg16 harg16 kb vb tb tu (step1 v23 v33 v50 kb vb tb tu k.val ⟨acc, dk, dv⟩).dk (step1 v23 v33 v50 kb vb tb tu k.val ⟨acc, dk, dv⟩).dv
          ∗ ⌜yld = (step1 v23 v33 v50 kb vb tb tu k.val ⟨acc, dk, dv⟩).acc⌝)) := by
  obtain ⟨e, w, z, dq, l, t⟩ := acc
  unfold k0_t1_body
  simp only [k0_part2_eq_skeleton]
  iintro ⟨HR11, HR12, HR15, HR16, ⟨%f13, HW13, %h13⟩, ⟨%f14, HW14, %h14⟩⟩
  subst h13; subst h14
  sl_exec
  sl_step
  unfold trip1_run.sl.r
  simp only [step1, readAt_block _ _ _ _ _ (off1_eq i k), readAt_block _ _ _ _ _ (off2_eq i k), readAt_full256 _ _ _ _ zero2,
    writes_block _ _ _ _ _ (off1_eq i k)]
  isplitl [HR11 HR12 HR15 HR16 HW13 HW14]
  · isplitl [HR11]; · iexact HR11
    isplitl [HR12]; · iexact HR12
    isplitl [HR15]; · iexact HR15
    isplitl [HR16]; · iexact HR16
    isplitl [HW13]
    · iexists _; isplitl [HW13]; · iexact HW13
      ipureintro; with_reducible rfl
    · iexists _; isplitl [HW14]; · iexact HW14
      ipureintro; with_reducible rfl
  · ipureintro; with_reducible trivial

set_option maxHeartbeats 1600000 in
/-- The masked trip. -/
theorem trip3_run (k : Fin (k0_t3_loop i).trips) (acc : Acc F) :
    Res c arg11 harg11 arg12 harg12 arg13 harg13 arg14 harg14 arg15 harg15 arg16 harg16 kb vb tb tu dk dv
      ⊢ wp frame (wpE (defs₀ (F := F)) Variants.none (c : Thread nD τ) none) E (k0_t3_body i arg3 harg3 arg4 harg4 arg5 harg5 arg6 harg6 arg7 harg7 arg8 harg8 arg9 harg9 arg10 harg10 arg11 harg11 arg12 harg12 arg13 harg13 arg14 harg14 arg15 harg15 arg16 harg16 v11 v23 v33 v50 v59 v77 v82 v110 v112 v115 v116 v124 (Scalar.maxsi (Scalar.subi (nWord i) 1#32) 1#32) k acc)
        (fun yld => iprop(Res c arg11 harg11 arg12 harg12 arg13 harg13 arg14 harg14 arg15 harg15 arg16 harg16 kb vb tb tu (step3 v23 v33 v50 v59 kb vb tb tu (hb i) ⟨acc, dk, dv⟩).dk (step3 v23 v33 v50 v59 kb vb tb tu (hb i) ⟨acc, dk, dv⟩).dv
          ∗ ⌜yld = (step3 v23 v33 v50 v59 kb vb tb tu (hb i) ⟨acc, dk, dv⟩).acc⌝)) := by
  obtain ⟨e, w, z, dq, l, t⟩ := acc
  unfold k0_t3_body
  simp only [k0_part4_eq_skeleton, k0_part5_eq_skeleton]
  iintro ⟨HR11, HR12, HR15, HR16, ⟨%f13, HW13, %h13⟩, ⟨%f14, HW14, %h14⟩⟩
  subst h13; subst h14
  sl_exec
  sl_step
  have h17 : trip3_run.sl.arg17 i k = BitVec.ofNat 32 (hb i) := iv3_eq i k
  unfold trip3_run.sl.r trip3_run.sl.r_1 trip3_run.sl.r_2 trip3_run.sl.r_3 trip3_run.sl.r_4
  simp only [step3, h17, readAt_block _ _ _ _ _ (off5_eq i k), readAt_block _ _ _ _ _ (off6_eq i k), readAt_full256 _ _ _ _ zero2,
    writes_block _ _ _ _ _ (off5_eq i k)]
  isplitl [HR11 HR12 HR15 HR16 HW13 HW14]
  · isplitl [HR11]; · iexact HR11
    isplitl [HR12]; · iexact HR12
    isplitl [HR15]; · iexact HR15
    isplitl [HR16]; · iexact HR16
    isplitl [HW13]
    · iexists _; isplitl [HW13]; · iexact HW13
      ipureintro; with_reducible rfl
    · iexists _; isplitl [HW14]; · iexact HW14
      ipureintro; with_reducible rfl
  · ipureintro; with_reducible trivial

theorem iter1_zero (s : St F) : iter1 v23 v33 v50 kb vb tb tu s 0 = s := rfl

theorem iter3_zero (h : ℕ) (s : St F) : iter3 v23 v33 v50 v59 kb vb tb tu h s 0 = s := rfl

/-- The unmasked trips' invariant: the buffers at the model's state. -/
abbrev I1 (init : Acc F) (k : ℕ) (acc : Acc F) : sProp 𝕄 :=
  iprop(Res c arg11 harg11 arg12 harg12 arg13 harg13 arg14 harg14 arg15 harg15 arg16 harg16 kb vb tb tu (iter1 v23 v33 v50 kb vb tb tu ⟨init, dk, dv⟩ k).dk (iter1 v23 v33 v50 kb vb tb tu ⟨init, dk, dv⟩ k).dv
    ∗ ⌜acc = (iter1 v23 v33 v50 kb vb tb tu ⟨init, dk, dv⟩ k).acc⌝)

theorem I1_step (init : Acc F) (k : Fin (k0_t1_loop i).trips) (acc : Acc F) :
    I1 c arg11 harg11 arg12 harg12 arg13 harg13 arg14 harg14 arg15 harg15 arg16 harg16 v23 v33 v50 kb vb tb tu dk dv init k.val acc
      ⊢ wp frame (wpE (defs₀ (F := F)) Variants.none (c : Thread nD τ) none) E (k0_t1_body i arg3 harg3 arg4 harg4 arg5 harg5 arg6 harg6 arg7 harg7 arg8 harg8 arg9 harg9 arg10 harg10 arg11 harg11 arg12 harg12 arg13 harg13 arg14 harg14 arg15 harg15 arg16 harg16 v11 v23 v33 v50 v59 v77 v82 v110 v112 v115 v116 v124 k acc)
        (I1 c arg11 harg11 arg12 harg12 arg13 harg13 arg14 harg14 arg15 harg15 arg16 harg16 v23 v33 v50 kb vb tb tu dk dv init (k.val + 1)) := by
  iintro ⟨HR, %hacc⟩
  subst hacc
  iapply (trip1_run c E i arg3 harg3 arg4 harg4 arg5 harg5 arg6 harg6 arg7 harg7 arg8 harg8 arg9 harg9 arg10 harg10 arg11 harg11 arg12 harg12 arg13 harg13 arg14 harg14 arg15 harg15 arg16 harg16 v11 v23 v33 v50 v59 v77 v82 v110 v112 v115 v116 v124 kb vb tb tu _ _ k _)
  iexact HR

/-- The masked trip's invariant. -/
abbrev I3 (s : St F) (k : ℕ) (acc : Acc F) : sProp 𝕄 :=
  iprop(Res c arg11 harg11 arg12 harg12 arg13 harg13 arg14 harg14 arg15 harg15 arg16 harg16 kb vb tb tu (iter3 v23 v33 v50 v59 kb vb tb tu (hb i) s k).dk (iter3 v23 v33 v50 v59 kb vb tb tu (hb i) s k).dv
    ∗ ⌜acc = (iter3 v23 v33 v50 v59 kb vb tb tu (hb i) s k).acc⌝)

theorem I3_step (s : St F) (k : Fin (k0_t3_loop i).trips) (acc : Acc F) :
    I3 c i arg11 harg11 arg12 harg12 arg13 harg13 arg14 harg14 arg15 harg15 arg16 harg16 v23 v33 v50 v59 kb vb tb tu s k.val acc
      ⊢ wp frame (wpE (defs₀ (F := F)) Variants.none (c : Thread nD τ) none) E (k0_t3_body i arg3 harg3 arg4 harg4 arg5 harg5 arg6 harg6 arg7 harg7 arg8 harg8 arg9 harg9 arg10 harg10 arg11 harg11 arg12 harg12 arg13 harg13 arg14 harg14 arg15 harg15 arg16 harg16 v11 v23 v33 v50 v59 v77 v82 v110 v112 v115 v116 v124 (Scalar.maxsi (Scalar.subi (nWord i) 1#32) 1#32) k acc)
        (I3 c i arg11 harg11 arg12 harg12 arg13 harg13 arg14 harg14 arg15 harg15 arg16 harg16 v23 v33 v50 v59 kb vb tb tu s (k.val + 1)) := by
  have hk : k.val = 0 := by
    have h := k.isLt
    have h3 : (k0_t3_loop i).trips = min (hb i) 1 := trips3 i
    have h4 : k.val < min (hb i) 1 := lt_of_lt_of_eq h h3
    omega
  rw [hk]
  iintro ⟨HR, %hacc⟩
  subst hacc
  iapply (trip3_run c E i arg3 harg3 arg4 harg4 arg5 harg5 arg6 harg6 arg7 harg7 arg8 harg8 arg9 harg9 arg10 harg10 arg11 harg11 arg12 harg12 arg13 harg13 arg14 harg14 arg15 harg15 arg16 harg16 v11 v23 v33 v50 v59 v77 v82 v110 v112 v115 v116 v124 kb vb tb tu _ _ k _)
  iexact HR

set_option maxHeartbeats 800000 in
/-- The key loops, from any carried state. -/
theorem part11_run (h77 : v77 = nWord i) :
    Res c arg11 harg11 arg12 harg12 arg13 harg13 arg14 harg14 arg15 harg15 arg16 harg16 kb vb tb tu dk dv
      ⊢ wp frame (wpE (defs₀ (F := F)) Variants.none (c : Thread nD τ) none) E (k0_part11 i arg3 harg3 arg4 harg4 arg5 harg5 arg6 harg6 arg7 harg7 arg8 harg8 arg9 harg9 arg10 harg10 arg11 harg11 arg12 harg12 arg13 harg13 arg14 harg14 arg15 harg15 arg16 harg16 v11 v23 v33 v50 v59 v77 v82 v110 v112 v115 v116 v124)
        (fun r => iprop(∃ s : St F, Res c arg11 harg11 arg12 harg12 arg13 harg13 arg14 harg14 arg15 harg15 arg16 harg16 kb vb tb tu s.dk s.dv
          ∗ ⌜s = Attn.trips v23 v33 v50 v59 kb vb tb tu (hb i) ⟨(k0_pay64 v110 v115 v116 v124, k0_pay65 v110 v116 v124, k0_pay63 v112, k0_pay67 v11 v82, k0_pay66 v82 v112, v82), dk, dv⟩⌝
          ∗ ⌜r.1 = s.acc.1⌝ ∗ ⌜r.2.1 = s.acc.2.1⌝ ∗ ⌜r.2.2.1 = s.acc.2.2.1⌝ ∗ ⌜r.2.2.2.1 = s.acc.2.2.2.1⌝ ∗ ⌜r.2.2.2.2.1 = s.acc.2.2.2.2.2⌝)) := by
  subst h77
  rw [k0_part11_eq_skeleton]
  unfold k0_part11_skel
  have htr2 : (k0_t2_loop i).trips = 0 := trips2 i
  have htr4 : (k0_t4_loop i).trips = 0 := trips4 i
  generalize (k0_pay64 v110 v115 v116 v124, k0_pay65 v110 v116 v124, k0_pay63 v112, k0_pay67 v11 v82, k0_pay66 v82 v112, v82) = init
  iintro HR
  iapply (loop_bind c E (k0_t1_loop i) (k0_t1_ok i) (hb i - 1) (trips1 i) _ _
    (I1 c arg11 harg11 arg12 harg12 arg13 harg13 arg14 harg14 arg15 harg15 arg16 harg16 v23 v33 v50 kb vb tb tu dk dv init)
    (I1_step c E i arg3 harg3 arg4 harg4 arg5 harg5 arg6 harg6 arg7 harg7 arg8 harg8 arg9 harg9 arg10 harg10 arg11 harg11 arg12 harg12 arg13 harg13 arg14 harg14 arg15 harg15 arg16 harg16 v11 v23 v33 v50 v59 (nWord i) v82 v110 v112 v115 v116 v124 kb vb tb tu dk dv _)) $$ [HR]
  · isplitl [HR]; · iexact HR
    ipureintro; rw [iter1_zero]
  iintro %acc1 ⟨HR, %hacc1⟩
  obtain ⟨a1, a2, a3, a4, a5, a6⟩ := acc1
  iapply (loop_bind c E (k0_t2_loop i) (k0_t2_ok i) 0 htr2 _ _
    (fun _ acc => iprop(⌜acc = (a1, a2, a3, a4, a5, a6)⌝)) (fun k _ => absurd (lt_of_lt_of_eq k.isLt htr2) (Nat.not_lt_zero _))) $$ []
  · ipureintro; with_reducible rfl
  iintro %acc2 %hacc2
  subst hacc2
  iapply (loop_bind c E (k0_t3_loop i) (k0_t3_ok i) (min (hb i) 1) (trips3 i) _ _
    (I3 c i arg11 harg11 arg12 harg12 arg13 harg13 arg14 harg14 arg15 harg15 arg16 harg16 v23 v33 v50 v59 kb vb tb tu (iter1 v23 v33 v50 kb vb tb tu ⟨init, dk, dv⟩ (hb i - 1)))
    (I3_step c E i arg3 harg3 arg4 harg4 arg5 harg5 arg6 harg6 arg7 harg7 arg8 harg8 arg9 harg9 arg10 harg10 arg11 harg11 arg12 harg12 arg13 harg13 arg14 harg14 arg15 harg15 arg16 harg16 v11 v23 v33 v50 v59 (nWord i) v82 v110 v112 v115 v116 v124 kb vb tb tu _)) $$ [HR]
  · isplitl [HR]; · iexact HR
    ipureintro; rw [iter3_zero]; exact hacc1
  iintro %acc3 ⟨HR, %hacc3⟩
  obtain ⟨b1, b2, b3, b4, b5, b6⟩ := acc3
  iapply (loop_bind c E (k0_t4_loop i) (k0_t4_ok i) 0 htr4 _ _
    (fun _ acc => iprop(⌜acc = (b1, b2, b3, b4, b5, b6)⌝)) (fun k _ => absurd (lt_of_lt_of_eq k.isLt htr4) (Nat.not_lt_zero _))) $$ []
  · ipureintro; with_reducible rfl
  iintro %acc4 %hacc4
  subst hacc4
  dsimp only
  sl_step
  iexists _
  isplitl [HR]; · iexact HR
  isplitl []
  · ipureintro
    with_reducible rfl
  isplitl []; · ipureintro; exact congrArg (fun a : Acc F => a.1) hacc3
  isplitl []; · ipureintro; exact congrArg (fun a : Acc F => a.2.1) hacc3
  isplitl []; · ipureintro; exact congrArg (fun a : Acc F => a.2.2.1) hacc3
  isplitl []; · ipureintro; exact congrArg (fun a : Acc F => a.2.2.2.1) hacc3
  ipureintro; exact congrArg (fun a : Acc F => a.2.2.2.2.2) hacc3

end

end Cert.KernelIdeal.Attn

end
-- ==== Proof.IMain.lean ====
module

public import proofs.«01_k».proof.Proof.ILoops

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

section
variable (i : grid0.Coords) (x0 x3 x4 : Vec F S128x128 .f32) (kb vb : Vec F S4352x128 .bf16) (tb tu : Vec F S256x256 .bf16) (dk dv : Vec F S4352x128 .f32)

/-- The queries of the two heads, one under the other, scaled and rounded. -/
def mQ : FVec F S256x128 .bf16 := k0_pay46 x0
/-- The cotangents of the two heads, one under the other, rounded. -/
def mD : FVec F S256x128 .bf16 := k0_pay47 x4
/-- The lane numbers. -/
def mLane : IVec S1x128 32 := iota .tc S1x128 32 [1] iota_S1x128_d1_w32
/-- The saved row sums of the two heads, one under the other. -/
def mTot : FVec F S256x1 .f32 := k0_pay49 (k0_pay44 x3) mLane (k0_pay48 x3)
/-- The positions of the query rows. -/
def mPos : IVec S256x1 32 := k0_pay50 (BitVec.ofNat 32 (i 2).val)

/-- What the key loops start from: the first key block's terms. -/
def mInit : St F :=
  ⟨(k0_pay64 (k0_pay57 (mQ x0) (mPos i) (rd kb 0)) (k0_pay59 (mD x4) (rd vb 0)) (k0_pay60 (mTot x3) k0_pay51 k0_pay52 k0_pay53) (k0_pay61 (mQ x0) (mPos i) (rd kb 0) tb),
    k0_pay65 (k0_pay57 (mQ x0) (mPos i) (rd kb 0)) (k0_pay60 (mTot x3) k0_pay51 k0_pay52 k0_pay53) (k0_pay61 (mQ x0) (mPos i) (rd kb 0) tb),
    k0_pay63 (k0_pay58 (mQ x0) (mPos i) (rd kb 0)),
    k0_pay67 mLane (k0_pay54 k0_pay51 k0_pay52 k0_pay53),
    k0_pay66 (k0_pay54 k0_pay51 k0_pay52 k0_pay53) (k0_pay58 (mQ x0) (mPos i) (rd kb 0)),
    k0_pay54 k0_pay51 k0_pay52 k0_pay53), dk, dv⟩

/-- The state after the key loops. -/
def mSt : St F := trips (mQ x0) (mD x4) (mTot x3) (mPos i) kb vb tb tu (hb i) (mInit i x0 x3 x4 kb vb tb dk dv)

/-- The key gradient's sums after one query block. -/
def mainDk : Vec F S4352x128 .f32 :=
  wrB (mSt i x0 x3 x4 kb vb tb tu dk dv).dk (hb i) (k0_pay93 (mQ x0) (mSt i x0 x3 x4 kb vb tb tu dk dv).acc.1 (mSt i x0 x3 x4 kb vb tb tu dk dv).acc.2.2.1 (mSt i x0 x3 x4 kb vb tb tu dk dv).acc.2.2.2.2.2 tu (rd (mSt i x0 x3 x4 kb vb tb tu dk dv).dk (hb i)))

/-- The value gradient's sums after one query block. -/
def mainDv : Vec F S4352x128 .f32 :=
  wrB (mSt i x0 x3 x4 kb vb tb tu dk dv).dv (hb i) (k0_pay94 (mD x4) (mSt i x0 x3 x4 kb vb tb tu dk dv).acc.2.1 (rd (mSt i x0 x3 x4 kb vb tb tu dk dv).dv (hb i)))

/-- The query gradient of one query block. -/
def mainDq : Vec F S128x128 .bf16 :=
  k0_pay95 k0_pay45 (mSt i x0 x3 x4 kb vb tb tu dk dv).acc.1 (mSt i x0 x3 x4 kb vb tb tu dk dv).acc.2.2.1 (mSt i x0 x3 x4 kb vb tb tu dk dv).acc.2.2.2.1 (mSt i x0 x3 x4 kb vb tb tu dk dv).acc.2.2.2.2.2 tu (rd kb (hb i))

end

theorem off0_eq : (![0, 0] : Fin 2 → ℕ) = offB 0 := by decide

/-- What the loads, the saved sums' columns and the first key block give the key loops. -/
abbrev R9 (F : FTy → Type) [FloatOps F] [Named F] : Type :=
  Σ' (v50 : FVec F S256x1 .f32) (v59 : IVec S256x1 32) (v77 : BitVec 32) (v79 : IVec S256x1 1) (v80 : FVec F S256x1 .f32), FVec F S256x1 .f32
abbrev R10 (F : FTy → Type) [FloatOps F] [Named F] : Type :=
  Σ' (v82 : FVec F S256x1 .f32) (v110 : FVec F S256x256 .f32) (v112 : FVec F S256x256 .f32) (v115 : FVec F S256x256 .f32) (v116 : FVec F S256x1 .f32), FVec F S256x256 .f32

/-- The part of a query block before the key loops. -/
def mainA (i : grid0.Coords) (arg3 : Memref sig .tc .vmem S128x128 .f32) (harg3 : arg3.IsWhole) (arg4 : Memref sig .tc .vmem S4224x128 .f32) (harg4 : arg4.IsWhole) (arg5 : Memref sig .tc .vmem S4224x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .bf16) (harg8 : arg8.IsWhole) (arg9 : Memref sig .tc .vmem S4224x128 .bf16) (harg9 : arg9.IsWhole) (arg10 : Memref sig .tc .vmem S4224x128 .bf16) (harg10 : arg10.IsWhole) (arg11 : Memref sig .tc .vmem S4352x128 .bf16) (harg11 : arg11.IsWhole) (arg12 : Memref sig .tc .vmem S4352x128 .bf16) (harg12 : arg12.IsWhole) (arg13 : Memref sig .tc .vmem S4352x128 .f32) (harg13 : arg13.IsWhole) (arg14 : Memref sig .tc .vmem S4352x128 .f32) (harg14 : arg14.IsWhole) (arg15 : Memref sig .tc .vmem S256x256 .bf16) (harg15 : arg15.IsWhole) (arg16 : Memref sig .tc .vmem S256x256 .bf16) (harg16 : arg16.IsWhole) :
    Prog (TpuEff nD τ sig (Elt F) Λ₀ .tc) (Vec F S128x128 .f32 × Vec F S128x128 .f32 × R9 F × R10 F) := do
  let v3 : Vec F S128x128 .f32 ← Prog.lift (.load arg3 (Rect.unit (s := S128x128) ![0, 0] S128x128.size inb_S128x128_S128x128_0_0).toLoadRect (View.loadsAt_vmem h_S128x128))
  let v7 : Vec F S128x128 .f32 ← Prog.lift (.load arg6 (Rect.unit (s := S128x128) ![0, 0] S128x128.size inb_S128x128_S128x128_0_0).toLoadRect (View.loadsAt_vmem h_S128x128))
  let v9 : Vec F S128x128 .f32 ← Prog.lift (.load arg7 (Rect.unit (s := S128x128) ![0, 0] S128x128.size inb_S128x128_S128x128_0_0).toLoadRect (View.loadsAt_vmem h_S128x128))
  let r9 ← k0_part9 i arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 2).val) (k0_pay44 v7) (iota .tc S1x128 32 [1] iota_S1x128_d1_w32) (k0_pay48 v7)
  let r10 ← k0_part10 i arg3 harg3 arg4 harg4 arg5 harg5 arg6 harg6 arg7 harg7 arg8 harg8 arg9 harg9 arg10 harg10 arg11 harg11 arg12 harg12 arg13 harg13 arg14 harg14 arg15 harg15 arg16 harg16 (k0_pay46 v3) (k0_pay47 v9) r9.1 r9.2.1 r9.2.2.2.1 r9.2.2.2.2.1 r9.2.2.2.2.2
  pure (v3, v9, r9, r10)

theorem main_split (i : grid0.Coords) (arg3 : Memref sig .tc .vmem S128x128 .f32) (harg3 : arg3.IsWhole) (arg4 : Memref sig .tc .vmem S4224x128 .f32) (harg4 : arg4.IsWhole) (arg5 : Memref sig .tc .vmem S4224x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .bf16) (harg8 : arg8.IsWhole) (arg9 : Memref sig .tc .vmem S4224x128 .bf16) (harg9 : arg9.IsWhole) (arg10 : Memref sig .tc .vmem S4224x128 .bf16) (harg10 : arg10.IsWhole) (arg11 : Memref sig .tc .vmem S4352x128 .bf16) (harg11 : arg11.IsWhole) (arg12 : Memref sig .tc .vmem S4352x128 .bf16) (harg12 : arg12.IsWhole) (arg13 : Memref sig .tc .vmem S4352x128 .f32) (harg13 : arg13.IsWhole) (arg14 : Memref sig .tc .vmem S4352x128 .f32) (harg14 : arg14.IsWhole) (arg15 : Memref sig .tc .vmem S256x256 .bf16) (harg15 : arg15.IsWhole) (arg16 : Memref sig .tc .vmem S256x256 .bf16) (harg16 : arg16.IsWhole) :
    mainPart (F := F) i arg3 harg3 arg4 harg4 arg5 harg5 arg6 harg6 arg7 harg7 arg8 harg8 arg9 harg9 arg10 harg10 arg11 harg11 arg12 harg12 arg13 harg13 arg14 harg14 arg15 harg15 arg16 harg16 = mainA i arg3 harg3 arg4 harg4 arg5 harg5 arg6 harg6 arg7 harg7 arg8 harg8 arg9 harg9 arg10 harg10 arg11 harg11 arg12 harg12 arg13 harg13 arg14 harg14 arg15 harg15 arg16 harg16 >>= fun r =>
      k0_part11 i arg3 harg3 arg4 harg4 arg5 harg5 arg6 harg6 arg7 harg7 arg8 harg8 arg9 harg9 arg10 harg10 arg11 harg11 arg12 harg12 arg13 harg13 arg14 harg14 arg15 harg15 arg16 harg16 mLane (k0_pay46 r.1) (k0_pay47 r.2.1) r.2.2.1.1 r.2.2.1.2.1 r.2.2.1.2.2.1 r.2.2.2.1 r.2.2.2.2.1 r.2.2.2.2.2.1 r.2.2.2.2.2.2.1 r.2.2.2.2.2.2.2.1 r.2.2.2.2.2.2.2.2 >>= fun r11 =>
      k0_part12 i arg3 harg3 arg4 harg4 arg5 harg5 arg6 harg6 arg7 harg7 arg8 harg8 arg9 harg9 arg10 harg10 arg11 harg11 arg12 harg12 arg13 harg13 arg14 harg14 arg15 harg15 arg16 harg16 k0_pay45 (k0_pay46 r.1) (k0_pay47 r.2.1) r11.1 r11.2.1 r11.2.2.1 r11.2.2.2.1 r11.2.2.2.2.1 r11.2.2.2.2.2 := by
  unfold mainPart mainA
  simp only [Prog.bind_assoc]
  rfl

set_option maxHeartbeats 1600000 in
theorem mainA_run (c : Dev nD) (E : Set ℕ) (i : grid0.Coords) (arg3 : Memref sig .tc .vmem S128x128 .f32) (harg3 : arg3.IsWhole) (arg4 : Memref sig .tc .vmem S4224x128 .f32) (harg4 : arg4.IsWhole) (arg5 : Memref sig .tc .vmem S4224x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .bf16) (harg8 : arg8.IsWhole) (arg9 : Memref sig .tc .vmem S4224x128 .bf16) (harg9 : arg9.IsWhole) (arg10 : Memref sig .tc .vmem S4224x128 .bf16) (harg10 : arg10.IsWhole) (arg11 : Memref sig .tc .vmem S4352x128 .bf16) (harg11 : arg11.IsWhole) (arg12 : Memref sig .tc .vmem S4352x128 .bf16) (harg12 : arg12.IsWhole) (arg13 : Memref sig .tc .vmem S4352x128 .f32) (harg13 : arg13.IsWhole) (arg14 : Memref sig .tc .vmem S4352x128 .f32) (harg14 : arg14.IsWhole) (arg15 : Memref sig .tc .vmem S256x256 .bf16) (harg15 : arg15.IsWhole) (arg16 : Memref sig .tc .vmem S256x256 .bf16) (harg16 : arg16.IsWhole)
    (x0 x3 x4 : Vec F S128x128 .f32) (kb vb : Vec F S4352x128 .bf16) (tb : Vec F S256x256 .bf16)
    (K : Vec F S128x128 .f32 × Vec F S128x128 .f32 × R9 F × R10 F → sProp 𝕄) :
    iprop((arg3.view.loc (c : Thread nD τ) ↦[arg3.view.set]{fullShare} harg3.unread x0) ∗ (arg6.view.loc (c : Thread nD τ) ↦[arg6.view.set]{fullShare} harg6.unread x3) ∗ (arg7.view.loc (c : Thread nD τ) ↦[arg7.view.set]{fullShare} harg7.unread x4)
        ∗ (arg11.view.loc (c : Thread nD τ) ↦[arg11.view.set]{fullShare} harg11.unread kb) ∗ (arg12.view.loc (c : Thread nD τ) ↦[arg12.view.set]{fullShare} harg12.unread vb) ∗ (arg15.view.loc (c : Thread nD τ) ↦[arg15.view.set]{fullShare} harg15.unread tb)
        ∗ (iprop((arg3.view.loc (c : Thread nD τ) ↦[arg3.view.set]{fullShare} harg3.unread x0) ∗ (arg6.view.loc (c : Thread nD τ) ↦[arg6.view.set]{fullShare} harg6.unread x3) ∗ (arg7.view.loc (c : Thread nD τ) ↦[arg7.view.set]{fullShare} harg7.unread x4)
        ∗ (arg11.view.loc (c : Thread nD τ) ↦[arg11.view.set]{fullShare} harg11.unread kb) ∗ (arg12.view.loc (c : Thread nD τ) ↦[arg12.view.set]{fullShare} harg12.unread vb) ∗ (arg15.view.loc (c : Thread nD τ) ↦[arg15.view.set]{fullShare} harg15.unread tb))
          -∗ K (x0, x4, ⟨mTot x3, mPos i, nWord i, k0_pay51, k0_pay52, k0_pay53⟩,
            ⟨k0_pay54 k0_pay51 k0_pay52 k0_pay53, k0_pay57 (mQ x0) (mPos i) (rd kb 0), k0_pay58 (mQ x0) (mPos i) (rd kb 0), k0_pay59 (mD x4) (rd vb 0),
              k0_pay60 (mTot x3) k0_pay51 k0_pay52 k0_pay53, k0_pay61 (mQ x0) (mPos i) (rd kb 0) tb⟩)))
      ⊢ wp frame (wpE (defs₀ (F := F)) Variants.none c none) E (mainA i arg3 harg3 arg4 harg4 arg5 harg5 arg6 harg6 arg7 harg7 arg8 harg8 arg9 harg9 arg10 harg10 arg11 harg11 arg12 harg12 arg13 harg13 arg14 harg14 arg15 harg15 arg16 harg16) K := by
  unfold mTot mPos mQ mD mLane
  unfold mainA
  simp only [k0_part9_eq_skeleton, k0_part10_eq_skeleton]
  iintro ⟨H3, H6, H7, H11, H12, H15, Hk⟩
  sl_exec
  have hv77 : mainA_run.sl.v77 i = nWord i := by with_unfolding_all rfl
  unfold mainA_run.sl.r mainA_run.sl.r_1 mainA_run.sl.r_2 mainA_run.sl.r_3 mainA_run.sl.r_4 mainA_run.sl.r_5 mainA_run.sl.r_6 mainA_run.sl.r_7
  unfold mainA_run.sl.r mainA_run.sl.r_1
  simp only [hv77, readAt_block _ _ _ _ _ off0_eq, readAt_full256 _ _ _ _ zero2, readAt_full128 _ _ _ _ zero2]
  sl_step
  iapply Hk
  isplitl [H3]; · iexact H3
  isplitl [H6]; · iexact H6
  isplitl [H7]; · iexact H7
  isplitl [H11]; · iexact H11
  isplitl [H12]; · iexact H12
  iexact H15

set_option maxHeartbeats 1600000 in
theorem main_run (c : Dev nD) (E : Set ℕ) (i : grid0.Coords) (arg3 : Memref sig .tc .vmem S128x128 .f32) (harg3 : arg3.IsWhole) (arg4 : Memref sig .tc .vmem S4224x128 .f32) (harg4 : arg4.IsWhole) (arg5 : Memref sig .tc .vmem S4224x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .bf16) (harg8 : arg8.IsWhole) (arg9 : Memref sig .tc .vmem S4224x128 .bf16) (harg9 : arg9.IsWhole) (arg10 : Memref sig .tc .vmem S4224x128 .bf16) (harg10 : arg10.IsWhole) (arg11 : Memref sig .tc .vmem S4352x128 .bf16) (harg11 : arg11.IsWhole) (arg12 : Memref sig .tc .vmem S4352x128 .bf16) (harg12 : arg12.IsWhole) (arg13 : Memref sig .tc .vmem S4352x128 .f32) (harg13 : arg13.IsWhole) (arg14 : Memref sig .tc .vmem S4352x128 .f32) (harg14 : arg14.IsWhole) (arg15 : Memref sig .tc .vmem S256x256 .bf16) (harg15 : arg15.IsWhole) (arg16 : Memref sig .tc .vmem S256x256 .bf16) (harg16 : arg16.IsWhole)
    (x0 x3 x4 : Vec F S128x128 .f32) (kb vb : Vec F S4352x128 .bf16) (dk dv : Vec F S4352x128 .f32) (tb tu : Vec F S256x256 .bf16)
    (K : BitVec 32 → sProp 𝕄) :
    iprop(owns (c : Thread nD τ) arg3 fullShare x0 ∗ owns (c : Thread nD τ) arg6 fullShare x3 ∗ owns (c : Thread nD τ) arg7 fullShare x4
        ∗ (∃ d, owns (c : Thread nD τ) arg8 fullShare d)
        ∗ owns (c : Thread nD τ) arg11 fullShare kb ∗ owns (c : Thread nD τ) arg12 fullShare vb ∗ owns (c : Thread nD τ) arg13 fullShare dk ∗ owns (c : Thread nD τ) arg14 fullShare dv ∗ owns (c : Thread nD τ) arg15 fullShare tb ∗ owns (c : Thread nD τ) arg16 fullShare tu
        ∗ (iprop(owns (c : Thread nD τ) arg3 fullShare x0 ∗ owns (c : Thread nD τ) arg6 fullShare x3 ∗ owns (c : Thread nD τ) arg7 fullShare x4
        ∗ owns (c : Thread nD τ) arg8 fullShare (mainDq i x0 x3 x4 kb vb tb tu dk dv)
        ∗ owns (c : Thread nD τ) arg11 fullShare kb ∗ owns (c : Thread nD τ) arg12 fullShare vb ∗ owns (c : Thread nD τ) arg13 fullShare (mainDk i x0 x3 x4 kb vb tb tu dk dv) ∗ owns (c : Thread nD τ) arg14 fullShare (mainDv i x0 x3 x4 kb vb tb tu dk dv) ∗ owns (c : Thread nD τ) arg15 fullShare tb ∗ owns (c : Thread nD τ) arg16 fullShare tu) -∗ K 32#32))
      ⊢ wp frame (wpE (defs₀ (F := F)) Variants.none c none) E (mainPart i arg3 harg3 arg4 harg4 arg5 harg5 arg6 harg6 arg7 harg7 arg8 harg8 arg9 harg9 arg10 harg10 arg11 harg11 arg12 harg12 arg13 harg13 arg14 harg14 arg15 harg15 arg16 harg16) K := by
  rw [main_split, wp_bind]
  unfold owns
  iintro ⟨⟨%f0, %hf0, H0⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
  obtain rfl := harg3.eq_unread hf0; obtain rfl := harg6.eq_unread hf3; obtain rfl := harg7.eq_unread hf4; obtain rfl := harg11.eq_unread hfs0; obtain rfl := harg12.eq_unread hfs1; obtain rfl := harg13.eq_unread hfs2; obtain rfl := harg14.eq_unread hfs3; obtain rfl := harg15.eq_unread hfs4; obtain rfl := harg16.eq_unread hfs5
  iapply (mainA_run c E i arg3 harg3 arg4 harg4 arg5 harg5 arg6 harg6 arg7 harg7 arg8 harg8 arg9 harg9 arg10 harg10 arg11 harg11 arg12 harg12 arg13 harg13 arg14 harg14 arg15 harg15 arg16 harg16 x0 x3 x4 kb vb tb)
  isplitl [H0]; · iexact H0
  isplitl [H3]; · iexact H3
  isplitl [H4]; · iexact H4
  isplitl [HS0]; · iexact HS0
  isplitl [HS1]; · iexact HS1
  isplitl [HS4]; · iexact HS4
  iintro ⟨H0, H3, H4, HS0, HS1, HS4⟩
  rw [wp_bind]
  iapply (wp_wand_r frame (wpE (defs₀ (F := F)) Variants.none (c : Thread nD τ) none) E)
  isplitl [HS0 HS1 HS2 HS3 HS4 HS5]
  · iapply (part11_run c E i arg3 harg3 arg4 harg4 arg5 harg5 arg6 harg6 arg7 harg7 arg8 harg8 arg9 harg9 arg10 harg10 arg11 harg11 arg12 harg12 arg13 harg13 arg14 harg14 arg15 harg15 arg16 harg16 mLane (mQ x0) (mD x4) _ _ _ _ _ _ _ _ _ kb vb tb tu dk dv rfl)
    isplitl [HS0]; · iexact HS0
    isplitl [HS1]; · iexact HS1
    isplitl [HS4]; · iexact HS4
    isplitl [HS5]; · iexact HS5
    isplitl [HS2]
    · iexists _; isplitl [HS2]; · iexact HS2
      ipureintro; with_reducible rfl
    · iexists _; isplitl [HS3]; · iexact HS3
      ipureintro; with_reducible rfl
  iintro %r ⟨%s, ⟨HS0, HS1, HS4, HS5, ⟨%f13, HS2, %h13⟩, ⟨%f14, HS3, %h14⟩⟩, %hs, %e1, %e2, %e3, %e4, %e5⟩
  obtain ⟨r1, r2, r3, r4, r5, r6⟩ := r
  dsimp only at e1 e2 e3 e4 e5
  subst e1; subst e2; subst e3; subst e4; subst e5; subst h13; subst h14
  have hs' : s = mSt i x0 x3 x4 kb vb tb tu dk dv := hs
  clear hs
  dsimp only
  rw [k0_part12_eq_skeleton]
  sl_exec
  subst hs'
  simp only [readAt_block _ _ _ _ _ (off9_eq i), readAt_full256 _ _ _ _ zero2, writes_block _ _ _ _ _ (off9_eq i), writes_full harg8 _ _ _ zero2]
  sl_step
  iapply Hk
  isplitl [H0]; · iexists _; isplitr; · ipureintro; exact harg3.read_unread _
                  iexact H0
  isplitl [H3]; · iexists _; isplitr; · ipureintro; exact harg6.read_unread _
                  iexact H3
  isplitl [H4]; · iexists _; isplitr; · ipureintro; exact harg7.read_unread _
                  iexact H4
  isplitl [H5]; · iexists _; isplitr; · ipureintro; exact harg8.read_unread _
                  iexact H5
  isplitl [HS0]; · iexists _; isplitr; · ipureintro; exact harg11.read_unread _
                   iexact HS0
  isplitl [HS1]; · iexists _; isplitr; · ipureintro; exact harg12.read_unread _
                   iexact HS1
  isplitl [HS2]; · iexists _; isplitr; · ipureintro; exact harg13.read_unread _
                   iexact HS2
  isplitl [HS3]; · iexists _; isplitr; · ipureintro; exact harg14.read_unread _
                   iexact HS3
  isplitl [HS4]; · iexists _; isplitr; · ipureintro; exact harg15.read_unread _
                   iexact HS4
  iexists _; isplitr; · ipureintro; exact harg16.read_unread _
  iexact HS5

end Cert.KernelIdeal.Attn

end
-- ==== Proof.IFill.lean ====
module

public import proofs.«01_k».proof.Proof.IModel
public import proofs.«01_k».proof.Proof.IBody

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-- The rows that the keys and values fill, and the padding rows after them. -/
abbrev rTop : Rect S4352x128 := Rect.unit (s := S4352x128) ![0, 0] S4224x128.size inb_S4352x128_S4224x128_0_0
abbrev rTail : Rect S4352x128 := Rect.unit (s := S4352x128) ![4224, 0] S128x128.size inb_S4352x128_S128x128_4224_0

/-- Contents put together from the rows and the padding rows. -/
def fillW {α : Type} (w0 : S4224x128.Idx → α) (w1 : S128x128.Idx → α) : S4352x128.Idx → α :=
  wr (wr (fun _ => w1 (fun a => ⟨0, by revert a; decide⟩)) rTop w0) rTail w1

/-- The rows of contents that leave for the result. -/
def rdTop {α : Type} (b : S4352x128.Idx → α) : S4224x128.Idx → α := fun x => b (rTop.emb x)

theorem mem_top_or_tail (y : S4352x128.Idx) : y ∈ rTop.set ∨ y ∈ rTail.set := by
  have h1 : (y 1).val < 128 := (y 1).isLt
  have h0 : (y 0).val < 4352 := (y 0).isLt
  by_cases h : (y 0).val < 4224
  · left
    rw [Rect.mem_set_unit]
    refine Fin.forall_fin_two.mpr ⟨⟨Nat.zero_le _, ?_⟩, ⟨Nat.zero_le _, ?_⟩⟩
    · exact lt_of_lt_of_eq h rfl
    · exact lt_of_lt_of_eq h1 rfl
  · right
    rw [Rect.mem_set_unit]
    refine Fin.forall_fin_two.mpr ⟨⟨Nat.le_of_not_lt h, ?_⟩, ⟨Nat.zero_le _, ?_⟩⟩
    · exact lt_of_lt_of_eq h0 rfl
    · exact lt_of_lt_of_eq h1 rfl

/-- Two stores whose rectangles cover a buffer leave it at their payloads, whatever it held. -/
theorem read_two {sp : Space} {S : Shape} {e : EltTy} {m : Memref sig .tc sp S e} (r0 r1 : Rect S)
    (hc : ∀ y, y ∈ r0.set ∨ y ∈ r1.set) (f : m.view.ty.Contents (Elt F)) (b : S.Idx → Elt F e)
    (w0 : r0.shape.Idx → Elt F e) (w1 : r1.shape.Idx → Elt F e) :
    View.read (Elt F) m.view (m.view.writes (Elt F) f [⟨r1, w1⟩, ⟨r0, w0⟩]) = wr (wr b r0 w0) r1 w1 := by
  funext y
  by_cases hy : y ∈ r1.set
  · obtain ⟨x, rfl⟩ := r1.exists_idx_of_mem hy
    exact (View.read_writes_cons_emb _ _ r1 w1 _ x).trans (wr_emb _ r1 w1 x).symm
  · rw [wr_miss _ r1 w1 y hy, View.read_writes_cons_miss _ _ _ _ _ hy]
    obtain ⟨x, rfl⟩ := r0.exists_idx_of_mem ((hc y).resolve_right hy)
    exact (View.read_writes_cons_emb _ _ r0 w0 _ x).trans (wr_emb _ r0 w0 x).symm

/-- The two stores that fill a buffer leave it at their payloads, whatever it held. -/
theorem read_fill {e : EltTy} {m : Memref sig .tc .vmem S4352x128 e} (f : m.view.ty.Contents (Elt F))
    (w0 : S4224x128.Idx → Elt F e) (w1 : S128x128.Idx → Elt F e) :
    View.read (Elt F) m.view (m.view.writes (Elt F) f [⟨rTail, w1⟩, ⟨rTop, w0⟩]) = fillW w0 w1 :=
  read_two rTop rTail mem_top_or_tail f _ w0 w1

theorem readAt_top {e : EltTy} {m : Memref sig .tc .vmem S4352x128 e} (h : m.IsWhole) (b : S4352x128.Idx → Elt F e) (off : Fin 2 → ℕ) (inb) (hoff : off = ![0, 0]) :
    View.readAt (Elt F) m.view (Rect.unit (s := S4352x128) off S4224x128.size inb).toLoadRect (h.unread b) = rdTop b := by
  subst hoff
  funext x
  exact h.readAt_unread b rTop.toLoadRect x

theorem readAt_full4224 {e : EltTy} {m : Memref sig .tc .vmem S4224x128 e} (h : m.IsWhole) (b : S4224x128.Idx → Elt F e)
    (off : Fin 2 → ℕ) (inb) (hoff : off = fun _ => 0) :
    View.readAt (Elt F) m.view (Rect.unit (s := S4224x128) off S4224x128.size inb).toLoadRect (h.unread b) = b :=
  readAt_full h b off inb hoff

/-- What the fills leave: keys, values, the two triangles. -/
def fillKb (x1 : Vec F S4224x128 .f32) : Vec F S4352x128 .bf16 := fillW (k0_pay3 x1) k0_pay5
def fillVb (x2 : Vec F S4224x128 .f32) : Vec F S4352x128 .bf16 := fillW (k0_pay4 x2) k0_pay6
def fillTb : Vec F S256x256 .bf16 := k0_pay42 k0_pay9
def fillTu : Vec F S256x256 .bf16 := k0_pay43 (iota .tc S256x256 32 [0] iota_S256x256_d0_w32) (iota .tc S256x256 32 [1] iota_S256x256_d1_w32)

/-- The condition of the fills: a head pair's first query block. -/
abbrev first (i : grid0.Coords) : Prop := (Scalar.cmpi .ne (Scalar.extui (Scalar.cmpi .eq (BitVec.ofNat 32 (i 2).val) 0#32)) 0#32) = 1#1

set_option maxHeartbeats 1600000 in
theorem fill_run (c : Dev nD) (E : Set ℕ) (i : grid0.Coords) (arg3 : Memref sig .tc .vmem S128x128 .f32) (harg3 : arg3.IsWhole) (arg4 : Memref sig .tc .vmem S4224x128 .f32) (harg4 : arg4.IsWhole) (arg5 : Memref sig .tc .vmem S4224x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .bf16) (harg8 : arg8.IsWhole) (arg9 : Memref sig .tc .vmem S4224x128 .bf16) (harg9 : arg9.IsWhole) (arg10 : Memref sig .tc .vmem S4224x128 .bf16) (harg10 : arg10.IsWhole) (arg11 : Memref sig .tc .vmem S4352x128 .bf16) (harg11 : arg11.IsWhole) (arg12 : Memref sig .tc .vmem S4352x128 .bf16) (harg12 : arg12.IsWhole) (arg13 : Memref sig .tc .vmem S4352x128 .f32) (harg13 : arg13.IsWhole) (arg14 : Memref sig .tc .vmem S4352x128 .f32) (harg14 : arg14.IsWhole) (arg15 : Memref sig .tc .vmem S256x256 .bf16) (harg15 : arg15.IsWhole) (arg16 : Memref sig .tc .vmem S256x256 .bf16) (harg16 : arg16.IsWhole) (h : first i)
    (x1 x2 : Vec F S4224x128 .f32) (K : PUnit → sProp 𝕄) :
    iprop(owns (c : Thread nD τ) arg4 fullShare x1 ∗ owns (c : Thread nD τ) arg5 fullShare x2
        ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg4 fullShare x1 ∗ owns (c : Thread nD τ) arg5 fullShare x2
        ∗ owns (c : Thread nD τ) arg11 fullShare (fillKb x1) ∗ owns (c : Thread nD τ) arg12 fullShare (fillVb x2) ∗ owns (c : Thread nD τ) arg13 fullShare k0_pay7 ∗ owns (c : Thread nD τ) arg14 fullShare k0_pay8 ∗ owns (c : Thread nD τ) arg15 fullShare fillTb ∗ owns (c : Thread nD τ) arg16 fullShare fillTu) -∗ K ⟨⟩))
      ⊢ wp frame (wpE (defs₀ (F := F)) Variants.none c none) E (fillPart i arg3 harg3 arg4 harg4 arg5 harg5 arg6 harg6 arg7 harg7 arg8 harg8 arg9 harg9 arg10 harg10 arg11 harg11 arg12 harg12 arg13 harg13 arg14 harg14 arg15 harg15 arg16 harg16) K := by
  unfold fillPart
  simp only [dif_pos h, k0_part1_eq_skeleton]
  unfold owns
  iintro ⟨⟨%f1, %hf1, H1⟩, ⟨%f2, %hf2, H2⟩, ⟨%d0, %fs0, -, HS0⟩, ⟨%d1, %fs1, -, HS1⟩, ⟨%d2, %fs2, -, HS2⟩, ⟨%d3, %fs3, -, HS3⟩, ⟨%d4, %fs4, -, HS4⟩, ⟨%d5, %fs5, -, HS5⟩, Hk⟩
  obtain rfl := harg4.eq_unread hf1; obtain rfl := harg5.eq_unread hf2
  sl_exec
  simp only [readAt_full4224 _ _ _ _ zero2, writes_full harg13 _ _ _ zero2, writes_full harg14 _ _ _ zero2, writes_full harg15 _ _ _ zero2, writes_full harg16 _ _ _ zero2]
  sl_step
  iapply Hk
  isplitl [H1]; · iexists _; isplitr; · ipureintro; exact harg4.read_unread _
                  iexact H1
  isplitl [H2]; · iexists _; isplitr; · ipureintro; exact harg5.read_unread _
                  iexact H2
  isplitl [HS0]
  · iexists _; isplitr
    swap; · iexact HS0
    ipureintro; exact read_fill _ _ _
  isplitl [HS1]
  · iexists _; isplitr
    swap; · iexact HS1
    ipureintro; exact read_fill _ _ _
  isplitl [HS2]; · iexists _; isplitr; · ipureintro; exact harg13.read_unread _
                   iexact HS2
  isplitl [HS3]; · iexists _; isplitr; · ipureintro; exact harg14.read_unread _
                   iexact HS3
  isplitl [HS4]; · iexists _; isplitr; · ipureintro; exact harg15.read_unread _
                   iexact HS4
  iexists _; isplitr; · ipureintro; exact harg16.read_unread _
  iexact HS5

theorem fill_skip (c : Dev nD) (E : Set ℕ) (i : grid0.Coords) (arg3 : Memref sig .tc .vmem S128x128 .f32) (harg3 : arg3.IsWhole) (arg4 : Memref sig .tc .vmem S4224x128 .f32) (harg4 : arg4.IsWhole) (arg5 : Memref sig .tc .vmem S4224x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .bf16) (harg8 : arg8.IsWhole) (arg9 : Memref sig .tc .vmem S4224x128 .bf16) (harg9 : arg9.IsWhole) (arg10 : Memref sig .tc .vmem S4224x128 .bf16) (harg10 : arg10.IsWhole) (arg11 : Memref sig .tc .vmem S4352x128 .bf16) (harg11 : arg11.IsWhole) (arg12 : Memref sig .tc .vmem S4352x128 .bf16) (harg12 : arg12.IsWhole) (arg13 : Memref sig .tc .vmem S4352x128 .f32) (harg13 : arg13.IsWhole) (arg14 : Memref sig .tc .vmem S4352x128 .f32) (harg14 : arg14.IsWhole) (arg15 : Memref sig .tc .vmem S256x256 .bf16) (harg15 : arg15.IsWhole) (arg16 : Memref sig .tc .vmem S256x256 .bf16) (harg16 : arg16.IsWhole) (h : ¬first i) (K : PUnit → sProp 𝕄) :
    K ⟨⟩ ⊢ wp frame (wpE (defs₀ (F := F)) Variants.none c none) E (fillPart i arg3 harg3 arg4 harg4 arg5 harg5 arg6 harg6 arg7 harg7 arg8 harg8 arg9 harg9 arg10 harg10 arg11 harg11 arg12 harg12 arg13 harg13 arg14 harg14 arg15 harg15 arg16 harg16) K := by
  unfold fillPart
  simp only [dif_neg h]
  iintro Hk
  sl_step
  iexact Hk

set_option maxHeartbeats 1600000 in
theorem end_run (c : Dev nD) (E : Set ℕ) (i : grid0.Coords) (arg3 : Memref sig .tc .vmem S128x128 .f32) (harg3 : arg3.IsWhole) (arg4 : Memref sig .tc .vmem S4224x128 .f32) (harg4 : arg4.IsWhole) (arg5 : Memref sig .tc .vmem S4224x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .bf16) (harg8 : arg8.IsWhole) (arg9 : Memref sig .tc .vmem S4224x128 .bf16) (harg9 : arg9.IsWhole) (arg10 : Memref sig .tc .vmem S4224x128 .bf16) (harg10 : arg10.IsWhole) (arg11 : Memref sig .tc .vmem S4352x128 .bf16) (harg11 : arg11.IsWhole) (arg12 : Memref sig .tc .vmem S4352x128 .bf16) (harg12 : arg12.IsWhole) (arg13 : Memref sig .tc .vmem S4352x128 .f32) (harg13 : arg13.IsWhole) (arg14 : Memref sig .tc .vmem S4352x128 .f32) (harg14 : arg14.IsWhole) (arg15 : Memref sig .tc .vmem S256x256 .bf16) (harg15 : arg15.IsWhole) (arg16 : Memref sig .tc .vmem S256x256 .bf16) (harg16 : arg16.IsWhole) (h : k0_cond2 i = 1#1)
    (dk dv : Vec F S4352x128 .f32) (K : PUnit → sProp 𝕄) :
    iprop(owns (c : Thread nD τ) arg13 fullShare dk ∗ owns (c : Thread nD τ) arg14 fullShare dv
        ∗ (∃ d, owns (c : Thread nD τ) arg9 fullShare d) ∗ (∃ d, owns (c : Thread nD τ) arg10 fullShare d)
        ∗ (iprop(owns (c : Thread nD τ) arg13 fullShare dk ∗ owns (c : Thread nD τ) arg14 fullShare dv
        ∗ owns (c : Thread nD τ) arg9 fullShare (k0_pay1 (rdTop dk)) ∗ owns (c : Thread nD τ) arg10 fullShare (k0_pay2 (rdTop dv))) -∗ K ⟨⟩))
      ⊢ wp frame (wpE (defs₀ (F := F)) Variants.none c none) E (endPart i arg3 harg3 arg4 harg4 arg5 harg5 arg6 harg6 arg7 harg7 arg8 harg8 arg9 harg9 arg10 harg10 arg11 harg11 arg12 harg12 arg13 harg13 arg14 harg14 arg15 harg15 arg16 harg16) K := by
  unfold endPart
  simp only [dif_pos h]
  unfold owns
  iintro ⟨⟨%f2, %hf2, HS2⟩, ⟨%f3, %hf3, HS3⟩, ⟨%d0, %f6, -, H6⟩, ⟨%d1, %f7, -, H7⟩, Hk⟩
  obtain rfl := harg13.eq_unread hf2; obtain rfl := harg14.eq_unread hf3
  sl_exec
  simp only [readAt_top _ _ _ _ rfl, writes_full harg9 _ _ _ zero2, writes_full harg10 _ _ _ zero2]
  sl_step
  iapply Hk
  isplitl [HS2]; · iexists _; isplitr; · ipureintro; exact harg13.read_unread _
                   iexact HS2
  isplitl [HS3]; · iexists _; isplitr; · ipureintro; exact harg14.read_unread _
                   iexact HS3
  isplitl [H6]; · iexists _; isplitr; · ipureintro; exact harg9.read_unread _
                  iexact H6
  iexists _; isplitr; · ipureintro; exact harg10.read_unread _
  iexact H7

theorem end_skip (c : Dev nD) (E : Set ℕ) (i : grid0.Coords) (arg3 : Memref sig .tc .vmem S128x128 .f32) (harg3 : arg3.IsWhole) (arg4 : Memref sig .tc .vmem S4224x128 .f32) (harg4 : arg4.IsWhole) (arg5 : Memref sig .tc .vmem S4224x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .bf16) (harg8 : arg8.IsWhole) (arg9 : Memref sig .tc .vmem S4224x128 .bf16) (harg9 : arg9.IsWhole) (arg10 : Memref sig .tc .vmem S4224x128 .bf16) (harg10 : arg10.IsWhole) (arg11 : Memref sig .tc .vmem S4352x128 .bf16) (harg11 : arg11.IsWhole) (arg12 : Memref sig .tc .vmem S4352x128 .bf16) (harg12 : arg12.IsWhole) (arg13 : Memref sig .tc .vmem S4352x128 .f32) (harg13 : arg13.IsWhole) (arg14 : Memref sig .tc .vmem S4352x128 .f32) (harg14 : arg14.IsWhole) (arg15 : Memref sig .tc .vmem S256x256 .bf16) (harg15 : arg15.IsWhole) (arg16 : Memref sig .tc .vmem S256x256 .bf16) (harg16 : arg16.IsWhole) (h : ¬k0_cond2 i = 1#1) (K : PUnit → sProp 𝕄) :
    K ⟨⟩ ⊢ wp frame (wpE (defs₀ (F := F)) Variants.none c none) E (endPart i arg3 harg3 arg4 harg4 arg5 harg5 arg6 harg6 arg7 harg7 arg8 harg8 arg9 harg9 arg10 harg10 arg11 harg11 arg12 harg12 arg13 harg13 arg14 harg14 arg15 harg15 arg16 harg16) K := by
  unfold endPart
  simp only [dif_neg h]
  iintro Hk
  sl_step
  iexact Hk

end Cert.KernelIdeal.Attn

end
-- ==== Proof.IRun.lean ====
module

public import proofs.«01_k».proof.Proof.IMain
public import proofs.«01_k».proof.Proof.IFill
public import Idealize.ShloMosaic.Lib.Claim
public import Idealize.ShloMosaic.Lib.WordCmp

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The contents of the six scratch buffers. -/
structure Sc (F : FTy → Type) [FloatOps F] [Named F] where
  kb : Vec F S4352x128 .bf16
  vb : Vec F S4352x128 .bf16
  dk : Vec F S4352x128 .f32
  dv : Vec F S4352x128 .f32
  tb : Vec F S256x256 .bf16
  tu : Vec F S256x256 .bf16

/-- The scratch after the fills. -/
def scFill (x1 x2 : Vec F S4224x128 .f32) : Sc F := ⟨fillKb x1, fillVb x2, k0_pay7, k0_pay8, fillTb, fillTu⟩

/-- The scratch after one query block. -/
def scStep (i : grid0.Coords) (x0 x3 x4 : Vec F S128x128 .f32) (s : Sc F) : Sc F :=
  ⟨s.kb, s.vb, mainDk i x0 x3 x4 s.kb s.vb s.tb s.tu s.dk s.dv, mainDv i x0 x3 x4 s.kb s.vb s.tb s.tu s.dk s.dv, s.tb, s.tu⟩

/-- The query gradient of one query block. -/
def scDq (i : grid0.Coords) (x0 x3 x4 : Vec F S128x128 .f32) (s : Sc F) : Vec F S128x128 .bf16 :=
  mainDq i x0 x3 x4 s.kb s.vb s.tb s.tu s.dk s.dv

theorem hfirst (t : Fin cfg0.N) : first (grid0.coords t) ↔ t.val % 33 = 0 := by
  have ht : t.val < 264 := Nat.lt_of_lt_of_eq t.isLt N_0
  have e2 : (grid0.coords t 2).val = t.val / 1 % 33 := Pipeline.Grid.coords_val t 2 (by decide) rfl
  simp only [first, e2]
  word_cmp

theorem hlast (t : Fin cfg0.N) : k0_cond2 (grid0.coords t) = 1#1 ↔ t.val % 33 = 32 := by
  have ht : t.val < 264 := Nat.lt_of_lt_of_eq t.isLt N_0
  have e2 : (grid0.coords t 2).val = t.val / 1 % 33 := Pipeline.Grid.coords_val t 2 (by decide) rfl
  simp only [k0_cond2, e2]
  word_cmp

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem idle_6 : ∀ t : Fin cfg0.N, ¬t.val % 33 = 32 → cfg0.idle 6 (grid0.coords t) = true := by decide +kernel
theorem noFlush_6 : ∀ t : Fin cfg0.N, ¬t.val % 33 = 32 → (cfg0.win 6).flush t = false := by decide +kernel
theorem live_6 : ∀ t : Fin cfg0.N, t.val % 33 = 32 → cfg0.idle 6 (grid0.coords t) = false := by decide +kernel
theorem idle_7 : ∀ t : Fin cfg0.N, ¬t.val % 33 = 32 → cfg0.idle 7 (grid0.coords t) = true := by decide +kernel
theorem noFlush_7 : ∀ t : Fin cfg0.N, ¬t.val % 33 = 32 → (cfg0.win 7).flush t = false := by decide +kernel
theorem live_7 : ∀ t : Fin cfg0.N, t.val % 33 = 32 → cfg0.idle 7 (grid0.coords t) = false := by decide +kernel

abbrev st0 (t : Fin cfg0.N) : Memref sig .tc .vmem S128x128 .f32 := win0_0.stage (cfg0.slots t 0)
abbrev hst0 (t : Fin cfg0.N) : (st0 t).IsWhole := hstage0_0 ((cfg0.slots t 0).cast nbuf0_0)
abbrev st1 (t : Fin cfg0.N) : Memref sig .tc .vmem S4224x128 .f32 := win0_1.stage (cfg0.slots t 1)
abbrev hst1 (t : Fin cfg0.N) : (st1 t).IsWhole := hstage0_1 ((cfg0.slots t 1).cast nbuf0_1)
abbrev st2 (t : Fin cfg0.N) : Memref sig .tc .vmem S4224x128 .f32 := win0_2.stage (cfg0.slots t 2)
abbrev hst2 (t : Fin cfg0.N) : (st2 t).IsWhole := hstage0_2 ((cfg0.slots t 2).cast nbuf0_2)
abbrev st3 (t : Fin cfg0.N) : Memref sig .tc .vmem S128x128 .f32 := win0_3.stage (cfg0.slots t 3)
abbrev hst3 (t : Fin cfg0.N) : (st3 t).IsWhole := hstage0_3 ((cfg0.slots t 3).cast nbuf0_3)
abbrev st4 (t : Fin cfg0.N) : Memref sig .tc .vmem S128x128 .f32 := win0_4.stage (cfg0.slots t 4)
abbrev hst4 (t : Fin cfg0.N) : (st4 t).IsWhole := hstage0_4 ((cfg0.slots t 4).cast nbuf0_4)
abbrev st5 (t : Fin cfg0.N) : Memref sig .tc .vmem S128x128 .bf16 := win0_5.stage (cfg0.slots t 5)
abbrev hst5 (t : Fin cfg0.N) : (st5 t).IsWhole := hstage0_5 ((cfg0.slots t 5).cast nbuf0_5)
abbrev st6 (t : Fin cfg0.N) : Memref sig .tc .vmem S4224x128 .bf16 := win0_6.stage (cfg0.slots t 6)
abbrev hst6 (t : Fin cfg0.N) : (st6 t).IsWhole := hstage0_6 ((cfg0.slots t 6).cast nbuf0_6)
abbrev st7 (t : Fin cfg0.N) : Memref sig .tc .vmem S4224x128 .bf16 := win0_7.stage (cfg0.slots t 7)
abbrev hst7 (t : Fin cfg0.N) : (st7 t).IsWhole := hstage0_7 ((cfg0.slots t 7).cast nbuf0_7)
abbrev sc0 : Memref sig .tc .vmem S4352x128 .bf16 := Memref.whole cc0_scratch0
abbrev sc1 : Memref sig .tc .vmem S4352x128 .bf16 := Memref.whole cc0_scratch1
abbrev sc2 : Memref sig .tc .vmem S4352x128 .f32 := Memref.whole cc0_scratch2
abbrev sc3 : Memref sig .tc .vmem S4352x128 .f32 := Memref.whole cc0_scratch3
abbrev sc4 : Memref sig .tc .vmem S256x256 .bf16 := Memref.whole cc0_scratch4
abbrev sc5 : Memref sig .tc .vmem S256x256 .bf16 := Memref.whole cc0_scratch5

/-- The scratch before a query block's own work: filled anew at a head pair's first query block. -/
def scPre (c : Dev nD) (t : Fin cfg0.N) (s : Sc F) : Sc F := if t.val % 33 = 0 then scFill (iblk m c 1 t) (iblk m c 2 t) else s

/-- The scratch after a query block, from the scratch before it. -/
def scPost (c : Dev nD) (t : Fin cfg0.N) (s : Sc F) : Sc F :=
  scStep (grid0.coords t) (iblk m c 0 t) (iblk m c 3 t) (iblk m c 4 t) (scPre m c t s)

/-- The scratch after point `n` of the grid. -/
def scAt (c : Dev nD) : (n : ℕ) → n < cfg0.N → Sc F
  | 0, h => scPost m c ⟨0, h⟩ (scFill (iblk m c 1 ⟨0, h⟩) (iblk m c 2 ⟨0, h⟩))
  | n + 1, h => scPost m c ⟨n + 1, h⟩ (scAt c n (Nat.lt_of_succ_lt h))

/-- The scratch that a point's own work starts from. -/
def scIn (c : Dev nD) (t : Fin cfg0.N) : Sc F :=
  if h : t.val % 33 = 0 then scFill (iblk m c 1 t) (iblk m c 2 t) else scAt m c (t.val - 1) (by omega)

theorem scAt_eq (c : Dev nD) (t : Fin cfg0.N) :
    scAt m c t.val t.isLt = scStep (grid0.coords t) (iblk m c 0 t) (iblk m c 3 t) (iblk m c 4 t) (scIn m c t) := by
  obtain ⟨n, hn⟩ := t
  cases n with
  | zero => simp [scAt, scPost, scPre, scIn]
  | succ n =>
    by_cases h : (n + 1) % 33 = 0
    · simp only [scAt, scPost, scPre, scIn, if_pos h, dif_pos h]
    · simp only [scAt, scPost, scPre, scIn, if_neg h, dif_neg h, Nat.add_sub_cancel]

/-- What the scratch and the generator hold between points. -/
def PhiS (c : Dev nD) : (n : ℕ) → n ≤ cfg0.N → sProp 𝕄
  | 0, _ => Pipeline.ΦA spec0 c
  | n + 1, hn => iprop(iprop(owns (c : Thread nD τ) sc0 fullShare (scAt m c n hn).kb ∗ owns (c : Thread nD τ) sc1 fullShare (scAt m c n hn).vb ∗ owns (c : Thread nD τ) sc2 fullShare (scAt m c n hn).dk ∗ owns (c : Thread nD τ) sc3 fullShare (scAt m c n hn).dv ∗ owns (c : Thread nD τ) sc4 fullShare (scAt m c n hn).tb ∗ owns (c : Thread nD τ) sc5 fullShare (scAt m c n hn).tu) ∗ (∃ r, prngReg c r))

theorem PhiS_pos (c : Dev nD) (n : ℕ) (h : n ≤ cfg0.N) (hz : n ≠ 0) :
    PhiS m c n h = iprop(iprop(owns (c : Thread nD τ) sc0 fullShare (scAt m c (n - 1) (by omega)).kb ∗ owns (c : Thread nD τ) sc1 fullShare (scAt m c (n - 1) (by omega)).vb ∗ owns (c : Thread nD τ) sc2 fullShare (scAt m c (n - 1) (by omega)).dk ∗ owns (c : Thread nD τ) sc3 fullShare (scAt m c (n - 1) (by omega)).dv ∗ owns (c : Thread nD τ) sc4 fullShare (scAt m c (n - 1) (by omega)).tb ∗ owns (c : Thread nD τ) sc5 fullShare (scAt m c (n - 1) (by omega)).tu) ∗ (∃ r, prngReg c r)) := by
  cases n with
  | zero => exact absurd rfl hz
  | succ n => rfl

theorem PhiA_eq (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

theorem PhiS_some (c : Dev nD) (n : ℕ) (h : n ≤ cfg0.N) : PhiS m c n h ⊢ (Pipeline.ΦA spec0 c : sProp 𝕄) := by
  cases n with
  | zero => exact .rfl
  | succ n =>
    rw [PhiS_pos m c _ _ (Nat.succ_ne_zero n), PhiA_eq]
    iintro ⟨⟨HS0, HS1, HS2, HS3, HS4, HS5⟩, Hg⟩
    isplitl [HS0 HS1 HS2 HS3 HS4 HS5]
    · isplitl [HS0]; · iexists _; iexact HS0
      isplitl [HS1]; · iexists _; iexact HS1
      isplitl [HS2]; · iexists _; iexact HS2
      isplitl [HS3]; · iexists _; iexact HS3
      isplitl [HS4]; · iexists _; iexact HS4
      iexists _; iexact HS5
    iexact Hg

theorem PhiS_any (c : Dev nD) (n : ℕ) (h : n ≤ cfg0.N) : PhiS m c n h ⊢ iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  rw [← PhiA_eq]; exact PhiS_some m c n h

/-- The pipeline's contents at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => scDq (grid0.coords t) (iblk m c 0 t) (iblk m c 3 t) (iblk m c 4 t) (scIn m c t)
    | ⟨6, _⟩ => k0_pay1 (rdTop (scAt m c t.val t.isLt).dk)
    | ⟨7, _⟩ => k0_pay2 (rdTop (scAt m c t.val t.isLt).dv)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]

theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = scDq (grid0.coords t) (iblk m c 0 t) (iblk m c 3 t) (iblk m c 4 t) (scIn m c t) := by dsimp only [dats]
theorem after_6 (c : Dev nD) (t : Fin cfg0.N) : (dats m 0 c).after 6 t = k0_pay1 (rdTop (scAt m c t.val t.isLt).dk) := by dsimp only [dats]
theorem after_7 (c : Dev nD) (t : Fin cfg0.N) : (dats m 0 c).after 7 t = k0_pay2 (rdTop (scAt m c t.val t.isLt).dv) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem leaves_0 (c : Dev nD) (t : Fin cfg0.N) : (dats m 0 c).leavesExact 0 t = owns (c : Thread nD τ) (st0 t) fullShare (iblk m c 0 t) := by
  rw [← after_0]
theorem leaves_1 (c : Dev nD) (t : Fin cfg0.N) : (dats m 0 c).leavesExact 1 t = owns (c : Thread nD τ) (st1 t) fullShare (iblk m c 1 t) := by
  rw [← after_1]
theorem leaves_2 (c : Dev nD) (t : Fin cfg0.N) : (dats m 0 c).leavesExact 2 t = owns (c : Thread nD τ) (st2 t) fullShare (iblk m c 2 t) := by
  rw [← after_2]
theorem leaves_3 (c : Dev nD) (t : Fin cfg0.N) : (dats m 0 c).leavesExact 3 t = owns (c : Thread nD τ) (st3 t) fullShare (iblk m c 3 t) := by
  rw [← after_3]
theorem leaves_4 (c : Dev nD) (t : Fin cfg0.N) : (dats m 0 c).leavesExact 4 t = owns (c : Thread nD τ) (st4 t) fullShare (iblk m c 4 t) := by
  rw [← after_4]
theorem leaves_5 (c : Dev nD) (t : Fin cfg0.N) : (dats m 0 c).leavesExact 5 t = owns (c : Thread nD τ) (st5 t) fullShare (scDq (grid0.coords t) (iblk m c 0 t) (iblk m c 3 t) (iblk m c 4 t) (scIn m c t)) := by
  rw [← after_5]
theorem leaves_6 (c : Dev nD) (t : Fin cfg0.N) (h : t.val % 33 = 32) : (dats m 0 c).leavesExact 6 t = owns (c : Thread nD τ) (st6 t) fullShare (k0_pay1 (rdTop (scAt m c t.val t.isLt).dk)) := by
  rw [← after_6]; unfold Dat.leavesExact; rw [live_6 t h]
theorem leaves_7 (c : Dev nD) (t : Fin cfg0.N) (h : t.val % 33 = 32) : (dats m 0 c).leavesExact 7 t = owns (c : Thread nD τ) (st7 t) fullShare (k0_pay2 (rdTop (scAt m c t.val t.isLt).dv)) := by
  rw [← after_7]; unfold Dat.leavesExact; rw [live_7 t h]

/-- What the fills leave the query block's own work, from what the scratch held. -/
theorem fill_step (c : Dev nD) (t : Fin cfg0.N) (K : PUnit → sProp 𝕄) :
    iprop(PhiS m c t.val (Nat.le_of_lt t.isLt) ∗ owns (c : Thread nD τ) (st1 t) fullShare (iblk m c 1 t) ∗ owns (c : Thread nD τ) (st2 t) fullShare (iblk m c 2 t)
        ∗ (iprop(owns (c : Thread nD τ) (st1 t) fullShare (iblk m c 1 t) ∗ owns (c : Thread nD τ) (st2 t) fullShare (iblk m c 2 t) ∗ owns (c : Thread nD τ) sc0 fullShare (scIn m c t).kb ∗ owns (c : Thread nD τ) sc1 fullShare (scIn m c t).vb ∗ owns (c : Thread nD τ) sc2 fullShare (scIn m c t).dk ∗ owns (c : Thread nD τ) sc3 fullShare (scIn m c t).dv ∗ owns (c : Thread nD τ) sc4 fullShare (scIn m c t).tb ∗ owns (c : Thread nD τ) sc5 fullShare (scIn m c t).tu ∗ (∃ r, prngReg c r)) -∗ K ⟨⟩))
      ⊢ wp frame (wpE (defs₀ (F := F)) Variants.none c none) Set.univ (fillPart (grid0.coords t) (st0 t) (hst0 t) (st1 t) (hst1 t) (st2 t) (hst2 t) (st3 t) (hst3 t) (st4 t) (hst4 t) (st5 t) (hst5 t) (st6 t) (hst6 t) (st7 t) (hst7 t) sc0 (Memref.isWhole_whole _) sc1 (Memref.isWhole_whole _) sc2 (Memref.isWhole_whole _) sc3 (Memref.isWhole_whole _) sc4 (Memref.isWhole_whole _) sc5 (Memref.isWhole_whole _)) K := by
  by_cases h : t.val % 33 = 0
  · iintro ⟨HP, H1, H2, Hk⟩
    ihave HP := (PhiS_any m c _ _) $$ HP
    icases HP with ⟨⟨HS0, HS1, HS2, HS3, HS4, HS5⟩, Hg⟩
    iapply (fill_run c Set.univ (grid0.coords t) (st0 t) (hst0 t) (st1 t) (hst1 t) (st2 t) (hst2 t) (st3 t) (hst3 t) (st4 t) (hst4 t) (st5 t) (hst5 t) (st6 t) (hst6 t) (st7 t) (hst7 t) sc0 (Memref.isWhole_whole _) sc1 (Memref.isWhole_whole _) sc2 (Memref.isWhole_whole _) sc3 (Memref.isWhole_whole _) sc4 (Memref.isWhole_whole _) sc5 (Memref.isWhole_whole _) ((hfirst t).mpr h) (iblk m c 1 t) (iblk m c 2 t))
    isplitl [H1]; · iexact H1
    isplitl [H2]; · iexact H2
    isplitl [HS0]; · iexact HS0
    isplitl [HS1]; · iexact HS1
    isplitl [HS2]; · iexact HS2
    isplitl [HS3]; · iexact HS3
    isplitl [HS4]; · iexact HS4
    isplitl [HS5]; · iexact HS5
    iintro ⟨H1, H2, HS0, HS1, HS2, HS3, HS4, HS5⟩
    iapply Hk
    rw [scIn, dif_pos h]
    unfold scFill
    dsimp only
    isplitl [H1]; · iexact H1
    isplitl [H2]; · iexact H2
    isplitl [HS0]; · iexact HS0
    isplitl [HS1]; · iexact HS1
    isplitl [HS2]; · iexact HS2
    isplitl [HS3]; · iexact HS3
    isplitl [HS4]; · iexact HS4
    isplitl [HS5]; · iexact HS5
    iexact Hg
  · rw [PhiS_pos m c _ _ (by omega)]
    iintro ⟨⟨⟨HS0, HS1, HS2, HS3, HS4, HS5⟩, Hg⟩, H1, H2, Hk⟩
    iapply (fill_skip c Set.univ (grid0.coords t) (st0 t) (hst0 t) (st1 t) (hst1 t) (st2 t) (hst2 t) (st3 t) (hst3 t) (st4 t) (hst4 t) (st5 t) (hst5 t) (st6 t) (hst6 t) (st7 t) (hst7 t) sc0 (Memref.isWhole_whole _) sc1 (Memref.isWhole_whole _) sc2 (Memref.isWhole_whole _) sc3 (Memref.isWhole_whole _) sc4 (Memref.isWhole_whole _) sc5 (Memref.isWhole_whole _) (fun h' => h ((hfirst t).mp h')))
    iapply Hk
    rw [scIn, dif_neg h]
    isplitl [H1]; · iexact H1
    isplitl [H2]; · iexact H2
    isplitl [HS0]; · iexact HS0
    isplitl [HS1]; · iexact HS1
    isplitl [HS2]; · iexact HS2
    isplitl [HS3]; · iexact HS3
    isplitl [HS4]; · iexact HS4
    isplitl [HS5]; · iexact HS5
    iexact Hg

def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [body_split, wp_bind]
  simp only [before_0, before_1, before_2, before_3, before_4, leaves_0, leaves_1, leaves_2, leaves_3, leaves_4, leaves_5]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _), Phi_castSucc]
  rw [show scAt m c (t.val + 1 - 1) (by omega) = scAt m c t.val t.isLt from rfl]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (fill_step m c t)
  isplitl [HP]; · iexact HP
  isplitl [H1]; · iexact H1
  isplitl [H2]; · iexact H2
  iintro ⟨H1, H2, HS0, HS1, HS2, HS3, HS4, HS5, Hg⟩
  rw [wp_bind]
  iapply (main_run c Set.univ (grid0.coords t) (st0 t) (hst0 t) (st1 t) (hst1 t) (st2 t) (hst2 t) (st3 t) (hst3 t) (st4 t) (hst4 t) (st5 t) (hst5 t) (st6 t) (hst6 t) (st7 t) (hst7 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 3 t) (iblk m c 4 t) (scIn m c t).kb (scIn m c t).vb (scIn m c t).dk (scIn m c t).dv (scIn m c t).tb (scIn m c t).tu)
  isplitl [H0]; · iexact H0
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H3, H4, H5, HS0, HS1, HS2, HS3, HS4, HS5⟩
  have e := scAt_eq m c t
  unfold scStep at e
  by_cases h : t.val % 33 = 32
  · rw [leaves_6 m c t h, leaves_7 m c t h, e]
    dsimp only
    iapply (end_run c Set.univ (grid0.coords t) (st0 t) (hst0 t) (st1 t) (hst1 t) (st2 t) (hst2 t) (st3 t) (hst3 t) (st4 t) (hst4 t) (st5 t) (hst5 t) (st6 t) (hst6 t) (st7 t) (hst7 t) sc0 (Memref.isWhole_whole _) sc1 (Memref.isWhole_whole _) sc2 (Memref.isWhole_whole _) sc3 (Memref.isWhole_whole _) sc4 (Memref.isWhole_whole _) sc5 (Memref.isWhole_whole _) ((hlast t).mpr h) _ _)
    isplitl [HS2]; · iexact HS2
    isplitl [HS3]; · iexact HS3
    isplitl [H6]; · iexists _; iexact H6
    isplitl [H7]; · iexists _; iexact H7
    iintro ⟨HS2, HS3, H6, H7⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Dat.leavesExact_idle (dats m 0 c) 6 t (idle_6 t h) (noFlush_6 t h), Dat.leavesExact_idle (dats m 0 c) 7 t (idle_7 t h) (noFlush_7 t h), e]
    dsimp only
    iapply (end_skip c Set.univ (grid0.coords t) (st0 t) (hst0 t) (st1 t) (hst1 t) (st2 t) (hst2 t) (st3 t) (hst3 t) (st4 t) (hst4 t) (st5 t) (hst5 t) (st6 t) (hst6 t) (st7 t) (hst7 t) sc0 (Memref.isWhole_whole _) sc1 (Memref.isWhole_whole _) sc2 (Memref.isWhole_whole _) sc3 (Memref.isWhole_whole _) sc4 (Memref.isWhole_whole _) sc5 (Memref.isWhole_whole _) (fun h' => h ((hlast t).mp h')))
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7

theorem defs₀_at (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_at]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS]

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_some m c _ _

set_option backward.isDefEq.respectTransparency.types false in
/-- The whole program's run: every array of the pipeline ends at what the contents above give, and every counter at zero. -/
theorem run_all : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_all m ρ)

/-- The frame: the program terminates, leaves its arguments and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_all m ρ))

end Cert.KernelIdeal.Attn

end
-- ==== Proof.Products.lean ====
/- The three forms in which the step multiplies two matrices, each as one function of the two arrays. The blocked calls and
   the references are both compared with these. -/
module

public import Idealize.ShloMosaic.Lib.Pipeline.ValueKit
public import Idealize.ShloMosaic.Lib.Pointwise

@[expose] public section

noncomputable section

namespace Cert.Products

open Idealize.ShloMosaic

variable {p q n : ℕ}

/-- A product with a transposed right factor: rows against rows. -/
def nt (x : (⟨2, ![p, n]⟩ : Shape).Idx → EReal) (w : (⟨2, ![q, n]⟩ : Shape).Idx → EReal) (i : (⟨2, ![p, q]⟩ : Shape).Idx) : EReal :=
  ∑ k : Fin n, x (ix2 (i 0) k) * w (ix2 (i 1) k)

/-- A plain product: rows against columns. -/
def nn (x : (⟨2, ![p, n]⟩ : Shape).Idx → EReal) (w : (⟨2, ![n, q]⟩ : Shape).Idx → EReal) (i : (⟨2, ![p, q]⟩ : Shape).Idx) : EReal :=
  ∑ k : Fin n, x (ix2 (i 0) k) * w (ix2 k (i 1))

/-- A product with a transposed left factor: columns against columns. -/
def tn (x : (⟨2, ![n, p]⟩ : Shape).Idx → EReal) (y : (⟨2, ![n, q]⟩ : Shape).Idx → EReal) (i : (⟨2, ![p, q]⟩ : Shape).Idx) : EReal :=
  ∑ k : Fin n, x (ix2 k (i 0)) * y (ix2 k (i 1))

end Cert.Products

end
-- ==== Proof.Sums.lean ====
/- Sums over the extended reals: a product accumulated over consecutive blocks of rows is the product over all rows, and a
   nonnegative real factor passes through a sum. -/
module

public import Idealize.ShloMosaic.Lib.Pipeline.ValueKit
public import Mathlib.Data.EReal.Operations

@[expose] public section

noncomputable section

namespace Cert.Sums

open Idealize.ShloMosaic

/-- The accumulator after the last of `S` blocks of `n` rows: the reset and each step add their block's sum of `f`. -/
theorem accumulated {N : ℕ} {ι : Type*} {L : ℕ} (S n : ℕ) (a : (p : ℕ) → p < N → ι → EReal)
    (g : (p : ℕ) → p < N → (ι → EReal) → ι → EReal) (b : ℕ) (term : (p : ℕ) → p < N → ι → EReal) (e : ℕ) (he : e + 1 = S)
    (ha : ∀ h j, a b h j = 0 + term b h j)
    (hg : ∀ p h acc j, b < p → p ≤ b + e → g p h acc j = acc j + term p h j)
    (i : ι) (f : Fin L → EReal) (hL : L = S * n)
    (ht : ∀ (s : ℕ) (hs : s < S) (h : b + s < N), term (b + s) h i
      = ∑ k : Fin n, f ⟨s * n + k.val, by
          have hk := k.isLt
          have := Nat.mul_le_mul_right n (Nat.succ_le_of_lt hs)
          rw [Nat.succ_mul] at this
          omega⟩)
    (h : b + e < N) : Pipeline.accAt a g b e h i = ∑ k : Fin L, f k := by
  subst he
  refine (Pipeline.accAt_add_apply a g (fun _ => (0 : EReal)) (fun p j => if h : p < N then term p h j else 0) b e
    (fun h j => by rw [dif_pos h]; exact ha h j)
    (fun p h acc j h1 h2 => by rw [dif_pos h]; exact hg p h acc j h1 h2) e le_rfl h i).trans ?_
  rw [zero_add, Finset.sum_range]
  refine (Finset.sum_congr rfl fun s _ => ?_).trans (Fin.sum_mul_add_fin (e + 1) n f hL)
  have hs : b + s.val < N := by have := s.isLt; omega
  rw [dif_pos hs]
  exact ht s.val s.isLt hs

/-- A nonnegative real factor passes through a sum, whatever the terms. -/
theorem sum_mul_real {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert i s hi ih =>
    rw [Finset.sum_insert hi, Finset.sum_insert hi, ← ih]
    exact EReal.right_distrib_of_nonneg_of_ne_top (EReal.coe_nonneg.mpr hc) (EReal.coe_ne_top c) _ _

/-- The accumulator before the last of `S` blocks of `n` rows, plus the last block's sum. -/
theorem accumulated_last {N : ℕ} {ι : Type*} {L : ℕ} (S n : ℕ) (a : (p : ℕ) → p < N → ι → EReal)
    (g : (p : ℕ) → p < N → (ι → EReal) → ι → EReal) (b : ℕ) (term : (p : ℕ) → p < N → ι → EReal) (e : ℕ) (he : e + 2 = S)
    (ha : ∀ h j, a b h j = 0 + term b h j)
    (hg : ∀ p h acc j, b < p → p ≤ b + e → g p h acc j = acc j + term p h j)
    (i : ι) (f : Fin L → EReal) (hL : L = S * n)
    (ht : ∀ (s : ℕ) (hs : s < S) (h : b + s < N), term (b + s) h i
      = ∑ k : Fin n, f ⟨s * n + k.val, by
          have hk := k.isLt
          have := Nat.mul_le_mul_right n (Nat.succ_le_of_lt hs)
          rw [Nat.succ_mul] at this
          omega⟩)
    (h : b + e < N) (h' : b + (e + 1) < N) : Pipeline.accAt a g b e h i + term (b + (e + 1)) h' i = ∑ k : Fin L, f k := by
  rw [← accumulated S n a (fun p h acc j => acc j + term p h j) b term (e + 1) he ha (fun _ _ _ _ _ _ => rfl) i f hL ht h',
    Pipeline.accAt_succ]
  refine congrArg (fun z : EReal => z + term (b + (e + 1)) h' i) ?_
  have hc : ∀ (d : ℕ) (hd : b + d < N), d ≤ e → ∀ j,
      Pipeline.accAt a g b d hd j = Pipeline.accAt a (fun p h acc j => acc j + term p h j) b d hd j := by
    intro d
    induction d with
    | zero => intro hd _ j; rw [Pipeline.accAt_zero, Pipeline.accAt_zero]
    | succ d ih =>
      intro hd hle j
      rw [Pipeline.accAt_succ, Pipeline.accAt_succ, hg _ _ _ _ (by omega) (by omega), ih (by omega) (by omega) j]
  exact hc e h le_rfl i

/-- The f32 word `0x3F000000` is one half. -/
theorem ofBits_half : Ideal.ofBits .f32 0x3F000000#32 = ((1 / 2 : ℝ) : EReal) := by
  simp [Ideal.ofBits, Ideal.ieee, -EReal.coe_mul]
  norm_num

end Cert.Sums

end
-- ==== Proof.Down2.lean ====
/- The backward of the feed-forward block's gate through its down-projection: with `d = 0.5 * (dh @ w2^T)` and `s` the
   logistic of `a`, the two gradients are `d * b * s * (1 + a * (1 - s))` and `d * a * s`. The reference factors the first
   one otherwise; the two agree where `d * b` is finite, which the precondition gives. -/
module

public import proofs.«01_k».proof.Proof.Gen.Kernel2Ideal.Value
public import proofs.«01_k».proof.Proof.Gen.Reference2Ideal.Read
public import proofs.«01_k».proof.Proof.Gen.Pre_finite
public import proofs.«01_k».proof.Proof.Products
public import proofs.«01_k».proof.Proof.Sums
public import proofs.«01_k».proof.Defs

@[expose] public section

set_option maxRecDepth 16384

noncomputable section

namespace Cert.Kernel2Ideal.Down

open Cert.Kernel2Ideal Cert.Kernel2Ideal.Gen Cert.Kernel2Ideal.Value Idealize.ShloMosaic Idealize.ShloMosaic.TcCoe Idealize.SL.Sem

variable (m : (ℓ : Loc nD τ sig) → Buf (Elt Ideal) ℓ)

/-- Which blocks a grid point reads and writes. -/
theorem idx : ∀ t : Fin cfg0.N, win0_0.index t = ![t.val % 16, 0] ∧ win0_1.index t = ![t.val / 16, 0]
    ∧ win0_2.index t = ![t.val % 16, t.val / 16] ∧ win0_3.index t = ![t.val % 16, t.val / 16]
    ∧ win0_4.index t = ![t.val % 16, t.val / 16] ∧ win0_5.index t = ![t.val % 16, t.val / 16] :=
  (by decide +kernel : ∀ t : Fin grid0.N, _)

/-- The gradient of the gate's first input at one element, from the product and the two inputs. -/
def first (p a b : EReal) : EReal :=
  Ideal.ofBits .f32 0x3F000000#32 * p * b * Ideal.logistic a * (1 + a * (1 - Ideal.logistic a))

/-- The gradient of the gate's second input at one element. -/
def second (p a : EReal) : EReal := Ideal.ofBits .f32 0x3F000000#32 * p * a * Ideal.logistic a

theorem pay4_apply (x : Vec Ideal S528x1024 .bf16) (w : Vec Ideal S1408x1024 .bf16) (a b : Vec Ideal S528x1408 .bf16) (j : S528x1408.Idx) :
    (k0_pay4 x w a b j : EReal) = first (Cert.Products.nt (fun i => x i) (fun i => w i) j) (a j) (b j) := by
  unfold first Cert.Products.nt
  unfold_payloads
  pointwise

theorem pay5_apply (x : Vec Ideal S528x1024 .bf16) (w : Vec Ideal S1408x1024 .bf16) (a : Vec Ideal S528x1408 .bf16) (j : S528x1408.Idx) :
    (k0_pay5 x w a j : EReal) = second (Cert.Products.nt (fun i => x i) (fun i => w i) j) (a j) := by
  unfold second Cert.Products.nt
  unfold_payloads
  pointwise

/-- A point's product of blocks, read in the arrays. -/
theorem product_apply (c : Dev nD) (t : Fin cfg0.N) (j : S528x1408.Idx) (i : S8448x2816.Idx)
    (h0 : (i 0).val = (t.val % 16) * 528 + (j 0).val) (h1 : (i 1).val = (t.val / 16) * 1408 + (j 1).val) :
    Cert.Products.nt (fun i => iblk m c 0 t i) (fun i => iblk m c 1 t i) j
      = Cert.Products.nt (fun i => m ((c : Thread nD τ).loc main_arg0) i) (fun i => m ((c : Thread nD τ).loc main_arg1) i) i := by
  have e0 : ∀ k : Fin 1024, iblk m c 0 t (ix2 (j 0) k) = m ((c : Thread nD τ).loc main_arg0) (ix2 (i 0) k) := fun k => by
    blk_ext [iblk, V, idx t]
  have e1 : ∀ k : Fin 1024, iblk m c 1 t (ix2 (j 1) k) = m ((c : Thread nD τ).loc main_arg1) (ix2 (i 1) k) := fun k => by
    blk_ext [iblk, V, idx t]
  unfold Cert.Products.nt
  simp only [e0, e1]

theorem array4_eq (c : Dev nD) : (dats m 0 c).arrAt 4 cfg0.N = fun i => first
    (Cert.Products.nt (fun i => m ((c : Thread nD τ).loc main_arg0) i) (fun i => m ((c : Thread nD τ).loc main_arg1) i) i)
    (m ((c : Thread nD τ).loc main_arg2) i) (m ((c : Thread nD τ).loc main_arg3) i) := by
  refine (dats m 0 c).arrAt_eq_of_covers 4 _ (by decide +kernel) fun t hf y => ?_
  blk_simp
  rw [after0_4]
  frame_out
  refine (pay4_apply _ _ _ _ _).trans ?_
  have e2 : iblk m c 2 t y = m ((c : Thread nD τ).loc main_arg2) (((View.whole main_v0_0).slice (win0_4.rect t)).emb y) := by
    blk_ext [iblk, V, idx t]
  have e3 : iblk m c 3 t y = m ((c : Thread nD τ).loc main_arg3) (((View.whole main_v0_0).slice (win0_4.rect t)).emb y) := by
    blk_ext [iblk, V, idx t]
  rw [product_apply m c t y (((View.whole main_v0_0).slice (win0_4.rect t)).emb y) (by blk_point [idx t]) (by blk_point [idx t]), e2, e3]

theorem array5_eq (c : Dev nD) : (dats m 0 c).arrAt 5 cfg0.N = fun i => second
    (Cert.Products.nt (fun i => m ((c : Thread nD τ).loc main_arg0) i) (fun i => m ((c : Thread nD τ).loc main_arg1) i) i)
    (m ((c : Thread nD τ).loc main_arg2) i) := by
  refine (dats m 0 c).arrAt_eq_of_covers 5 _ (by decide +kernel) fun t hf y => ?_
  blk_simp
  rw [after0_5]
  frame_out
  refine (pay5_apply _ _ _ _).trans ?_
  have e2 : iblk m c 2 t y = m ((c : Thread nD τ).loc main_arg2) (((View.whole main_v0_1).slice (win0_5.rect t)).emb y) := by
    blk_ext [iblk, V, idx t]
  rw [product_apply m c t y (((View.whole main_v0_1).slice (win0_5.rect t)).emb y) (by blk_point [idx t]) (by blk_point [idx t]), e2]

end Cert.Kernel2Ideal.Down

namespace Cert.Reference2Ideal.Down

open Cert.Reference2Ideal Cert.Reference2Ideal.Gen Cert.Reference2Ideal.Read Idealize.ShloMosaic Cert.Kernel2Ideal.Down

/-- The reference's product: its factor stands inside the sum. -/
theorem product_eq (x : S8448x1024.Idx → EReal) (w : S2816x1024.Idx → EReal) (i : S8448x2816.Idx) :
    val_main_v11 (F := Ideal) x w i = Ideal.ofBits .f32 0x3F000000#32 * Cert.Products.nt x w i := by
  have e : val_main_v11 (F := Ideal) x w i = ∑ k : Fin 1024, Ideal.ofBits .f32 0x3F000000#32 * x (ix2 (i 0) k) * w (ix2 (i 1) k) := by
    unfold val_main_v11 val_main_v10 val_main_v9 val_main_v8 val_main_v4 val_main_cst_0
    pointwise
  rw [e, Cert.Sums.ofBits_half, mul_comm]
  unfold Cert.Products.nt
  rw [Cert.Sums.sum_mul_real _ _ _ (by norm_num)]
  exact Finset.sum_congr rfl fun k _ => mul_rotate _ _ _

theorem second_eq (x : S8448x1024.Idx → EReal) (w : S2816x1024.Idx → EReal) (a : S8448x2816.Idx → EReal) (i : S8448x2816.Idx) :
    val_main_v16 (F := Ideal) x w a i = second (Cert.Products.nt x w i) (a i) := by
  unfold second
  rw [← product_eq]
  unfold val_main_v16 val_main_v12 val_main_v2_0 val_main_v2_2 val_main_call0_v4 val_main_call0_v3 val_main_call0_v2 val_main_call0_v1
    val_main_call0_v0 val_main_v0 val_main_call0_cst val_main_call0_cst_0
  generalize val_main_v11 (F := Ideal) x w = p
  pointwise
  show a i * Ideal.logistic (a i) * p i = p i * a i * Ideal.logistic (a i)
  rw [mul_comm, mul_assoc]

/-- The logistic function's values: 0 and 1 at the infinities, and a finite number elsewhere. -/
theorem logistic_bot : Ideal.logistic (⊥ : EReal) = 0 := by
  have h : Ideal.exp (-(⊥ : EReal)) = ⊤ := by rw [EReal.neg_bot]; rfl
  unfold Ideal.logistic Ideal.div
  have e : (1 : EReal) + ⊤ = ⊤ := by rw [← EReal.coe_one]; exact EReal.coe_add_top 1
  rw [h, e]
  simp

theorem logistic_top : Ideal.logistic (⊤ : EReal) = 1 := by
  have h : Ideal.exp (-(⊤ : EReal)) = 0 := by rw [EReal.neg_top]; rfl
  unfold Ideal.logistic Ideal.div
  rw [h]
  simp

theorem logistic_real (r : ℝ) : ∃ s : ℝ, Ideal.logistic (r : EReal) = s := by
  refine ⟨(1 + Real.exp (-r))⁻¹, ?_⟩
  have hp : (0 : ℝ) < 1 + Real.exp (-r) := by positivity
  have h : (1 : EReal) + Ideal.exp (-(r : EReal)) = ((1 + Real.exp (-r) : ℝ) : EReal) := by
    rw [← EReal.coe_neg, EReal.coe_add, EReal.coe_one]
    rfl
  unfold Ideal.logistic Ideal.div
  rw [h, if_neg (by exact_mod_cast hp.ne'), one_mul, ← EReal.coe_inv]

/-- The two factorings of the gate's derivative agree at a finite product. -/
theorem factor (x : ℝ) (a : EReal) :
    (x : EReal) * Ideal.logistic a + a * x * (Ideal.logistic a * (1 - Ideal.logistic a))
      = x * Ideal.logistic a * (1 + a * (1 - Ideal.logistic a)) := by
  have h1 : (1 : EReal) - 1 = 0 := by rw [← EReal.coe_one, ← EReal.coe_sub, sub_self, EReal.coe_zero]
  induction a with
  | bot => rw [logistic_bot]; simp
  | top => rw [logistic_top, h1]; simp
  | coe r =>
    obtain ⟨s, hs⟩ := logistic_real r
    rw [hs]
    norm_cast
    ring

/-- A finite number times a sum of products of finite numbers times a finite number is finite. -/
theorem finite_product (x : S8448x1024.Idx → EReal) (w : S2816x1024.Idx → EReal) (b : S8448x2816.Idx → EReal)
    (hx : ∀ i, ∃ r : ℝ, x i = r) (hw : ∀ i, ∃ r : ℝ, w i = r) (hb : ∀ i, ∃ r : ℝ, b i = r) (i : S8448x2816.Idx) :
    ∃ r : ℝ, Ideal.ofBits .f32 0x3F000000#32 * Cert.Products.nt x w i * b i = r := by
  choose fx ex using hx
  choose fw ew using hw
  choose fb eb using hb
  refine ⟨1 / 2 * (∑ k : Fin 1024, fx (ix2 (i 0) k) * fw (ix2 (i 1) k)) * fb i, ?_⟩
  rw [Cert.Sums.ofBits_half]
  unfold Cert.Products.nt
  simp only [ex, ew, eb]
  push_cast
  rfl

theorem first_eq (x : S8448x1024.Idx → EReal) (w : S2816x1024.Idx → EReal) (a b : S8448x2816.Idx → EReal) (i : S8448x2816.Idx)
    (r : ℝ) (h : Ideal.ofBits .f32 0x3F000000#32 * Cert.Products.nt x w i * b i = r) :
    val_main_v15 (F := Ideal) x w a b i = first (Cert.Products.nt x w i) (a i) (b i) := by
  unfold first
  rw [h, ← factor]
  rw [← product_eq] at h
  unfold val_main_v15 val_main_v14 val_main_call1_v2 val_main_call1_v1 val_main_call1_v0 val_main_v2_1 val_main_call0_v7 val_main_call0_v6
    val_main_call0_cst_1 val_main_v13 val_main_v1 val_main_v2_2 val_main_call0_v4 val_main_call0_v3 val_main_call0_v2 val_main_call0_v1
    val_main_call0_v0 val_main_v0 val_main_call0_cst val_main_call0_cst_0
  revert h
  generalize val_main_v11 (F := Ideal) x w = p
  intro h
  pointwise
  rw [show (p i * b i : EReal) = r from h]
  rfl

end Cert.Reference2Ideal.Down

namespace Cert.Proof

open Idealize.ShloMosaic Idealize.SL.Sem

/-- A value below infinity in absolute value is a real number. -/
theorem real_of_abs_lt (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

/-- Under the precondition the blocked gradients and the reference's are equal arrays. -/
theorem algebraic2 : Cert.algebraic_Kernel2Ideal_Reference2Ideal_pre_finite := by
  intro m g m' g' hp hag
  refine ⟨fun c => (Cert.Kernel2Ideal.Gen.dats m 0 c).arrAt 4 Cert.Kernel2Ideal.cfg0.N,
    fun c => (Cert.Kernel2Ideal.Gen.dats m 0 c).arrAt 5 Cert.Kernel2Ideal.cfg0.N, Cert.Kernel2Ideal.Value.run_blocks m g,
    (θ_run _ _ _).mono (fun r h c => ⟨(h c).1.trans ?_, (h c).2.1.trans ?_, (h c).2.2⟩) (Cert.Reference2Ideal.Value.run m' g')⟩
  · rw [Cert.Reference2Ideal.Read.val_main_v15_eq, (hag c).1, (hag c).2.1, (hag c).2.2.1, (hag c).2.2.2]
    refine Eq.trans ?_ (Cert.Kernel2Ideal.Down.array4_eq m c).symm
    funext i
    obtain ⟨r, hr⟩ := Cert.Reference2Ideal.Down.finite_product _ _ _
      (fun i => real_of_abs_lt _ (congrFun (hp c).1 i)) (fun i => real_of_abs_lt _ (congrFun (hp c).2.1 i))
      (fun i => real_of_abs_lt _ (congrFun (hp c).2.2 i)) i
    exact Cert.Reference2Ideal.Down.first_eq _ _ _ _ i r hr
  · rw [Cert.Reference2Ideal.Read.val_main_v16_eq, (hag c).1, (hag c).2.1, (hag c).2.2.1]
    refine Eq.trans ?_ (Cert.Kernel2Ideal.Down.array5_eq m c).symm
    funext i
    exact Cert.Reference2Ideal.Down.second_eq _ _ _ i

end Cert.Proof

end
-- ==== Proof.Tn3.lean ====
/- The gradient of the down-projection's weights, `0.5 * (act^T · dh)`: what the blocked product leaves in the result
   array, as one sum over all rows. -/
module

public import proofs.«01_k».proof.Proof.Gen.Kernel3Ideal.Value
public import proofs.«01_k».proof.Proof.Gen.Reference3Ideal.Read
public import proofs.«01_k».proof.Proof.Sums
public import proofs.«01_k».proof.Defs
public import Idealize.ShloMosaic.Lib.Pipeline.ValueKit
public import Idealize.ShloMosaic.Lib.Pointwise

@[expose] public section

set_option maxRecDepth 16384

noncomputable section

namespace Cert.Kernel3Ideal.Tn

open Cert.Kernel3Ideal Cert.Kernel3Ideal.Gen Cert.Kernel3Ideal.Value Idealize.ShloMosaic Idealize.ShloMosaic.TcCoe Idealize.SL.Sem

variable (m : (ℓ : Loc nD τ sig) → Buf (Elt Ideal) ℓ)

/-- Which blocks a grid point reads. -/
theorem idx : ∀ t : Fin cfg0.N, win0_0.index t = ![t.val % 8, t.val / 8] ∧ win0_1.index t = ![t.val % 8, 0] :=
  (by decide +kernel : ∀ t : Fin grid0.N, _)

/-- The product of a point's two blocks at an element. -/
def blockSum (x : Vec Ideal S1056x1408 .bf16) (y : Vec Ideal S1056x1024 .bf16) (j : S1408x1024.Idx) : EReal :=
  ∑ k : Fin 1056, (fun i => x i : S1056x1408.Idx → EReal) (ix2 k (j 0)) * (fun i => y i : S1056x1024.Idx → EReal) (ix2 k (j 1))

theorem reset_apply (c : Dev nD) (n : ℕ) (h : n < cfg0.N) (j : S1408x1024.Idx) :
    reset2 m c n h j = (0 : EReal) + blockSum (iblk m c 0 ⟨n, h⟩) (iblk m c 1 ⟨n, h⟩) j := by
  unfold reset2 blockSum
  unfold_payloads
  pointwise

theorem pay2_apply (x : Vec Ideal S1056x1408 .bf16) (y : Vec Ideal S1056x1024 .bf16) (acc : Vec Ideal S1408x1024 .f32) (j : S1408x1024.Idx) :
    (k0_pay2 acc x y j : EReal) = (acc j : EReal) + blockSum x y j := by
  unfold blockSum
  unfold_payloads
  pointwise

theorem step_apply (c : Dev nD) (n : ℕ) (h : n < cfg0.N) (acc : Vec Ideal S1408x1024 .f32) (j : S1408x1024.Idx)
    (h0 : ¬n % 8 = 0) (h7 : ¬n % 8 = 7) :
    step2 m c n h acc j = (acc j : EReal) + blockSum (iblk m c 0 ⟨n, h⟩) (iblk m c 1 ⟨n, h⟩) j := by
  unfold step2
  rw [if_pos ⟨h0, h7⟩]
  exact pay2_apply _ _ _ _

theorem last_apply (c : Dev nD) (n : ℕ) (h : n < cfg0.N) (acc : Vec Ideal S1408x1024 .f32) (j : S1408x1024.Idx) (h7 : n % 8 = 7) :
    step2 m c n h acc j
      = ((acc j : EReal) + blockSum (iblk m c 0 ⟨n, h⟩) (iblk m c 1 ⟨n, h⟩) j) * Ideal.ofBits .f32 0x3F000000#32 := by
  unfold step2
  rw [if_neg (by omega), if_pos ⟨by omega, h7⟩, ← pay2_apply]
  unfold k0_pay3
  pointwise

/-- A point's first block, read in the array. -/
theorem block0 (c : Dev nD) (t : Fin cfg0.N) (k : Fin 1056) (r : Fin 1408) (a : Fin 8448) (b : Fin 2816)
    (ha : a.val = (t.val % 8) * 1056 + k.val) (hb : b.val = 1408 * (t.val / 8) + r.val) :
    iblk m c 0 t (ix2 k r) = m ((c : Thread nD τ).loc main_arg0) (ix2 a b) := by
  blk_ext [iblk, V, idx t]

/-- A point's second block, read in the array. -/
theorem block1 (c : Dev nD) (t : Fin cfg0.N) (k : Fin 1056) (r : Fin 1024) (a : Fin 8448) (b : Fin 1024)
    (ha : a.val = (t.val % 8) * 1056 + k.val) (hb : b.val = r.val) :
    iblk m c 1 t (ix2 k r) = m ((c : Thread nD τ).loc main_arg1) (ix2 a b) := by
  blk_ext [iblk, V, idx t]

/-- The result array is half the product of the two whole arrays. -/
theorem array_eq (c : Dev nD) (x : S8448x2816.Idx → EReal) (y : S8448x1024.Idx → EReal)
    (hx : m ((c : Thread nD τ).loc main_arg0) = x) (hy : m ((c : Thread nD τ).loc main_arg1) = y) (i : S2816x1024.Idx) :
    G2 m c i = (∑ k : Fin 8448, x (ix2 k (i 0)) * y (ix2 k (i 1))) * Ideal.ofBits .f32 0x3F000000#32 := by
  have hi0 : (i 0).val < 2816 := (i 0).isLt
  have hi1 : (i 1).val < 1024 := (i 1).isLt
  have hN : cfg0.N = 16 := N_0
  have hr : run2Of i = (i 0).val / 1408 := by unfold run2Of; omega
  have hlt : 8 * run2Of i + 7 < cfg0.N := by omega
  unfold G2
  rw [dif_pos hlt, Pipeline.accAt_succ]
  refine (last_apply m c _ _ _ _ (by omega)).trans (congrArg (fun z : EReal => z * Ideal.ofBits .f32 0x3F000000#32) ?_)
  refine (Cert.Sums.accumulated_last 8 1056 (reset2 m c) (step2 m c) (8 * run2Of i)
    (fun n h j => blockSum (iblk m c 0 ⟨n, h⟩) (iblk m c 1 ⟨n, h⟩) j) 6 rfl
    (fun h j => reset_apply m c _ h j)
    (fun n h acc j h1 h2 => step_apply m c n h acc j (by omega) (by omega)) (loc2Of i)
    (fun k : Fin 8448 => x (ix2 k (i 0)) * y (ix2 k (i 1)))
    rfl ?_ _ hlt)
  intro s hs h
  unfold blockSum
  refine Finset.sum_congr rfl fun k _ => ?_
  have e0 := block0 m c ⟨8 * run2Of i + s, h⟩ k (loc2Of i 0) ⟨s * 1056 + k.val, by omega⟩ (i 0)
    (by show s * 1056 + k.val = (8 * run2Of i + s) % 8 * 1056 + k.val; omega)
    (by show (i 0).val = 1408 * ((8 * run2Of i + s) / 8) + (i 0).val % 1408; omega)
  have e1 := block1 m c ⟨8 * run2Of i + s, h⟩ k (loc2Of i 1) ⟨s * 1056 + k.val, by omega⟩ (i 1)
    (by show s * 1056 + k.val = (8 * run2Of i + s) % 8 * 1056 + k.val; omega)
    (by show (i 1).val = (i 1).val % 1024; omega)
  rw [hx] at e0
  rw [hy] at e1
  exact congrArg₂ (fun p q : EReal => p * q) e0 e1

end Cert.Kernel3Ideal.Tn

namespace Cert.Reference3Ideal.Tn

open Cert.Reference3Ideal Cert.Reference3Ideal.Gen Cert.Reference3Ideal.Read Idealize.ShloMosaic

/-- The reference's result at an index. -/
theorem result_apply (x : S8448x2816.Idx → EReal) (y : S8448x1024.Idx → EReal) (i : S2816x1024.Idx) :
    val_main_v9 (F := Ideal) x y i
      = ∑ k : Fin 8448, Ideal.ofBits .f32 0x3F000000#32 * y (ix2 k (i 1)) * x (ix2 k (i 0)) := by
  unfold val_main_v9 val_main_v8 val_main_v7 val_main_v6 val_main_v5 val_main_cst_1 val_main_v1
  pointwise

end Cert.Reference3Ideal.Tn

namespace Cert.Proof

open Idealize.ShloMosaic Idealize.SL.Sem

/-- The blocked product and the reference leave equal arrays. -/
theorem algebraic3 : Cert.algebraic_Kernel3Ideal_Reference3Ideal := by
  intro m g m' g' _ hag
  refine ⟨fun c => Cert.Kernel3Ideal.Value.G2 m c, Cert.Kernel3Ideal.Value.run m g,
    (θ_run _ _ _).mono (fun r h c => ⟨(h c).1.trans ?_, (h c).2⟩) (Cert.Reference3Ideal.Value.run m' g')⟩
  rw [Cert.Reference3Ideal.Read.val_main_v9_eq, (hag c).1, (hag c).2]
  funext i
  refine (Cert.Reference3Ideal.Tn.result_apply _ _ i).trans (Eq.trans ?_ (Cert.Kernel3Ideal.Tn.array_eq m c _ _ rfl rfl i).symm)
  rw [Cert.Sums.ofBits_half, Cert.Sums.sum_mul_real _ _ _ (by norm_num)]
  exact Finset.sum_congr rfl fun k _ => by rw [mul_comm, mul_comm (((1 / 2 : ℝ) : EReal)), mul_assoc]

end Cert.Proof

end
-- ==== Proof.Tn4.lean ====
/- The gradient of the up-projection's weights, `da^T · xn`: what the blocked product leaves in the result array, as one
   sum over all rows. -/
module

public import proofs.«01_k».proof.Proof.Gen.Kernel4Ideal.Value
public import proofs.«01_k».proof.Proof.Gen.Reference4Ideal.Read
public import proofs.«01_k».proof.Proof.Sums
public import proofs.«01_k».proof.Defs
public import Idealize.ShloMosaic.Lib.Pipeline.ValueKit
public import Idealize.ShloMosaic.Lib.Pointwise

@[expose] public section

set_option maxRecDepth 16384

noncomputable section

namespace Cert.Kernel4Ideal.Tn

open Cert.Kernel4Ideal Cert.Kernel4Ideal.Gen Cert.Kernel4Ideal.Value Idealize.ShloMosaic Idealize.ShloMosaic.TcCoe Idealize.SL.Sem

variable (m : (ℓ : Loc nD τ sig) → Buf (Elt Ideal) ℓ)

/-- Which blocks a grid point reads. -/
theorem idx : ∀ t : Fin cfg0.N, win0_0.index t = ![t.val % 8, t.val / 8] ∧ win0_1.index t = ![t.val % 8, 0] :=
  (by decide +kernel : ∀ t : Fin grid0.N, _)

/-- The product of a point's two blocks at an element. -/
def blockSum (x : Vec Ideal S1056x1408 .bf16) (y : Vec Ideal S1056x1024 .bf16) (j : S1408x1024.Idx) : EReal :=
  ∑ k : Fin 1056, (fun i => x i : S1056x1408.Idx → EReal) (ix2 k (j 0)) * (fun i => y i : S1056x1024.Idx → EReal) (ix2 k (j 1))

theorem reset_apply (c : Dev nD) (n : ℕ) (h : n < cfg0.N) (j : S1408x1024.Idx) :
    reset2 m c n h j = (0 : EReal) + blockSum (iblk m c 0 ⟨n, h⟩) (iblk m c 1 ⟨n, h⟩) j := by
  unfold reset2 blockSum
  unfold_payloads
  pointwise

theorem step_apply (c : Dev nD) (n : ℕ) (h : n < cfg0.N) (acc : Vec Ideal S1408x1024 .f32) (j : S1408x1024.Idx) :
    step2 m c n h acc j = (acc j : EReal) + blockSum (iblk m c 0 ⟨n, h⟩) (iblk m c 1 ⟨n, h⟩) j := by
  unfold step2 blockSum
  unfold_payloads
  pointwise

/-- A point's first block, read in the array. -/
theorem block0 (c : Dev nD) (t : Fin cfg0.N) (k : Fin 1056) (r : Fin 1408) (a : Fin 8448) (b : Fin 2816)
    (ha : a.val = (t.val % 8) * 1056 + k.val) (hb : b.val = 1408 * (t.val / 8) + r.val) :
    iblk m c 0 t (ix2 k r) = m ((c : Thread nD τ).loc main_arg0) (ix2 a b) := by
  blk_ext [iblk, V, idx t]

/-- A point's second block, read in the array. -/
theorem block1 (c : Dev nD) (t : Fin cfg0.N) (k : Fin 1056) (r : Fin 1024) (a : Fin 8448) (b : Fin 1024)
    (ha : a.val = (t.val % 8) * 1056 + k.val) (hb : b.val = r.val) :
    iblk m c 1 t (ix2 k r) = m ((c : Thread nD τ).loc main_arg1) (ix2 a b) := by
  blk_ext [iblk, V, idx t]

/-- The result array is the product of the two whole arrays. -/
theorem array_eq (c : Dev nD) (x : S8448x2816.Idx → EReal) (y : S8448x1024.Idx → EReal)
    (hx : m ((c : Thread nD τ).loc main_arg0) = x) (hy : m ((c : Thread nD τ).loc main_arg1) = y) (i : S2816x1024.Idx) :
    G2 m c i = ∑ k : Fin 8448, x (ix2 k (i 0)) * y (ix2 k (i 1)) := by
  have hi0 : (i 0).val < 2816 := (i 0).isLt
  have hi1 : (i 1).val < 1024 := (i 1).isLt
  have hN : cfg0.N = 16 := N_0
  have hr : run2Of i = (i 0).val / 1408 := by unfold run2Of; omega
  have hlt : 8 * run2Of i + 7 < cfg0.N := by omega
  unfold G2
  rw [dif_pos hlt]
  refine Cert.Sums.accumulated 8 1056 (reset2 m c) (step2 m c) (8 * run2Of i)
    (fun n h j => blockSum (iblk m c 0 ⟨n, h⟩) (iblk m c 1 ⟨n, h⟩) j) 7 rfl
    (fun h j => reset_apply m c _ h j) (fun n h acc j _ _ => step_apply m c n h acc j) (loc2Of i)
    (fun k : Fin 8448 => x (ix2 k (i 0)) * y (ix2 k (i 1))) rfl ?_ hlt
  intro s hs h
  unfold blockSum
  refine Finset.sum_congr rfl fun k _ => ?_
  have e0 := block0 m c ⟨8 * run2Of i + s, h⟩ k (loc2Of i 0) ⟨s * 1056 + k.val, by omega⟩ (i 0)
    (by show s * 1056 + k.val = (8 * run2Of i + s) % 8 * 1056 + k.val; omega)
    (by show (i 0).val = 1408 * ((8 * run2Of i + s) / 8) + (i 0).val % 1408; omega)
  have e1 := block1 m c ⟨8 * run2Of i + s, h⟩ k (loc2Of i 1) ⟨s * 1056 + k.val, by omega⟩ (i 1)
    (by show s * 1056 + k.val = (8 * run2Of i + s) % 8 * 1056 + k.val; omega)
    (by show (i 1).val = (i 1).val % 1024; omega)
  rw [hx] at e0
  rw [hy] at e1
  exact congrArg₂ (fun p q : EReal => p * q) e0 e1

end Cert.Kernel4Ideal.Tn

namespace Cert.Reference4Ideal.Tn

open Cert.Reference4Ideal Cert.Reference4Ideal.Gen Cert.Reference4Ideal.Read Idealize.ShloMosaic

/-- The reference's result at an index. -/
theorem result_apply (x : S8448x2816.Idx → EReal) (y : S8448x1024.Idx → EReal) (i : S2816x1024.Idx) :
    val_main_v7 (F := Ideal) x y i = ∑ k : Fin 8448, x (ix2 k (i 0)) * y (ix2 k (i 1)) := by
  unfold val_main_v7 val_main_v6 val_main_v5 val_main_v4 val_main_v1
  pointwise

end Cert.Reference4Ideal.Tn

namespace Cert.Proof

open Idealize.ShloMosaic Idealize.SL.Sem

/-- The blocked product and the reference leave equal arrays. -/
theorem algebraic4 : Cert.algebraic_Kernel4Ideal_Reference4Ideal := by
  intro m g m' g' _ hag
  refine ⟨fun c => Cert.Kernel4Ideal.Value.G2 m c, Cert.Kernel4Ideal.Value.run m g,
    (θ_run _ _ _).mono (fun r h c => ⟨(h c).1.trans ?_, (h c).2⟩) (Cert.Reference4Ideal.Value.run m' g')⟩
  rw [Cert.Reference4Ideal.Read.val_main_v7_eq, (hag c).1, (hag c).2]
  funext i
  exact (Cert.Reference4Ideal.Tn.result_apply _ _ i).trans (Cert.Kernel4Ideal.Tn.array_eq m c _ _ rfl rfl i).symm

end Cert.Proof

end
-- ==== Proof.Nn5.lean ====
/- The gradient of the up-projection's input, `da @ w1t + db @ w3t`, row block by row block: the two weights are the two
   halves of one array, and the reference's product runs over the two gradients side by side. -/
module

public import proofs.«01_k».proof.Proof.Gen.Kernel5Ideal.Value
public import proofs.«01_k».proof.Proof.Gen.Reference5Ideal.Read
public import proofs.«01_k».proof.Defs
public import Idealize.ShloMosaic.Lib.Pipeline.ValueKit
public import Idealize.ShloMosaic.Lib.Pointwise

@[expose] public section

set_option maxRecDepth 16384

noncomputable section

namespace Cert.Kernel5Ideal.Nn

open Cert.Kernel5Ideal Cert.Kernel5Ideal.Gen Cert.Kernel5Ideal.Value Idealize.ShloMosaic Idealize.ShloMosaic.TcCoe Idealize.SL.Sem

variable (m : (ℓ : Loc nD τ sig) → Buf (Elt Ideal) ℓ)

/-- Which blocks a grid point reads and writes. -/
theorem idx : ∀ t : Fin cfg0.N, win0_0.index t = ![t.val, 0] ∧ win0_1.index t = ![0, 0] ∧ win0_2.index t = ![t.val, 0]
    ∧ win0_3.index t = ![1, 0] ∧ win0_4.index t = ![t.val, 0] :=
  (by decide +kernel : ∀ t : Fin grid0.N, _)

/-- The body's result at an element: the sum of the two products of blocks. -/
theorem pay_apply (x : Vec Ideal S352x2816 .bf16) (v : Vec Ideal S2816x1024 .bf16) (y : Vec Ideal S352x2816 .bf16)
    (w : Vec Ideal S2816x1024 .bf16) (j : S352x1024.Idx) :
    (k0_pay1 x v y w j : EReal)
      = (∑ k : Fin 2816, (fun i => x i : S352x2816.Idx → EReal) (ix2 (j 0) k) * (fun i => v i : S2816x1024.Idx → EReal) (ix2 k (j 1)))
        + ∑ k : Fin 2816, (fun i => y i : S352x2816.Idx → EReal) (ix2 (j 0) k) * (fun i => w i : S2816x1024.Idx → EReal) (ix2 k (j 1)) := by
  unfold_payloads
  pointwise

/-- The result as a function of the three argument arrays. -/
def result (x y : S8448x2816.Idx → EReal) (w : S5632x1024.Idx → EReal) (i : S8448x1024.Idx) : EReal :=
  (∑ k : Fin 2816, x (ix2 (i 0) k) * w (ix2 (⟨k.val, by omega⟩ : Fin 5632) (i 1)))
    + ∑ k : Fin 2816, y (ix2 (i 0) k) * w (ix2 (⟨2816 + k.val, by omega⟩ : Fin 5632) (i 1))

/-- The result array after the run. -/
theorem array_eq (c : Dev nD) (x y : S8448x2816.Idx → EReal) (w : S5632x1024.Idx → EReal)
    (hx : m ((c : Thread nD τ).loc main_arg0) = x) (hy : m ((c : Thread nD τ).loc main_arg1) = y)
    (hw : m ((c : Thread nD τ).loc main_arg2) = w) : (dats m 0 c).arrAt 4 cfg0.N = result x y w := by
  refine (dats m 0 c).arrAt_eq_of_covers 4 _ (by decide +kernel) fun t hf y => ?_
  blk_simp
  rw [after0_4]
  frame_out
  refine (pay_apply _ _ _ _ _).trans ?_
  subst hx hy hw
  have e0 : ∀ k : Fin 2816, iblk m c 0 t (ix2 (y 0) k)
      = m ((c : Thread nD τ).loc main_arg0) (ix2 ((((View.whole main_v0).slice (win0_4.rect t)).emb y) 0) k) := fun k => by
    blk_ext [iblk, V, idx t]
  have e1 : ∀ k : Fin 2816, iblk m c 1 t (ix2 k (y 1)) = m ((c : Thread nD τ).loc main_arg2)
      (ix2 (⟨k.val, by omega⟩ : Fin 5632) ((((View.whole main_v0).slice (win0_4.rect t)).emb y) 1)) := fun k => by
    blk_ext [iblk, V, idx t]
  have e2 : ∀ k : Fin 2816, iblk m c 2 t (ix2 (y 0) k)
      = m ((c : Thread nD τ).loc main_arg1) (ix2 ((((View.whole main_v0).slice (win0_4.rect t)).emb y) 0) k) := fun k => by
    blk_ext [iblk, V, idx t]
  have e3 : ∀ k : Fin 2816, iblk m c 3 t (ix2 k (y 1)) = m ((c : Thread nD τ).loc main_arg2)
      (ix2 (⟨2816 + k.val, by omega⟩ : Fin 5632) ((((View.whole main_v0).slice (win0_4.rect t)).emb y) 1)) := fun k => by
    blk_ext [iblk, V, idx t]
  simp only [e0, e1, e2, e3]
  rfl

end Cert.Kernel5Ideal.Nn

namespace Cert.Reference5Ideal.Nn

open Cert.Reference5Ideal Cert.Reference5Ideal.Gen Cert.Reference5Ideal.Read Idealize.ShloMosaic

/-- The reference's result is the same function of its arguments. -/
theorem result_eq (x y : S8448x2816.Idx → EReal) (w : S5632x1024.Idx → EReal) :
    val_main_v9 (F := Ideal) x y w = Cert.Kernel5Ideal.Nn.result x y w := by
  funext i
  unfold val_main_v9 val_main_v8 val_main_v7 val_main_v6 val_main_v2 val_main_v1 Cert.Kernel5Ideal.Nn.result
  pointwise

end Cert.Reference5Ideal.Nn

namespace Cert.Proof

open Idealize.ShloMosaic Idealize.SL.Sem

/-- The blocked product and the reference leave equal arrays. -/
theorem algebraic5 : Cert.algebraic_Kernel5Ideal_Reference5Ideal := by
  intro m g m' g' _ hag
  refine ⟨fun c => (Cert.Kernel5Ideal.Gen.dats m 0 c).arrAt 4 Cert.Kernel5Ideal.cfg0.N, Cert.Kernel5Ideal.Value.run_blocks m g,
    (θ_run _ _ _).mono (fun r h c => ⟨(h c).1.trans ?_, (h c).2⟩) (Cert.Reference5Ideal.Value.run m' g')⟩
  rw [Cert.Reference5Ideal.Read.val_main_v9_eq, (hag c).1, (hag c).2.1, (hag c).2.2]
  exact (Cert.Reference5Ideal.Nn.result_eq _ _ _).trans (Cert.Kernel5Ideal.Nn.array_eq m c _ _ _ rfl rfl rfl).symm

end Cert.Proof

end
-- ==== Proof.Up6.lean ====
/- The up-projection of the feed-forward block: `a = xn @ w1`, `b = xn @ w3` and `silu(a) * b`, block by block. The two
   weights are the two halves of one array; the reference splits the one product. -/
module

public import proofs.«01_k».proof.Proof.Gen.Kernel6Ideal.Value
public import proofs.«01_k».proof.Proof.Gen.Reference6Ideal.Read
public import proofs.«01_k».proof.Defs
public import Idealize.ShloMosaic.Lib.Pipeline.ValueKit
public import Idealize.ShloMosaic.Lib.Pointwise

@[expose] public section

set_option maxRecDepth 16384

noncomputable section

namespace Cert.Kernel6Ideal.Up

open Cert.Kernel6Ideal Cert.Kernel6Ideal.Gen Cert.Kernel6Ideal.Value Idealize.ShloMosaic Idealize.ShloMosaic.TcCoe Idealize.SL.Sem

variable (m : (ℓ : Loc nD τ sig) → Buf (Elt Ideal) ℓ)

/-- Which blocks a grid point reads and writes. -/
theorem idx : ∀ t : Fin cfg0.N, win0_0.index t = ![t.val % 16, 0] ∧ win0_1.index t = ![t.val / 16, 0]
    ∧ win0_2.index t = ![t.val / 16 + 2, 0] ∧ win0_3.index t = ![t.val % 16, t.val / 16]
    ∧ win0_4.index t = ![t.val % 16, t.val / 16] ∧ win0_5.index t = ![t.val % 16, t.val / 16] :=
  (by decide +kernel : ∀ t : Fin grid0.N, _)

/-- The product of two blocks at an element. -/
def blockSum (x : Vec Ideal S528x1024 .bf16) (w : Vec Ideal S1408x1024 .bf16) (j : S528x1408.Idx) : EReal :=
  ∑ k : Fin 1024, (fun i => x i : S528x1024.Idx → EReal) (ix2 (j 0) k) * (fun i => w i : S1408x1024.Idx → EReal) (ix2 (j 1) k)

theorem pay3_apply (x : Vec Ideal S528x1024 .bf16) (w : Vec Ideal S1408x1024 .bf16) (j : S528x1408.Idx) :
    (k0_pay3 x w j : EReal) = blockSum x w j := by
  unfold blockSum
  unfold_payloads
  pointwise

theorem pay4_apply (x : Vec Ideal S528x1024 .bf16) (w : Vec Ideal S1408x1024 .bf16) (j : S528x1408.Idx) :
    (k0_pay4 x w j : EReal) = blockSum x w j := by
  unfold blockSum
  unfold_payloads
  pointwise

theorem pay5_apply (x : Vec Ideal S528x1024 .bf16) (v w : Vec Ideal S1408x1024 .bf16) (j : S528x1408.Idx) :
    (k0_pay5 x v w j : EReal) = blockSum x v j * Ideal.logistic (blockSum x v j) * blockSum x w j := by
  unfold blockSum
  unfold_payloads
  pointwise

/-- One half of the product, as a function of the two argument arrays: column `o` of the half beginning at `o`. -/
def half (o : ℕ) (ho : o + 2816 ≤ 5632) (x : S8448x1024.Idx → EReal) (w : S5632x1024.Idx → EReal) (i : S8448x2816.Idx) : EReal :=
  ∑ k : Fin 1024, x (ix2 (i 0) k) * w (ix2 (⟨o + (i 1).val, by have h : (i 1).val < 2816 := (i 1).isLt; omega⟩ : Fin 5632) k)

/-- The activation, as a function of the two argument arrays. -/
def act (x : S8448x1024.Idx → EReal) (w : S5632x1024.Idx → EReal) (i : S8448x2816.Idx) : EReal :=
  half 0 (by decide) x w i * Ideal.logistic (half 0 (by decide) x w i) * half 2816 (by decide) x w i

/-- A point's product with its first weight block, read in the arrays. -/
theorem first_apply (c : Dev nD) (t : Fin cfg0.N) (j : S528x1408.Idx) (i : S8448x2816.Idx)
    (h0 : (i 0).val = (t.val % 16) * 528 + (j 0).val) (h1 : (i 1).val = (t.val / 16) * 1408 + (j 1).val) :
    blockSum (iblk m c 0 t) (iblk m c 1 t) j
      = half 0 (by decide) (m ((c : Thread nD τ).loc main_arg0)) (m ((c : Thread nD τ).loc main_arg1)) i := by
  have hi : (i 1).val < 2816 := (i 1).isLt
  have e0 : ∀ k : Fin 1024, iblk m c 0 t (ix2 (j 0) k) = m ((c : Thread nD τ).loc main_arg0) (ix2 (i 0) k) := fun k => by
    blk_ext [iblk, V, idx t]
  have e1 : ∀ k : Fin 1024, iblk m c 1 t (ix2 (j 1) k)
      = m ((c : Thread nD τ).loc main_arg1) (ix2 (⟨0 + (i 1).val, by omega⟩ : Fin 5632) k) := fun k => by
    blk_ext [iblk, V, idx t]
  unfold blockSum half
  simp only [e0, e1]

/-- A point's product with its second weight block, read in the arrays. -/
theorem second_apply (c : Dev nD) (t : Fin cfg0.N) (j : S528x1408.Idx) (i : S8448x2816.Idx)
    (h0 : (i 0).val = (t.val % 16) * 528 + (j 0).val) (h1 : (i 1).val = (t.val / 16) * 1408 + (j 1).val) :
    blockSum (iblk m c 0 t) (iblk m c 2 t) j
      = half 2816 (by decide) (m ((c : Thread nD τ).loc main_arg0)) (m ((c : Thread nD τ).loc main_arg1)) i := by
  have hi : (i 1).val < 2816 := (i 1).isLt
  have e0 : ∀ k : Fin 1024, iblk m c 0 t (ix2 (j 0) k) = m ((c : Thread nD τ).loc main_arg0) (ix2 (i 0) k) := fun k => by
    blk_ext [iblk, V, idx t]
  have e1 : ∀ k : Fin 1024, iblk m c 2 t (ix2 (j 1) k)
      = m ((c : Thread nD τ).loc main_arg1) (ix2 (⟨2816 + (i 1).val, by omega⟩ : Fin 5632) k) := fun k => by
    blk_ext [iblk, V, idx t]
  unfold blockSum half
  simp only [e0, e1]

theorem array3_eq (c : Dev nD) : (dats m 0 c).arrAt 3 cfg0.N
    = half 0 (by decide) (m ((c : Thread nD τ).loc main_arg0)) (m ((c : Thread nD τ).loc main_arg1)) := by
  refine (dats m 0 c).arrAt_eq_of_covers 3 _ (by decide +kernel) fun t hf y => ?_
  blk_simp
  rw [after0_3]
  frame_out
  exact (pay3_apply _ _ _).trans (first_apply m c t y _ (by blk_point [idx t]) (by blk_point [idx t]))

theorem array4_eq (c : Dev nD) : (dats m 0 c).arrAt 4 cfg0.N
    = half 2816 (by decide) (m ((c : Thread nD τ).loc main_arg0)) (m ((c : Thread nD τ).loc main_arg1)) := by
  refine (dats m 0 c).arrAt_eq_of_covers 4 _ (by decide +kernel) fun t hf y => ?_
  blk_simp
  rw [after0_4]
  frame_out
  exact (pay4_apply _ _ _).trans (second_apply m c t y _ (by blk_point [idx t]) (by blk_point [idx t]))

theorem array5_eq (c : Dev nD) : (dats m 0 c).arrAt 5 cfg0.N
    = act (m ((c : Thread nD τ).loc main_arg0)) (m ((c : Thread nD τ).loc main_arg1)) := by
  refine (dats m 0 c).arrAt_eq_of_covers 5 _ (by decide +kernel) fun t hf y => ?_
  blk_simp
  rw [after0_5]
  frame_out
  refine (pay5_apply _ _ _ _).trans ?_
  rw [first_apply m c t y (((View.whole main_v0_2).slice (win0_5.rect t)).emb y) (by blk_point [idx t]) (by blk_point [idx t]),
    second_apply m c t y (((View.whole main_v0_2).slice (win0_5.rect t)).emb y) (by blk_point [idx t]) (by blk_point [idx t])]
  rfl

end Cert.Kernel6Ideal.Up

namespace Cert.Reference6Ideal.Up

open Cert.Reference6Ideal Cert.Reference6Ideal.Gen Cert.Reference6Ideal.Read Idealize.ShloMosaic

theorem first_eq (x : S8448x1024.Idx → EReal) (w : S5632x1024.Idx → EReal) :
    val_main_v6 (F := Ideal) x w = Cert.Kernel6Ideal.Up.half 0 (by decide) x w := by
  funext i
  unfold val_main_v6 val_main_v4 val_main_v3 val_main_v2 val_main_v1 val_main_v0 Cert.Kernel6Ideal.Up.half
  pointwise

theorem second_eq (x : S8448x1024.Idx → EReal) (w : S5632x1024.Idx → EReal) :
    val_main_v7 (F := Ideal) x w = Cert.Kernel6Ideal.Up.half 2816 (by decide) x w := by
  funext i
  unfold val_main_v7 val_main_v5 val_main_v3 val_main_v2 val_main_v1 val_main_v0 Cert.Kernel6Ideal.Up.half
  pointwise

theorem act_eq (x : S8448x1024.Idx → EReal) (w : S5632x1024.Idx → EReal) :
    val_main_v10 (F := Ideal) x w = Cert.Kernel6Ideal.Up.act x w := by
  funext i
  unfold Cert.Kernel6Ideal.Up.act
  rw [← first_eq, ← second_eq]
  unfold val_main_v10 val_main_v9 val_main_v8 val_main_call0_v5 val_main_call0_v4 val_main_call0_cst_0 val_main_call0_v3 val_main_call0_v2
    val_main_call0_cst val_main_call0_v1 val_main_call0_v0 val_main_v6 val_main_v7
  generalize val_main_v4 (F := Ideal) x w = a
  generalize val_main_v5 (F := Ideal) x w = b
  pointwise
  rfl

end Cert.Reference6Ideal.Up

namespace Cert.Proof

open Idealize.ShloMosaic Idealize.SL.Sem

/-- The blocked up-projection and the reference leave equal arrays. -/
theorem algebraic6 : Cert.algebraic_Kernel6Ideal_Reference6Ideal := by
  intro m g m' g' _ hag
  refine ⟨fun c => (Cert.Kernel6Ideal.Gen.dats m 0 c).arrAt 3 Cert.Kernel6Ideal.cfg0.N,
    fun c => (Cert.Kernel6Ideal.Gen.dats m 0 c).arrAt 4 Cert.Kernel6Ideal.cfg0.N,
    fun c => (Cert.Kernel6Ideal.Gen.dats m 0 c).arrAt 5 Cert.Kernel6Ideal.cfg0.N, Cert.Kernel6Ideal.Value.run_blocks m g,
    (θ_run _ _ _).mono (fun r h c => ⟨(h c).1.trans ?_, (h c).2.1.trans ?_, (h c).2.2.1.trans ?_, (h c).2.2.2⟩)
      (Cert.Reference6Ideal.Value.run m' g')⟩
  · rw [Cert.Reference6Ideal.Read.val_main_v6_eq, (hag c).1, (hag c).2]
    exact (Cert.Reference6Ideal.Up.first_eq _ _).trans (Cert.Kernel6Ideal.Up.array3_eq m c).symm
  · rw [Cert.Reference6Ideal.Read.val_main_v7_eq, (hag c).1, (hag c).2]
    exact (Cert.Reference6Ideal.Up.second_eq _ _).trans (Cert.Kernel6Ideal.Up.array4_eq m c).symm
  · rw [Cert.Reference6Ideal.Read.val_main_v10_eq, (hag c).1, (hag c).2]
    exact (Cert.Reference6Ideal.Up.act_eq _ _).trans (Cert.Kernel6Ideal.Up.array5_eq m c).symm

end Cert.Proof

end
-- ==== Proof.Nn7.lean ====
/- The down-projection of the feed-forward block with its residual, `h + 0.5 * (act @ w2)`, row block by row block. -/
module

public import proofs.«01_k».proof.Proof.Gen.Kernel7Ideal.Value
public import proofs.«01_k».proof.Proof.Gen.Reference7Ideal.Read
public import proofs.«01_k».proof.Defs
public import Idealize.ShloMosaic.Lib.Pipeline.ValueKit
public import Idealize.ShloMosaic.Lib.Pointwise

@[expose] public section

set_option maxRecDepth 16384

noncomputable section

namespace Cert.Kernel7Ideal.Nn

open Cert.Kernel7Ideal Cert.Kernel7Ideal.Gen Cert.Kernel7Ideal.Value Idealize.ShloMosaic Idealize.ShloMosaic.TcCoe Idealize.SL.Sem

variable (m : (ℓ : Loc nD τ sig) → Buf (Elt Ideal) ℓ)

/-- Which blocks a grid point reads and writes. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- The body's result at an element: the residual plus half the product of the two blocks. -/
theorem pay_apply (x : Vec Ideal S528x2816 .bf16) (w : Vec Ideal S2816x1024 .bf16) (h : Vec Ideal S528x1024 .f32) (j : S528x1024.Idx) :
    (k0_pay1 x w h j : EReal) = (h j : EReal) + Ideal.ofBits .f32 0x3F000000#32
      * ∑ k : Fin 2816, (fun i => x i : S528x2816.Idx → EReal) (ix2 (j 0) k) * (fun i => w i : S2816x1024.Idx → EReal) (ix2 k (j 1)) := by
  unfold_payloads
  pointwise

/-- The result as a function of the three argument arrays. -/
def result (x : S8448x2816.Idx → EReal) (w : S2816x1024.Idx → EReal) (h : S8448x1024.Idx → EReal) (i : S8448x1024.Idx) : EReal :=
  h i + Ideal.ofBits .f32 0x3F000000#32 * ∑ k : Fin 2816, x (ix2 (i 0) k) * w (ix2 k (i 1))

/-- The result array after the run. -/
theorem array_eq (c : Dev nD) (x : S8448x2816.Idx → EReal) (w : S2816x1024.Idx → EReal) (h : S8448x1024.Idx → EReal)
    (hx : m ((c : Thread nD τ).loc main_arg0) = x) (hw : m ((c : Thread nD τ).loc main_arg1) = w)
    (hh : m ((c : Thread nD τ).loc main_arg2) = h) : (dats m 0 c).arrAt 3 cfg0.N = result x w h := by
  refine (dats m 0 c).arrAt_eq_of_covers 3 _ (by decide +kernel) fun t hf y => ?_
  blk_simp
  rw [after0_3]
  frame_out
  refine (pay_apply _ _ _ _).trans ?_
  subst hx hw hh
  have e0 : ∀ k : Fin 2816, iblk m c 0 t (ix2 (y 0) k)
      = m ((c : Thread nD τ).loc main_arg0) (ix2 ((((View.whole main_v0).slice (win0_3.rect t)).emb y) 0) k) := fun k => by
    blk_ext [iblk, V, idx t]
  have e1 : ∀ k : Fin 2816, iblk m c 1 t (ix2 k (y 1))
      = m ((c : Thread nD τ).loc main_arg1) (ix2 k ((((View.whole main_v0).slice (win0_3.rect t)).emb y) 1)) := fun k => by
    blk_ext [iblk, V, idx t]
  have e2 : iblk m c 2 t y = m ((c : Thread nD τ).loc main_arg2) (((View.whole main_v0).slice (win0_3.rect t)).emb y) := by
    blk_ext [iblk, V, idx t]
  simp only [e0, e1, e2]
  rfl

end Cert.Kernel7Ideal.Nn

namespace Cert.Reference7Ideal.Nn

open Cert.Reference7Ideal Cert.Reference7Ideal.Gen Cert.Reference7Ideal.Read Idealize.ShloMosaic

/-- The reference's result is the same function of its arguments. -/
theorem result_eq (x : S8448x2816.Idx → EReal) (w : S2816x1024.Idx → EReal) (h : S8448x1024.Idx → EReal) :
    val_main_v5 (F := Ideal) x w h = Cert.Kernel7Ideal.Nn.result x w h := by
  funext i
  unfold val_main_v5 val_main_v4 val_main_v3 val_main_cst val_main_v2 val_main_v1 val_main_v0 Cert.Kernel7Ideal.Nn.result
  pointwise

end Cert.Reference7Ideal.Nn

namespace Cert.Proof

open Idealize.ShloMosaic Idealize.SL.Sem

/-- The down-projection and the reference leave equal arrays. -/
theorem algebraic7 : Cert.algebraic_Kernel7Ideal_Reference7Ideal := by
  intro m g m' g' _ hag
  refine ⟨fun c => (Cert.Kernel7Ideal.Gen.dats m 0 c).arrAt 3 Cert.Kernel7Ideal.cfg0.N, Cert.Kernel7Ideal.Value.run_blocks m g,
    (θ_run _ _ _).mono (fun r h c => ⟨(h c).1.trans ?_, (h c).2⟩) (Cert.Reference7Ideal.Value.run m' g')⟩
  rw [Cert.Reference7Ideal.Read.val_main_v5_eq, (hag c).1, (hag c).2.1, (hag c).2.2]
  exact (Cert.Reference7Ideal.Nn.result_eq _ _ _).trans (Cert.Kernel7Ideal.Nn.array_eq m c _ _ _ rfl rfl rfl).symm

end Cert.Proof

end
-- ==== Proof.Nt8.lean ====
/- The mixer's input projection, `xn @ w_int^T`, block by block. -/
module

public import proofs.«01_k».proof.Proof.Gen.Kernel8Ideal.Value
public import proofs.«01_k».proof.Proof.Gen.Reference8Ideal.Read
public import proofs.«01_k».proof.Proof.Products
public import proofs.«01_k».proof.Defs

@[expose] public section

set_option maxRecDepth 16384

noncomputable section

namespace Cert.Kernel8Ideal.Nt

open Cert.Kernel8Ideal Cert.Kernel8Ideal.Gen Cert.Kernel8Ideal.Value Idealize.ShloMosaic Idealize.ShloMosaic.TcCoe Idealize.SL.Sem

variable (m : (ℓ : Loc nD τ sig) → Buf (Elt Ideal) ℓ)

/-- Which blocks a grid point reads and writes. -/
theorem idx : ∀ t : Fin cfg0.N, win0_0.index t = ![t.val / 12, 0] ∧ win0_1.index t = ![t.val % 12, 0]
    ∧ win0_2.index t = ![t.val / 12, t.val % 12] :=
  (by decide +kernel : ∀ t : Fin grid0.N, _)

/-- The body's result at an element: the product of the two blocks. -/
theorem pay_apply (x : Vec Ideal S1056x1024 .bf16) (w : Vec Ideal S512x1024 .bf16) (j : S1056x512.Idx) :
    (k0_pay1 x w j : EReal) = Cert.Products.nt (fun i => x i) (fun i => w i) j := by
  unfold Cert.Products.nt
  unfold_payloads
  pointwise

/-- The result array after the run. -/
theorem array_eq (c : Dev nD) : (dats m 0 c).arrAt 2 cfg0.N
    = Cert.Products.nt (fun i => m ((c : Thread nD τ).loc main_arg0) i) (fun i => m ((c : Thread nD τ).loc main_arg1) i) := by
  refine (dats m 0 c).arrAt_eq_of_covers 2 _ (by decide +kernel) fun t hf y => ?_
  blk_simp
  rw [after0_2]
  frame_out
  refine (pay_apply _ _ _).trans ?_
  have e0 : ∀ k : Fin 1024, iblk m c 0 t (ix2 (y 0) k)
      = m ((c : Thread nD τ).loc main_arg0) (ix2 ((((View.whole main_v0).slice (win0_2.rect t)).emb y) 0) k) := fun k => by
    blk_ext [iblk, V, idx t]
  have e1 : ∀ k : Fin 1024, iblk m c 1 t (ix2 (y 1) k)
      = m ((c : Thread nD τ).loc main_arg1) (ix2 ((((View.whole main_v0).slice (win0_2.rect t)).emb y) 1) k) := fun k => by
    blk_ext [iblk, V, idx t]
  unfold Cert.Products.nt
  simp only [e0, e1]

end Cert.Kernel8Ideal.Nt

namespace Cert.Proof

open Idealize.ShloMosaic Idealize.SL.Sem

/-- The blocked projection and the reference leave equal arrays. -/
theorem algebraic8 : Cert.algebraic_Kernel8Ideal_Reference8Ideal := by
  intro m g m' g' _ hag
  refine ⟨fun c => (Cert.Kernel8Ideal.Gen.dats m 0 c).arrAt 2 Cert.Kernel8Ideal.cfg0.N, Cert.Kernel8Ideal.Value.run_blocks m g,
    (θ_run _ _ _).mono (fun r h c => ⟨(h c).1.trans ?_, (h c).2⟩) (Cert.Reference8Ideal.Value.run m' g')⟩
  rw [Cert.Reference8Ideal.Read.val_main_v3_eq, (hag c).1, (hag c).2]
  refine Eq.trans ?_ (Cert.Kernel8Ideal.Nt.array_eq m c).symm
  funext i
  unfold Cert.Reference8Ideal.Read.val_main_v3 Cert.Reference8Ideal.Read.val_main_v2 Cert.Reference8Ideal.Read.val_main_v1
    Cert.Reference8Ideal.Read.val_main_v0 Cert.Products.nt
  pointwise

end Cert.Proof

end
-- ==== Proof.Nn9.lean ====
/- The gradient of the input projection's input, `dproj @ w_int`, row block by row block. -/
module

public import proofs.«01_k».proof.Proof.Gen.Kernel9Ideal.Value
public import proofs.«01_k».proof.Proof.Gen.Reference9Ideal.Read
public import proofs.«01_k».proof.Proof.Products
public import proofs.«01_k».proof.Defs

@[expose] public section

set_option maxRecDepth 16384

noncomputable section

namespace Cert.Kernel9Ideal.Nn

open Cert.Kernel9Ideal Cert.Kernel9Ideal.Gen Cert.Kernel9Ideal.Value Idealize.ShloMosaic Idealize.ShloMosaic.TcCoe Idealize.SL.Sem

variable (m : (ℓ : Loc nD τ sig) → Buf (Elt Ideal) ℓ)

/-- Which blocks a grid point reads and writes. -/
theorem idx : ∀ t : Fin cfg0.N, win0_0.index t = ![t.val, 0] ∧ win0_1.index t = ![0, 0]
    ∧ win0_2.index t = ![t.val, 0] :=
  (by decide +kernel : ∀ t : Fin grid0.N, _)

/-- The body's result at an element: the product of the two blocks. -/
theorem pay_apply (x : Vec Ideal S352x6144 .bf16) (w : Vec Ideal S6144x1024 .bf16) (j : S352x1024.Idx) :
    (k0_pay1 x w j : EReal) = Cert.Products.nn (fun i => x i) (fun i => w i) j := by
  unfold Cert.Products.nn
  unfold_payloads
  pointwise

/-- The result array after the run. -/
theorem array_eq (c : Dev nD) : (dats m 0 c).arrAt 2 cfg0.N
    = Cert.Products.nn (fun i => m ((c : Thread nD τ).loc main_arg0) i) (fun i => m ((c : Thread nD τ).loc main_arg1) i) := by
  refine (dats m 0 c).arrAt_eq_of_covers 2 _ (by decide +kernel) fun t hf y => ?_
  blk_simp
  rw [after0_2]
  frame_out
  refine (pay_apply _ _ _).trans ?_
  have e0 : ∀ k : Fin 6144, iblk m c 0 t (ix2 (y 0) k)
      = m ((c : Thread nD τ).loc main_arg0) (ix2 ((((View.whole main_v0).slice (win0_2.rect t)).emb y) 0) k) := fun k => by
    blk_ext [iblk, V, idx t]
  have e1 : ∀ k : Fin 6144, iblk m c 1 t (ix2 k (y 1))
      = m ((c : Thread nD τ).loc main_arg1) (ix2 k ((((View.whole main_v0).slice (win0_2.rect t)).emb y) 1)) := fun k => by
    blk_ext [iblk, V, idx t]
  unfold Cert.Products.nn
  simp only [e0, e1]

end Cert.Kernel9Ideal.Nn

namespace Cert.Proof

open Idealize.ShloMosaic Idealize.SL.Sem

/-- The blocked product and the reference leave equal arrays. -/
theorem algebraic9 : Cert.algebraic_Kernel9Ideal_Reference9Ideal := by
  intro m g m' g' _ hag
  refine ⟨fun c => (Cert.Kernel9Ideal.Gen.dats m 0 c).arrAt 2 Cert.Kernel9Ideal.cfg0.N, Cert.Kernel9Ideal.Value.run_blocks m g,
    (θ_run _ _ _).mono (fun r h c => ⟨(h c).1.trans ?_, (h c).2⟩) (Cert.Reference9Ideal.Value.run m' g')⟩
  rw [Cert.Reference9Ideal.Read.val_main_v5_eq, (hag c).1, (hag c).2]
  refine Eq.trans ?_ (Cert.Kernel9Ideal.Nn.array_eq m c).symm
  funext i
  unfold Cert.Reference9Ideal.Read.val_main_v5 Cert.Reference9Ideal.Read.val_main_v4 Cert.Reference9Ideal.Read.val_main_v2
    Cert.Reference9Ideal.Read.val_main_v1 Cert.Products.nn
  pointwise

end Cert.Proof

end
-- ==== Proof.Tn10.lean ====
/- The gradient of the mixer's input projection, `dproj^T · xn`: what the blocked product leaves in the result array, as one
   sum over all rows. -/
module

public import proofs.«01_k».proof.Proof.Gen.Kernel10Ideal.Value
public import proofs.«01_k».proof.Proof.Gen.Reference10Ideal.Read
public import proofs.«01_k».proof.Proof.Sums
public import proofs.«01_k».proof.Defs
public import Idealize.ShloMosaic.Lib.Pipeline.ValueKit
public import Idealize.ShloMosaic.Lib.Pointwise

@[expose] public section

set_option maxRecDepth 16384

noncomputable section

namespace Cert.Kernel10Ideal.Tn

open Cert.Kernel10Ideal Cert.Kernel10Ideal.Gen Cert.Kernel10Ideal.Value Idealize.ShloMosaic Idealize.ShloMosaic.TcCoe Idealize.SL.Sem

variable (m : (ℓ : Loc nD τ sig) → Buf (Elt Ideal) ℓ)

/-- Which blocks a grid point reads. -/
theorem idx : ∀ t : Fin cfg0.N, win0_0.index t = ![t.val % 8, t.val / 8] ∧ win0_1.index t = ![t.val % 8, 0] :=
  (by decide +kernel : ∀ t : Fin grid0.N, _)

/-- The product of a point's two blocks at an element. -/
def blockSum (x : Vec Ideal S1056x1536 .bf16) (y : Vec Ideal S1056x1024 .bf16) (j : S1536x1024.Idx) : EReal :=
  ∑ k : Fin 1056, (fun i => x i : S1056x1536.Idx → EReal) (ix2 k (j 0)) * (fun i => y i : S1056x1024.Idx → EReal) (ix2 k (j 1))

theorem reset_apply (c : Dev nD) (n : ℕ) (h : n < cfg0.N) (j : S1536x1024.Idx) :
    reset2 m c n h j = (0 : EReal) + blockSum (iblk m c 0 ⟨n, h⟩) (iblk m c 1 ⟨n, h⟩) j := by
  unfold reset2 blockSum
  unfold_payloads
  pointwise

theorem step_apply (c : Dev nD) (n : ℕ) (h : n < cfg0.N) (acc : Vec Ideal S1536x1024 .f32) (j : S1536x1024.Idx) :
    step2 m c n h acc j = (acc j : EReal) + blockSum (iblk m c 0 ⟨n, h⟩) (iblk m c 1 ⟨n, h⟩) j := by
  unfold step2 blockSum
  unfold_payloads
  pointwise

/-- A point's first block, read in the array. -/
theorem block0 (c : Dev nD) (t : Fin cfg0.N) (k : Fin 1056) (r : Fin 1536) (a : Fin 8448) (b : Fin 6144)
    (ha : a.val = (t.val % 8) * 1056 + k.val) (hb : b.val = 1536 * (t.val / 8) + r.val) :
    iblk m c 0 t (ix2 k r) = m ((c : Thread nD τ).loc main_arg0) (ix2 a b) := by
  blk_ext [iblk, V, idx t]

/-- A point's second block, read in the array. -/
theorem block1 (c : Dev nD) (t : Fin cfg0.N) (k : Fin 1056) (r : Fin 1024) (a : Fin 8448) (b : Fin 1024)
    (ha : a.val = (t.val % 8) * 1056 + k.val) (hb : b.val = r.val) :
    iblk m c 1 t (ix2 k r) = m ((c : Thread nD τ).loc main_arg1) (ix2 a b) := by
  blk_ext [iblk, V, idx t]

/-- The result array is the product of the two whole arrays. -/
theorem array_eq (c : Dev nD) (x : S8448x6144.Idx → EReal) (y : S8448x1024.Idx → EReal)
    (hx : m ((c : Thread nD τ).loc main_arg0) = x) (hy : m ((c : Thread nD τ).loc main_arg1) = y) (i : S6144x1024.Idx) :
    G2 m c i = ∑ k : Fin 8448, x (ix2 k (i 0)) * y (ix2 k (i 1)) := by
  have hi0 : (i 0).val < 6144 := (i 0).isLt
  have hi1 : (i 1).val < 1024 := (i 1).isLt
  have hN : cfg0.N = 32 := N_0
  have hr : run2Of i = (i 0).val / 1536 := by unfold run2Of; omega
  have hlt : 8 * run2Of i + 7 < cfg0.N := by omega
  unfold G2
  rw [dif_pos hlt]
  refine Cert.Sums.accumulated 8 1056 (reset2 m c) (step2 m c) (8 * run2Of i)
    (fun n h j => blockSum (iblk m c 0 ⟨n, h⟩) (iblk m c 1 ⟨n, h⟩) j) 7 rfl
    (fun h j => reset_apply m c _ h j) (fun n h acc j _ _ => step_apply m c n h acc j) (loc2Of i)
    (fun k : Fin 8448 => x (ix2 k (i 0)) * y (ix2 k (i 1))) rfl ?_ hlt
  intro s hs h
  unfold blockSum
  refine Finset.sum_congr rfl fun k _ => ?_
  have e0 := block0 m c ⟨8 * run2Of i + s, h⟩ k (loc2Of i 0) ⟨s * 1056 + k.val, by omega⟩ (i 0)
    (by show s * 1056 + k.val = (8 * run2Of i + s) % 8 * 1056 + k.val; omega)
    (by show (i 0).val = 1536 * ((8 * run2Of i + s) / 8) + (i 0).val % 1536; omega)
  have e1 := block1 m c ⟨8 * run2Of i + s, h⟩ k (loc2Of i 1) ⟨s * 1056 + k.val, by omega⟩ (i 1)
    (by show s * 1056 + k.val = (8 * run2Of i + s) % 8 * 1056 + k.val; omega)
    (by show (i 1).val = (i 1).val % 1024; omega)
  rw [hx] at e0
  rw [hy] at e1
  exact congrArg₂ (fun p q : EReal => p * q) e0 e1

end Cert.Kernel10Ideal.Tn

namespace Cert.Reference10Ideal.Tn

open Cert.Reference10Ideal Cert.Reference10Ideal.Gen Cert.Reference10Ideal.Read Idealize.ShloMosaic

/-- The reference's result at an index. -/
theorem result_apply (x : S8448x6144.Idx → EReal) (y : S8448x1024.Idx → EReal) (i : S6144x1024.Idx) :
    val_main_v7 (F := Ideal) x y i = ∑ k : Fin 8448, x (ix2 k (i 0)) * y (ix2 k (i 1)) := by
  unfold val_main_v7 val_main_v6 val_main_v5 val_main_v4 val_main_v1
  pointwise

end Cert.Reference10Ideal.Tn

namespace Cert.Proof

open Idealize.ShloMosaic Idealize.SL.Sem

/-- The blocked product and the reference leave equal arrays. -/
theorem algebraic10 : Cert.algebraic_Kernel10Ideal_Reference10Ideal := by
  intro m g m' g' _ hag
  refine ⟨fun c => Cert.Kernel10Ideal.Value.G2 m c, Cert.Kernel10Ideal.Value.run m g,
    (θ_run _ _ _).mono (fun r h c => ⟨(h c).1.trans ?_, (h c).2⟩) (Cert.Reference10Ideal.Value.run m' g')⟩
  rw [Cert.Reference10Ideal.Read.val_main_v7_eq, (hag c).1, (hag c).2]
  funext i
  exact (Cert.Reference10Ideal.Tn.result_apply _ _ i).trans (Cert.Kernel10Ideal.Tn.array_eq m c _ _ rfl rfl i).symm

end Cert.Proof

end
-- ==== Proof.Nn11.lean ====
/- The mixer's output projection with its residual, `h + merged @ w_out`, row block by row block. -/
module

public import proofs.«01_k».proof.Proof.Gen.Kernel11Ideal.Value
public import proofs.«01_k».proof.Proof.Gen.Reference11Ideal.Read
public import proofs.«01_k».proof.Defs
public import Idealize.ShloMosaic.Lib.Pipeline.ValueKit
public import Idealize.ShloMosaic.Lib.Pointwise

@[expose] public section

set_option maxRecDepth 16384

noncomputable section

namespace Cert.Kernel11Ideal.Nn

open Cert.Kernel11Ideal Cert.Kernel11Ideal.Gen Cert.Kernel11Ideal.Value Idealize.ShloMosaic Idealize.ShloMosaic.TcCoe Idealize.SL.Sem

variable (m : (ℓ : Loc nD τ sig) → Buf (Elt Ideal) ℓ)

/-- Which blocks a grid point reads and writes. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- The body's result at an element: the residual plus the product of the two blocks. -/
theorem pay_apply (x : Vec Ideal S528x1024 .bf16) (w : Vec Ideal S1024x1024 .bf16) (h : Vec Ideal S528x1024 .f32) (j : S528x1024.Idx) :
    (k0_pay1 x w h j : EReal) = (h j : EReal) + ∑ k : Fin 1024, (fun i => x i : S528x1024.Idx → EReal) (ix2 (j 0) k) * (fun i => w i : S1024x1024.Idx → EReal) (ix2 k (j 1)) := by
  unfold_payloads
  pointwise

/-- The result as a function of the three argument arrays. -/
def result (x : S8448x1024.Idx → EReal) (w : S1024x1024.Idx → EReal) (h : S8448x1024.Idx → EReal) (i : S8448x1024.Idx) : EReal :=
  h i + ∑ k : Fin 1024, x (ix2 (i 0) k) * w (ix2 k (i 1))

/-- The result array after the run. -/
theorem array_eq (c : Dev nD) (x : S8448x1024.Idx → EReal) (w : S1024x1024.Idx → EReal) (h : S8448x1024.Idx → EReal)
    (hx : m ((c : Thread nD τ).loc main_arg0) = x) (hw : m ((c : Thread nD τ).loc main_arg1) = w)
    (hh : m ((c : Thread nD τ).loc main_arg2) = h) : (dats m 0 c).arrAt 3 cfg0.N = result x w h := by
  refine (dats m 0 c).arrAt_eq_of_covers 3 _ (by decide +kernel) fun t hf y => ?_
  blk_simp
  rw [after0_3]
  frame_out
  refine (pay_apply _ _ _ _).trans ?_
  subst hx hw hh
  have e0 : ∀ k : Fin 1024, iblk m c 0 t (ix2 (y 0) k)
      = m ((c : Thread nD τ).loc main_arg0) (ix2 ((((View.whole main_v0).slice (win0_3.rect t)).emb y) 0) k) := fun k => by
    blk_ext [iblk, V, idx t]
  have e1 : ∀ k : Fin 1024, iblk m c 1 t (ix2 k (y 1))
      = m ((c : Thread nD τ).loc main_arg1) (ix2 k ((((View.whole main_v0).slice (win0_3.rect t)).emb y) 1)) := fun k => by
    blk_ext [iblk, V, idx t]
  have e2 : iblk m c 2 t y = m ((c : Thread nD τ).loc main_arg2) (((View.whole main_v0).slice (win0_3.rect t)).emb y) := by
    blk_ext [iblk, V, idx t]
  simp only [e0, e1, e2]
  rfl

end Cert.Kernel11Ideal.Nn

namespace Cert.Reference11Ideal.Nn

open Cert.Reference11Ideal Cert.Reference11Ideal.Gen Cert.Reference11Ideal.Read Idealize.ShloMosaic

/-- The reference's result is the same function of its arguments. -/
theorem result_eq (x : S8448x1024.Idx → EReal) (w : S1024x1024.Idx → EReal) (h : S8448x1024.Idx → EReal) :
    val_main_v3 (F := Ideal) x w h = Cert.Kernel11Ideal.Nn.result x w h := by
  funext i
  unfold val_main_v3 val_main_v2 val_main_v1 val_main_v0 Cert.Kernel11Ideal.Nn.result
  pointwise

end Cert.Reference11Ideal.Nn

namespace Cert.Proof

open Idealize.ShloMosaic Idealize.SL.Sem

/-- The projection and the reference leave equal arrays. -/
theorem algebraic11 : Cert.algebraic_Kernel11Ideal_Reference11Ideal := by
  intro m g m' g' _ hag
  refine ⟨fun c => (Cert.Kernel11Ideal.Gen.dats m 0 c).arrAt 3 Cert.Kernel11Ideal.cfg0.N, Cert.Kernel11Ideal.Value.run_blocks m g,
    (θ_run _ _ _).mono (fun r h c => ⟨(h c).1.trans ?_, (h c).2⟩) (Cert.Reference11Ideal.Value.run m' g')⟩
  rw [Cert.Reference11Ideal.Read.val_main_v3_eq, (hag c).1, (hag c).2.1, (hag c).2.2]
  exact (Cert.Reference11Ideal.Nn.result_eq _ _ _).trans (Cert.Kernel11Ideal.Nn.array_eq m c _ _ _ rfl rfl rfl).symm

end Cert.Proof

end
-- ==== Proof.Nt12.lean ====
/- The gradient of the mixer's merged branches, `dh @ w_out^T`, block by block. -/
module

public import proofs.«01_k».proof.Proof.Gen.Kernel12Ideal.Value
public import proofs.«01_k».proof.Proof.Gen.Reference12Ideal.Read
public import proofs.«01_k».proof.Proof.Products
public import proofs.«01_k».proof.Defs

@[expose] public section

set_option maxRecDepth 16384

noncomputable section

namespace Cert.Kernel12Ideal.Nt

open Cert.Kernel12Ideal Cert.Kernel12Ideal.Gen Cert.Kernel12Ideal.Value Idealize.ShloMosaic Idealize.ShloMosaic.TcCoe Idealize.SL.Sem

variable (m : (ℓ : Loc nD τ sig) → Buf (Elt Ideal) ℓ)

/-- Which blocks a grid point reads and writes. -/
theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- The body's result at an element: the product of the two blocks. -/
theorem pay_apply (x : Vec Ideal S1056x1024 .bf16) (w : Vec Ideal S512x1024 .bf16) (j : S1056x512.Idx) :
    (k0_pay1 x w j : EReal) = Cert.Products.nt (fun i => x i) (fun i => w i) j := by
  unfold Cert.Products.nt
  unfold_payloads
  pointwise

/-- The result array after the run. -/
theorem array_eq (c : Dev nD) : (dats m 0 c).arrAt 2 cfg0.N
    = Cert.Products.nt (fun i => m ((c : Thread nD τ).loc main_arg0) i) (fun i => m ((c : Thread nD τ).loc main_arg1) i) := by
  refine (dats m 0 c).arrAt_eq_of_covers 2 _ (by decide +kernel) fun t hf y => ?_
  blk_simp
  rw [after0_2]
  frame_out
  refine (pay_apply _ _ _).trans ?_
  have e0 : ∀ k : Fin 1024, iblk m c 0 t (ix2 (y 0) k)
      = m ((c : Thread nD τ).loc main_arg0) (ix2 ((((View.whole main_v0).slice (win0_2.rect t)).emb y) 0) k) := fun k => by
    blk_ext [iblk, V, idx t]
  have e1 : ∀ k : Fin 1024, iblk m c 1 t (ix2 (y 1) k)
      = m ((c : Thread nD τ).loc main_arg1) (ix2 ((((View.whole main_v0).slice (win0_2.rect t)).emb y) 1) k) := fun k => by
    blk_ext [iblk, V, idx t]
  unfold Cert.Products.nt
  simp only [e0, e1]

end Cert.Kernel12Ideal.Nt

namespace Cert.Proof

open Idealize.ShloMosaic Idealize.SL.Sem

/-- The blocked product and the reference leave equal arrays. -/
theorem algebraic12 : Cert.algebraic_Kernel12Ideal_Reference12Ideal := by
  intro m g m' g' _ hag
  refine ⟨fun c => (Cert.Kernel12Ideal.Gen.dats m 0 c).arrAt 2 Cert.Kernel12Ideal.cfg0.N, Cert.Kernel12Ideal.Value.run_blocks m g,
    (θ_run _ _ _).mono (fun r h c => ⟨(h c).1.trans ?_, (h c).2⟩) (Cert.Reference12Ideal.Value.run m' g')⟩
  rw [Cert.Reference12Ideal.Read.val_main_v4_eq, (hag c).1, (hag c).2]
  refine Eq.trans ?_ (Cert.Kernel12Ideal.Nt.array_eq m c).symm
  funext i
  unfold Cert.Reference12Ideal.Read.val_main_v4 Cert.Reference12Ideal.Read.val_main_v3 Cert.Reference12Ideal.Read.val_main_v1 Cert.Products.nt
  pointwise

end Cert.Proof

end
-- ==== Proof.Tn13.lean ====
/- The gradient of the mixer's output projection, `merged^T · dh`: what the blocked product leaves in the result array, as one
   sum over all rows. -/
module

public import proofs.«01_k».proof.Proof.Gen.Kernel13Ideal.Value
public import proofs.«01_k».proof.Proof.Gen.Reference13Ideal.Read
public import proofs.«01_k».proof.Proof.Sums
public import proofs.«01_k».proof.Defs
public import Idealize.ShloMosaic.Lib.Pipeline.ValueKit
public import Idealize.ShloMosaic.Lib.Pointwise

@[expose] public section

set_option maxRecDepth 16384

noncomputable section

namespace Cert.Kernel13Ideal.Tn

open Cert.Kernel13Ideal Cert.Kernel13Ideal.Gen Cert.Kernel13Ideal.Value Idealize.ShloMosaic Idealize.ShloMosaic.TcCoe Idealize.SL.Sem

variable (m : (ℓ : Loc nD τ sig) → Buf (Elt Ideal) ℓ)

/-- Which blocks a grid point reads. -/
theorem idx : ∀ t : Fin cfg0.N, win0_0.index t = ![t.val % 8, t.val / 8] ∧ win0_1.index t = ![t.val % 8, 0] :=
  (by decide +kernel : ∀ t : Fin grid0.N, _)

/-- The product of a point's two blocks at an element. -/
def blockSum (x : Vec Ideal S1056x1024 .bf16) (y : Vec Ideal S1056x1024 .bf16) (j : S1024x1024.Idx) : EReal :=
  ∑ k : Fin 1056, (fun i => x i : S1056x1024.Idx → EReal) (ix2 k (j 0)) * (fun i => y i : S1056x1024.Idx → EReal) (ix2 k (j 1))

theorem reset_apply (c : Dev nD) (n : ℕ) (h : n < cfg0.N) (j : S1024x1024.Idx) :
    reset2 m c n h j = (0 : EReal) + blockSum (iblk m c 0 ⟨n, h⟩) (iblk m c 1 ⟨n, h⟩) j := by
  unfold reset2 blockSum
  unfold_payloads
  pointwise

theorem step_apply (c : Dev nD) (n : ℕ) (h : n < cfg0.N) (acc : Vec Ideal S1024x1024 .f32) (j : S1024x1024.Idx) :
    step2 m c n h acc j = (acc j : EReal) + blockSum (iblk m c 0 ⟨n, h⟩) (iblk m c 1 ⟨n, h⟩) j := by
  unfold step2 blockSum
  unfold_payloads
  pointwise

/-- A point's first block, read in the array. -/
theorem block0 (c : Dev nD) (t : Fin cfg0.N) (k : Fin 1056) (r : Fin 1024) (a : Fin 8448) (b : Fin 1024)
    (ha : a.val = (t.val % 8) * 1056 + k.val) (hb : b.val = 1024 * (t.val / 8) + r.val) :
    iblk m c 0 t (ix2 k r) = m ((c : Thread nD τ).loc main_arg0) (ix2 a b) := by
  blk_ext [iblk, V, idx t]

/-- A point's second block, read in the array. -/
theorem block1 (c : Dev nD) (t : Fin cfg0.N) (k : Fin 1056) (r : Fin 1024) (a : Fin 8448) (b : Fin 1024)
    (ha : a.val = (t.val % 8) * 1056 + k.val) (hb : b.val = r.val) :
    iblk m c 1 t (ix2 k r) = m ((c : Thread nD τ).loc main_arg1) (ix2 a b) := by
  blk_ext [iblk, V, idx t]

/-- The result array is the product of the two whole arrays. -/
theorem array_eq (c : Dev nD) (x : S8448x1024.Idx → EReal) (y : S8448x1024.Idx → EReal)
    (hx : m ((c : Thread nD τ).loc main_arg0) = x) (hy : m ((c : Thread nD τ).loc main_arg1) = y) (i : S1024x1024.Idx) :
    G2 m c i = ∑ k : Fin 8448, x (ix2 k (i 0)) * y (ix2 k (i 1)) := by
  have hi0 : (i 0).val < 1024 := (i 0).isLt
  have hi1 : (i 1).val < 1024 := (i 1).isLt
  have hN : cfg0.N = 8 := N_0
  have hr : run2Of i = (i 0).val / 1024 := by unfold run2Of; omega
  have hlt : 8 * run2Of i + 7 < cfg0.N := by omega
  unfold G2
  rw [dif_pos hlt]
  refine Cert.Sums.accumulated 8 1056 (reset2 m c) (step2 m c) (8 * run2Of i)
    (fun n h j => blockSum (iblk m c 0 ⟨n, h⟩) (iblk m c 1 ⟨n, h⟩) j) 7 rfl
    (fun h j => reset_apply m c _ h j) (fun n h acc j _ _ => step_apply m c n h acc j) (loc2Of i)
    (fun k : Fin 8448 => x (ix2 k (i 0)) * y (ix2 k (i 1))) rfl ?_ hlt
  intro s hs h
  unfold blockSum
  refine Finset.sum_congr rfl fun k _ => ?_
  have e0 := block0 m c ⟨8 * run2Of i + s, h⟩ k (loc2Of i 0) ⟨s * 1056 + k.val, by omega⟩ (i 0)
    (by show s * 1056 + k.val = (8 * run2Of i + s) % 8 * 1056 + k.val; omega)
    (by show (i 0).val = 1024 * ((8 * run2Of i + s) / 8) + (i 0).val % 1024; omega)
  have e1 := block1 m c ⟨8 * run2Of i + s, h⟩ k (loc2Of i 1) ⟨s * 1056 + k.val, by omega⟩ (i 1)
    (by show s * 1056 + k.val = (8 * run2Of i + s) % 8 * 1056 + k.val; omega)
    (by show (i 1).val = (i 1).val % 1024; omega)
  rw [hx] at e0
  rw [hy] at e1
  exact congrArg₂ (fun p q : EReal => p * q) e0 e1

end Cert.Kernel13Ideal.Tn

namespace Cert.Reference13Ideal.Tn

open Cert.Reference13Ideal Cert.Reference13Ideal.Gen Cert.Reference13Ideal.Read Idealize.ShloMosaic

/-- The reference's result at an index. -/
theorem result_apply (x : S8448x1024.Idx → EReal) (y : S8448x1024.Idx → EReal) (i : S1024x1024.Idx) :
    val_main_v5 (F := Ideal) x y i = ∑ k : Fin 8448, x (ix2 k (i 0)) * y (ix2 k (i 1)) := by
  unfold val_main_v5 val_main_v4 val_main_v3 val_main_v1
  pointwise
  exact Finset.sum_congr rfl fun k _ => mul_comm _ _

end Cert.Reference13Ideal.Tn

namespace Cert.Proof

open Idealize.ShloMosaic Idealize.SL.Sem

/-- The blocked product and the reference leave equal arrays. -/
theorem algebraic13 : Cert.algebraic_Kernel13Ideal_Reference13Ideal := by
  intro m g m' g' _ hag
  refine ⟨fun c => Cert.Kernel13Ideal.Value.G2 m c, Cert.Kernel13Ideal.Value.run m g,
    (θ_run _ _ _).mono (fun r h c => ⟨(h c).1.trans ?_, (h c).2⟩) (Cert.Reference13Ideal.Value.run m' g')⟩
  rw [Cert.Reference13Ideal.Read.val_main_v5_eq, (hag c).1, (hag c).2]
  funext i
  exact (Cert.Reference13Ideal.Tn.result_apply _ _ i).trans (Cert.Kernel13Ideal.Tn.array_eq m c _ _ rfl rfl i).symm

end Cert.Proof

end
-- ==== Proof.Glu14.lean ====
/- The state-space branch's gated output: `a = y @ wa`, `g = y @ wg` and `a * sigmoid(g)`, block by block. The two
   weights are the two halves of one array; the reference splits the one product. -/
module

public import proofs.«01_k».proof.Proof.Gen.Kernel14Ideal.Value
public import proofs.«01_k».proof.Proof.Gen.Reference14Ideal.Read
public import proofs.«01_k».proof.Defs
public import Idealize.ShloMosaic.Lib.Pipeline.ValueKit
public import Idealize.ShloMosaic.Lib.Pointwise

@[expose] public section

set_option maxRecDepth 16384

noncomputable section

namespace Cert.Kernel14Ideal.Glu

open Cert.Kernel14Ideal Cert.Kernel14Ideal.Gen Cert.Kernel14Ideal.Value Idealize.ShloMosaic Idealize.ShloMosaic.TcCoe Idealize.SL.Sem

variable (m : (ℓ : Loc nD τ sig) → Buf (Elt Ideal) ℓ)

/-- Which blocks a grid point reads and writes. -/
theorem idx : ∀ t : Fin cfg0.N, win0_0.index t = ![t.val % 16, 0] ∧ win0_1.index t = ![t.val / 16, 0]
    ∧ win0_2.index t = ![t.val / 16 + 1, 0] ∧ win0_3.index t = ![t.val % 16, t.val / 16]
    ∧ win0_4.index t = ![t.val % 16, t.val / 16] ∧ win0_5.index t = ![t.val % 16, t.val / 16] :=
  (by decide +kernel : ∀ t : Fin grid0.N, _)

/-- The product of two blocks at an element. -/
def blockSum (x : Vec Ideal S528x512 .bf16) (w : Vec Ideal S1024x512 .bf16) (j : S528x1024.Idx) : EReal :=
  ∑ k : Fin 512, (fun i => x i : S528x512.Idx → EReal) (ix2 (j 0) k) * (fun i => w i : S1024x512.Idx → EReal) (ix2 (j 1) k)

theorem pay3_apply (x : Vec Ideal S528x512 .bf16) (w : Vec Ideal S1024x512 .bf16) (j : S528x1024.Idx) :
    (k0_pay1 x w j : EReal) = blockSum x w j := by
  unfold blockSum
  unfold_payloads
  pointwise

theorem pay4_apply (x : Vec Ideal S528x512 .bf16) (w : Vec Ideal S1024x512 .bf16) (j : S528x1024.Idx) :
    (k0_pay2 x w j : EReal) = blockSum x w j := by
  unfold blockSum
  unfold_payloads
  pointwise

theorem pay5_apply (x : Vec Ideal S528x512 .bf16) (v w : Vec Ideal S1024x512 .bf16) (j : S528x1024.Idx) :
    (k0_pay3 x v w j : EReal) = blockSum x v j * Ideal.logistic (blockSum x w j) := by
  unfold blockSum
  unfold_payloads
  pointwise

/-- One half of the product, as a function of the two argument arrays: column `o` of the half beginning at `o`. -/
def half (o : ℕ) (ho : o + 1024 ≤ 2048) (x : S8448x512.Idx → EReal) (w : S2048x512.Idx → EReal) (i : S8448x1024.Idx) : EReal :=
  ∑ k : Fin 512, x (ix2 (i 0) k) * w (ix2 (⟨o + (i 1).val, by have h : (i 1).val < 1024 := (i 1).isLt; omega⟩ : Fin 2048) k)

/-- The activation, as a function of the two argument arrays. -/
def act (x : S8448x512.Idx → EReal) (w : S2048x512.Idx → EReal) (i : S8448x1024.Idx) : EReal :=
  half 0 (by decide) x w i * Ideal.logistic (half 1024 (by decide) x w i)

/-- A point's product with its first weight block, read in the arrays. -/
theorem first_apply (c : Dev nD) (t : Fin cfg0.N) (j : S528x1024.Idx) (i : S8448x1024.Idx)
    (h0 : (i 0).val = (t.val % 16) * 528 + (j 0).val) (h1 : (i 1).val = (t.val / 16) * 1024 + (j 1).val) :
    blockSum (iblk m c 0 t) (iblk m c 1 t) j
      = half 0 (by decide) (m ((c : Thread nD τ).loc main_arg0)) (m ((c : Thread nD τ).loc main_arg1)) i := by
  have hi : (i 1).val < 1024 := (i 1).isLt
  have e0 : ∀ k : Fin 512, iblk m c 0 t (ix2 (j 0) k) = m ((c : Thread nD τ).loc main_arg0) (ix2 (i 0) k) := fun k => by
    blk_ext [iblk, V, idx t]
  have e1 : ∀ k : Fin 512, iblk m c 1 t (ix2 (j 1) k)
      = m ((c : Thread nD τ).loc main_arg1) (ix2 (⟨0 + (i 1).val, by omega⟩ : Fin 2048) k) := fun k => by
    blk_ext [iblk, V, idx t]
  unfold blockSum half
  simp only [e0, e1]

/-- A point's product with its second weight block, read in the arrays. -/
theorem second_apply (c : Dev nD) (t : Fin cfg0.N) (j : S528x1024.Idx) (i : S8448x1024.Idx)
    (h0 : (i 0).val = (t.val % 16) * 528 + (j 0).val) (h1 : (i 1).val = (t.val / 16) * 1024 + (j 1).val) :
    blockSum (iblk m c 0 t) (iblk m c 2 t) j
      = half 1024 (by decide) (m ((c : Thread nD τ).loc main_arg0)) (m ((c : Thread nD τ).loc main_arg1)) i := by
  have hi : (i 1).val < 1024 := (i 1).isLt
  have e0 : ∀ k : Fin 512, iblk m c 0 t (ix2 (j 0) k) = m ((c : Thread nD τ).loc main_arg0) (ix2 (i 0) k) := fun k => by
    blk_ext [iblk, V, idx t]
  have e1 : ∀ k : Fin 512, iblk m c 2 t (ix2 (j 1) k)
      = m ((c : Thread nD τ).loc main_arg1) (ix2 (⟨1024 + (i 1).val, by omega⟩ : Fin 2048) k) := fun k => by
    blk_ext [iblk, V, idx t]
  unfold blockSum half
  simp only [e0, e1]

theorem array3_eq (c : Dev nD) : (dats m 0 c).arrAt 3 cfg0.N
    = half 0 (by decide) (m ((c : Thread nD τ).loc main_arg0)) (m ((c : Thread nD τ).loc main_arg1)) := by
  refine (dats m 0 c).arrAt_eq_of_covers 3 _ (by decide +kernel) fun t hf y => ?_
  blk_simp
  rw [after0_3]
  frame_out
  exact (pay3_apply _ _ _).trans (first_apply m c t y _ (by blk_point [idx t]) (by blk_point [idx t]))

theorem array4_eq (c : Dev nD) : (dats m 0 c).arrAt 4 cfg0.N
    = half 1024 (by decide) (m ((c : Thread nD τ).loc main_arg0)) (m ((c : Thread nD τ).loc main_arg1)) := by
  refine (dats m 0 c).arrAt_eq_of_covers 4 _ (by decide +kernel) fun t hf y => ?_
  blk_simp
  rw [after0_4]
  frame_out
  exact (pay4_apply _ _ _).trans (second_apply m c t y _ (by blk_point [idx t]) (by blk_point [idx t]))

theorem array5_eq (c : Dev nD) : (dats m 0 c).arrAt 5 cfg0.N
    = act (m ((c : Thread nD τ).loc main_arg0)) (m ((c : Thread nD τ).loc main_arg1)) := by
  refine (dats m 0 c).arrAt_eq_of_covers 5 _ (by decide +kernel) fun t hf y => ?_
  blk_simp
  rw [after0_5]
  frame_out
  refine (pay5_apply _ _ _ _).trans ?_
  rw [first_apply m c t y (((View.whole main_v0_2).slice (win0_5.rect t)).emb y) (by blk_point [idx t]) (by blk_point [idx t]),
    second_apply m c t y (((View.whole main_v0_2).slice (win0_5.rect t)).emb y) (by blk_point [idx t]) (by blk_point [idx t])]
  rfl

end Cert.Kernel14Ideal.Glu

namespace Cert.Reference14Ideal.Glu

open Cert.Reference14Ideal Cert.Reference14Ideal.Gen Cert.Reference14Ideal.Read Idealize.ShloMosaic

theorem first_eq (x : S8448x512.Idx → EReal) (w : S2048x512.Idx → EReal) :
    val_main_v4 (F := Ideal) x w = Cert.Kernel14Ideal.Glu.half 0 (by decide) x w := by
  funext i
  unfold val_main_v4 val_main_v3 val_main_v2 val_main_v1 val_main_v0 Cert.Kernel14Ideal.Glu.half
  pointwise

theorem second_eq (x : S8448x512.Idx → EReal) (w : S2048x512.Idx → EReal) :
    val_main_v5 (F := Ideal) x w = Cert.Kernel14Ideal.Glu.half 1024 (by decide) x w := by
  funext i
  unfold val_main_v5 val_main_v3 val_main_v2 val_main_v1 val_main_v0 Cert.Kernel14Ideal.Glu.half
  pointwise

theorem act_eq (x : S8448x512.Idx → EReal) (w : S2048x512.Idx → EReal) :
    val_main_v12 (F := Ideal) x w = Cert.Kernel14Ideal.Glu.act x w := by
  funext i
  unfold Cert.Kernel14Ideal.Glu.act
  rw [← first_eq, ← second_eq]
  unfold val_main_v12 val_main_v11 val_main_v10 val_main_cst_0 val_main_v9 val_main_v8 val_main_cst val_main_v7 val_main_v6
  generalize val_main_v4 (F := Ideal) x w = a
  generalize val_main_v5 (F := Ideal) x w = b
  pointwise
  rfl

end Cert.Reference14Ideal.Glu

namespace Cert.Proof

open Idealize.ShloMosaic Idealize.SL.Sem

/-- The blocked gated product and the reference leave equal arrays. -/
theorem algebraic14 : Cert.algebraic_Kernel14Ideal_Reference14Ideal := by
  intro m g m' g' _ hag
  refine ⟨fun c => (Cert.Kernel14Ideal.Gen.dats m 0 c).arrAt 3 Cert.Kernel14Ideal.cfg0.N,
    fun c => (Cert.Kernel14Ideal.Gen.dats m 0 c).arrAt 4 Cert.Kernel14Ideal.cfg0.N,
    fun c => (Cert.Kernel14Ideal.Gen.dats m 0 c).arrAt 5 Cert.Kernel14Ideal.cfg0.N, Cert.Kernel14Ideal.Value.run_blocks m g,
    (θ_run _ _ _).mono (fun r h c => ⟨(h c).1.trans ?_, (h c).2.1.trans ?_, (h c).2.2.1.trans ?_, (h c).2.2.2⟩)
      (Cert.Reference14Ideal.Value.run m' g')⟩
  · rw [Cert.Reference14Ideal.Read.val_main_v4_eq, (hag c).1, (hag c).2]
    exact (Cert.Reference14Ideal.Glu.first_eq _ _).trans (Cert.Kernel14Ideal.Glu.array3_eq m c).symm
  · rw [Cert.Reference14Ideal.Read.val_main_v5_eq, (hag c).1, (hag c).2]
    exact (Cert.Reference14Ideal.Glu.second_eq _ _).trans (Cert.Kernel14Ideal.Glu.array4_eq m c).symm
  · rw [Cert.Reference14Ideal.Read.val_main_v12_eq, (hag c).1, (hag c).2]
    exact (Cert.Reference14Ideal.Glu.act_eq _ _).trans (Cert.Kernel14Ideal.Glu.array5_eq m c).symm

end Cert.Proof

end
-- ==== Proof.Nn15.lean ====
/- The gradient of the gated output's input, `da @ wat + dg @ wgt`, row block by row block: the two weights are the two
   halves of one array, and the reference's product runs over the two gradients side by side. -/
module

public import proofs.«01_k».proof.Proof.Gen.Kernel15Ideal.Value
public import proofs.«01_k».proof.Proof.Gen.Reference15Ideal.Read
public import proofs.«01_k».proof.Defs
public import Idealize.ShloMosaic.Lib.Pipeline.ValueKit
public import Idealize.ShloMosaic.Lib.Pointwise

@[expose] public section

set_option maxRecDepth 16384

noncomputable section

namespace Cert.Kernel15Ideal.Nn

open Cert.Kernel15Ideal Cert.Kernel15Ideal.Gen Cert.Kernel15Ideal.Value Idealize.ShloMosaic Idealize.ShloMosaic.TcCoe Idealize.SL.Sem

variable (m : (ℓ : Loc nD τ sig) → Buf (Elt Ideal) ℓ)

/-- Which blocks a grid point reads and writes. -/
theorem idx : ∀ t : Fin cfg0.N, win0_0.index t = ![t.val, 0] ∧ win0_1.index t = ![0, 0] ∧ win0_2.index t = ![t.val, 0]
    ∧ win0_3.index t = ![1, 0] ∧ win0_4.index t = ![t.val, 0] :=
  (by decide +kernel : ∀ t : Fin grid0.N, _)

/-- The body's result at an element: the sum of the two products of blocks. -/
theorem pay_apply (x : Vec Ideal S528x1024 .bf16) (v : Vec Ideal S1024x512 .bf16) (y : Vec Ideal S528x1024 .bf16)
    (w : Vec Ideal S1024x512 .bf16) (j : S528x512.Idx) :
    (k0_pay1 x v y w j : EReal)
      = (∑ k : Fin 1024, (fun i => x i : S528x1024.Idx → EReal) (ix2 (j 0) k) * (fun i => v i : S1024x512.Idx → EReal) (ix2 k (j 1)))
        + ∑ k : Fin 1024, (fun i => y i : S528x1024.Idx → EReal) (ix2 (j 0) k) * (fun i => w i : S1024x512.Idx → EReal) (ix2 k (j 1)) := by
  unfold_payloads
  pointwise

/-- The result as a function of the three argument arrays. -/
def result (x y : S8448x1024.Idx → EReal) (w : S2048x512.Idx → EReal) (i : S8448x512.Idx) : EReal :=
  (∑ k : Fin 1024, x (ix2 (i 0) k) * w (ix2 (⟨k.val, by omega⟩ : Fin 2048) (i 1)))
    + ∑ k : Fin 1024, y (ix2 (i 0) k) * w (ix2 (⟨1024 + k.val, by omega⟩ : Fin 2048) (i 1))

/-- The result array after the run. -/
theorem array_eq (c : Dev nD) (x y : S8448x1024.Idx → EReal) (w : S2048x512.Idx → EReal)
    (hx : m ((c : Thread nD τ).loc main_arg0) = x) (hy : m ((c : Thread nD τ).loc main_arg1) = y)
    (hw : m ((c : Thread nD τ).loc main_arg2) = w) : (dats m 0 c).arrAt 4 cfg0.N = result x y w := by
  refine (dats m 0 c).arrAt_eq_of_covers 4 _ (by decide +kernel) fun t hf y => ?_
  blk_simp
  rw [after0_4]
  frame_out
  refine (pay_apply _ _ _ _ _).trans ?_
  subst hx hy hw
  have e0 : ∀ k : Fin 1024, iblk m c 0 t (ix2 (y 0) k)
      = m ((c : Thread nD τ).loc main_arg0) (ix2 ((((View.whole main_v0).slice (win0_4.rect t)).emb y) 0) k) := fun k => by
    blk_ext [iblk, V, idx t]
  have e1 : ∀ k : Fin 1024, iblk m c 1 t (ix2 k (y 1)) = m ((c : Thread nD τ).loc main_arg2)
      (ix2 (⟨k.val, by omega⟩ : Fin 2048) ((((View.whole main_v0).slice (win0_4.rect t)).emb y) 1)) := fun k => by
    blk_ext [iblk, V, idx t]
  have e2 : ∀ k : Fin 1024, iblk m c 2 t (ix2 (y 0) k)
      = m ((c : Thread nD τ).loc main_arg1) (ix2 ((((View.whole main_v0).slice (win0_4.rect t)).emb y) 0) k) := fun k => by
    blk_ext [iblk, V, idx t]
  have e3 : ∀ k : Fin 1024, iblk m c 3 t (ix2 k (y 1)) = m ((c : Thread nD τ).loc main_arg2)
      (ix2 (⟨1024 + k.val, by omega⟩ : Fin 2048) ((((View.whole main_v0).slice (win0_4.rect t)).emb y) 1)) := fun k => by
    blk_ext [iblk, V, idx t]
  simp only [e0, e1, e2, e3]
  rfl

end Cert.Kernel15Ideal.Nn

namespace Cert.Reference15Ideal.Nn

open Cert.Reference15Ideal Cert.Reference15Ideal.Gen Cert.Reference15Ideal.Read Idealize.ShloMosaic

/-- The reference's result is the same function of its arguments. -/
theorem result_eq (x y : S8448x1024.Idx → EReal) (w : S2048x512.Idx → EReal) :
    val_main_v9 (F := Ideal) x y w = Cert.Kernel15Ideal.Nn.result x y w := by
  funext i
  unfold val_main_v9 val_main_v8 val_main_v7 val_main_v6 val_main_v2 val_main_v1 Cert.Kernel15Ideal.Nn.result
  pointwise

end Cert.Reference15Ideal.Nn

namespace Cert.Proof

open Idealize.ShloMosaic Idealize.SL.Sem

/-- The blocked product and the reference leave equal arrays. -/
theorem algebraic15 : Cert.algebraic_Kernel15Ideal_Reference15Ideal := by
  intro m g m' g' _ hag
  refine ⟨fun c => (Cert.Kernel15Ideal.Gen.dats m 0 c).arrAt 4 Cert.Kernel15Ideal.cfg0.N, Cert.Kernel15Ideal.Value.run_blocks m g,
    (θ_run _ _ _).mono (fun r h c => ⟨(h c).1.trans ?_, (h c).2⟩) (Cert.Reference15Ideal.Value.run m' g')⟩
  rw [Cert.Reference15Ideal.Read.val_main_v9_eq, (hag c).1, (hag c).2.1, (hag c).2.2]
  exact (Cert.Reference15Ideal.Nn.result_eq _ _ _).trans (Cert.Kernel15Ideal.Nn.array_eq m c _ _ _ rfl rfl rfl).symm

end Cert.Proof

end
-- ==== Proof.Tn16.lean ====
/- The gradient of a branch's output projection, `do^T · hn`: what the blocked product leaves in the result array, as one
   sum over all rows. -/
module

public import proofs.«01_k».proof.Proof.Gen.Kernel16Ideal.Value
public import proofs.«01_k».proof.Proof.Gen.Reference16Ideal.Read
public import proofs.«01_k».proof.Proof.Sums
public import proofs.«01_k».proof.Defs
public import Idealize.ShloMosaic.Lib.Pipeline.ValueKit
public import Idealize.ShloMosaic.Lib.Pointwise

@[expose] public section

set_option maxRecDepth 16384

noncomputable section

namespace Cert.Kernel16Ideal.Tn

open Cert.Kernel16Ideal Cert.Kernel16Ideal.Gen Cert.Kernel16Ideal.Value Idealize.ShloMosaic Idealize.ShloMosaic.TcCoe Idealize.SL.Sem

variable (m : (ℓ : Loc nD τ sig) → Buf (Elt Ideal) ℓ)

/-- Which blocks a grid point reads. -/
theorem idx : ∀ t : Fin cfg0.N, win0_0.index t = ![t.val % 8, t.val / 8] ∧ win0_1.index t = ![t.val % 8, 0] :=
  (by decide +kernel : ∀ t : Fin grid0.N, _)

/-- The product of a point's two blocks at an element. -/
def blockSum (x : Vec Ideal S1056x1024 .bf16) (y : Vec Ideal S1056x512 .bf16) (j : S1024x512.Idx) : EReal :=
  ∑ k : Fin 1056, (fun i => x i : S1056x1024.Idx → EReal) (ix2 k (j 0)) * (fun i => y i : S1056x512.Idx → EReal) (ix2 k (j 1))

theorem reset_apply (c : Dev nD) (n : ℕ) (h : n < cfg0.N) (j : S1024x512.Idx) :
    reset2 m c n h j = (0 : EReal) + blockSum (iblk m c 0 ⟨n, h⟩) (iblk m c 1 ⟨n, h⟩) j := by
  unfold reset2 blockSum
  unfold_payloads
  pointwise

theorem step_apply (c : Dev nD) (n : ℕ) (h : n < cfg0.N) (acc : Vec Ideal S1024x512 .f32) (j : S1024x512.Idx) :
    step2 m c n h acc j = (acc j : EReal) + blockSum (iblk m c 0 ⟨n, h⟩) (iblk m c 1 ⟨n, h⟩) j := by
  unfold step2 blockSum
  unfold_payloads
  pointwise

/-- A point's first block, read in the array. -/
theorem block0 (c : Dev nD) (t : Fin cfg0.N) (k : Fin 1056) (r : Fin 1024) (a : Fin 8448) (b : Fin 1024)
    (ha : a.val = (t.val % 8) * 1056 + k.val) (hb : b.val = 1024 * (t.val / 8) + r.val) :
    iblk m c 0 t (ix2 k r) = m ((c : Thread nD τ).loc main_arg0) (ix2 a b) := by
  blk_ext [iblk, V, idx t]

/-- A point's second block, read in the array. -/
theorem block1 (c : Dev nD) (t : Fin cfg0.N) (k : Fin 1056) (r : Fin 512) (a : Fin 8448) (b : Fin 512)
    (ha : a.val = (t.val % 8) * 1056 + k.val) (hb : b.val = r.val) :
    iblk m c 1 t (ix2 k r) = m ((c : Thread nD τ).loc main_arg1) (ix2 a b) := by
  blk_ext [iblk, V, idx t]

/-- The result array is the product of the two whole arrays. -/
theorem array_eq (c : Dev nD) (x : S8448x1024.Idx → EReal) (y : S8448x512.Idx → EReal)
    (hx : m ((c : Thread nD τ).loc main_arg0) = x) (hy : m ((c : Thread nD τ).loc main_arg1) = y) (i : S1024x512.Idx) :
    G2 m c i = ∑ k : Fin 8448, x (ix2 k (i 0)) * y (ix2 k (i 1)) := by
  have hi0 : (i 0).val < 1024 := (i 0).isLt
  have hi1 : (i 1).val < 512 := (i 1).isLt
  have hN : cfg0.N = 8 := N_0
  have hr : run2Of i = (i 0).val / 1024 := by unfold run2Of; omega
  have hlt : 8 * run2Of i + 7 < cfg0.N := by omega
  unfold G2
  rw [dif_pos hlt]
  refine Cert.Sums.accumulated 8 1056 (reset2 m c) (step2 m c) (8 * run2Of i)
    (fun n h j => blockSum (iblk m c 0 ⟨n, h⟩) (iblk m c 1 ⟨n, h⟩) j) 7 rfl
    (fun h j => reset_apply m c _ h j) (fun n h acc j _ _ => step_apply m c n h acc j) (loc2Of i)
    (fun k : Fin 8448 => x (ix2 k (i 0)) * y (ix2 k (i 1))) rfl ?_ hlt
  intro s hs h
  unfold blockSum
  refine Finset.sum_congr rfl fun k _ => ?_
  have e0 := block0 m c ⟨8 * run2Of i + s, h⟩ k (loc2Of i 0) ⟨s * 1056 + k.val, by omega⟩ (i 0)
    (by show s * 1056 + k.val = (8 * run2Of i + s) % 8 * 1056 + k.val; omega)
    (by show (i 0).val = 1024 * ((8 * run2Of i + s) / 8) + (i 0).val % 1024; omega)
  have e1 := block1 m c ⟨8 * run2Of i + s, h⟩ k (loc2Of i 1) ⟨s * 1056 + k.val, by omega⟩ (i 1)
    (by show s * 1056 + k.val = (8 * run2Of i + s) % 8 * 1056 + k.val; omega)
    (by show (i 1).val = (i 1).val % 512; omega)
  rw [hx] at e0
  rw [hy] at e1
  exact congrArg₂ (fun p q : EReal => p * q) e0 e1

end Cert.Kernel16Ideal.Tn

namespace Cert.Reference16Ideal.Tn

open Cert.Reference16Ideal Cert.Reference16Ideal.Gen Cert.Reference16Ideal.Read Idealize.ShloMosaic

/-- The reference's result at an index. -/
theorem result_apply (x : S8448x1024.Idx → EReal) (y : S8448x512.Idx → EReal) (i : S1024x512.Idx) :
    val_main_v7 (F := Ideal) x y i = ∑ k : Fin 8448, x (ix2 k (i 0)) * y (ix2 k (i 1)) := by
  unfold val_main_v7 val_main_v6 val_main_v5 val_main_v4 val_main_v1
  pointwise

end Cert.Reference16Ideal.Tn

namespace Cert.Proof

open Idealize.ShloMosaic Idealize.SL.Sem

/-- The blocked product and the reference leave equal arrays. -/
theorem algebraic16 : Cert.algebraic_Kernel16Ideal_Reference16Ideal := by
  intro m g m' g' _ hag
  refine ⟨fun c => Cert.Kernel16Ideal.Value.G2 m c, Cert.Kernel16Ideal.Value.run m g,
    (θ_run _ _ _).mono (fun r h c => ⟨(h c).1.trans ?_, (h c).2⟩) (Cert.Reference16Ideal.Value.run m' g')⟩
  rw [Cert.Reference16Ideal.Read.val_main_v7_eq, (hag c).1, (hag c).2]
  funext i
  exact (Cert.Reference16Ideal.Tn.result_apply _ _ i).trans (Cert.Kernel16Ideal.Tn.array_eq m c _ _ rfl rfl i).symm

end Cert.Proof

end
-- ==== Proof.Nt17.lean ====
/- The output projection of the convolution branch, `hn @ w_outt^T`, block by block. -/
module

public import proofs.«01_k».proof.Proof.Gen.Kernel17Ideal.Value
public import proofs.«01_k».proof.Proof.Gen.Reference17Ideal.Read
public import proofs.«01_k».proof.Proof.Products
public import proofs.«01_k».proof.Defs

@[expose] public section

set_option maxRecDepth 16384

noncomputable section

namespace Cert.Kernel17Ideal.Nt

open Cert.Kernel17Ideal Cert.Kernel17Ideal.Gen Cert.Kernel17Ideal.Value Idealize.ShloMosaic Idealize.ShloMosaic.TcCoe Idealize.SL.Sem

variable (m : (ℓ : Loc nD τ sig) → Buf (Elt Ideal) ℓ)

/-- Which blocks a grid point reads and writes. -/
theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- The body's result at an element: the product of the two blocks. -/
theorem pay_apply (x : Vec Ideal S1056x512 .bf16) (w : Vec Ideal S512x512 .bf16) (j : S1056x512.Idx) :
    (k0_pay1 x w j : EReal) = Cert.Products.nt (fun i => x i) (fun i => w i) j := by
  unfold Cert.Products.nt
  unfold_payloads
  pointwise

/-- The result array after the run. -/
theorem array_eq (c : Dev nD) : (dats m 0 c).arrAt 2 cfg0.N
    = Cert.Products.nt (fun i => m ((c : Thread nD τ).loc main_arg0) i) (fun i => m ((c : Thread nD τ).loc main_arg1) i) := by
  refine (dats m 0 c).arrAt_eq_of_covers 2 _ (by decide +kernel) fun t hf y => ?_
  blk_simp
  rw [after0_2]
  frame_out
  refine (pay_apply _ _ _).trans ?_
  have e0 : ∀ k : Fin 512, iblk m c 0 t (ix2 (y 0) k)
      = m ((c : Thread nD τ).loc main_arg0) (ix2 ((((View.whole main_v0).slice (win0_2.rect t)).emb y) 0) k) := fun k => by
    blk_ext [iblk, V, idx t]
  have e1 : ∀ k : Fin 512, iblk m c 1 t (ix2 (y 1) k)
      = m ((c : Thread nD τ).loc main_arg1) (ix2 ((((View.whole main_v0).slice (win0_2.rect t)).emb y) 1) k) := fun k => by
    blk_ext [iblk, V, idx t]
  unfold Cert.Products.nt
  simp only [e0, e1]

end Cert.Kernel17Ideal.Nt

namespace Cert.Proof

open Idealize.ShloMosaic Idealize.SL.Sem

/-- The blocked projection and the reference leave equal arrays. -/
theorem algebraic17 : Cert.algebraic_Kernel17Ideal_Reference17Ideal := by
  intro m g m' g' _ hag
  refine ⟨fun c => (Cert.Kernel17Ideal.Gen.dats m 0 c).arrAt 2 Cert.Kernel17Ideal.cfg0.N, Cert.Kernel17Ideal.Value.run_blocks m g,
    (θ_run _ _ _).mono (fun r h c => ⟨(h c).1.trans ?_, (h c).2⟩) (Cert.Reference17Ideal.Value.run m' g')⟩
  rw [Cert.Reference17Ideal.Read.val_main_v3_eq, (hag c).1, (hag c).2]
  refine Eq.trans ?_ (Cert.Kernel17Ideal.Nt.array_eq m c).symm
  funext i
  unfold Cert.Reference17Ideal.Read.val_main_v3 Cert.Reference17Ideal.Read.val_main_v2 Cert.Reference17Ideal.Read.val_main_v1
    Cert.Reference17Ideal.Read.val_main_v0 Cert.Products.nt
  pointwise

end Cert.Proof

end
-- ==== Proof.Nn18.lean ====
/- The gradient of the output projection's input in the convolution branch, `do @ w_outt`, row block by row block. -/
module

public import proofs.«01_k».proof.Proof.Gen.Kernel18Ideal.Value
public import proofs.«01_k».proof.Proof.Gen.Reference18Ideal.Read
public import proofs.«01_k».proof.Proof.Products
public import proofs.«01_k».proof.Defs

@[expose] public section

set_option maxRecDepth 16384

noncomputable section

namespace Cert.Kernel18Ideal.Nn

open Cert.Kernel18Ideal Cert.Kernel18Ideal.Gen Cert.Kernel18Ideal.Value Idealize.ShloMosaic Idealize.ShloMosaic.TcCoe Idealize.SL.Sem

variable (m : (ℓ : Loc nD τ sig) → Buf (Elt Ideal) ℓ)

/-- Which blocks a grid point reads and writes. -/
theorem idx : ∀ t : Fin cfg0.N, win0_0.index t = ![t.val, 0] ∧ win0_1.index t = ![0, 0]
    ∧ win0_2.index t = ![t.val, 0] :=
  (by decide +kernel : ∀ t : Fin grid0.N, _)

/-- The body's result at an element: the product of the two blocks. -/
theorem pay_apply (x : Vec Ideal S528x1024 .bf16) (w : Vec Ideal S1024x512 .bf16) (j : S528x512.Idx) :
    (k0_pay1 x w j : EReal) = Cert.Products.nn (fun i => x i) (fun i => w i) j := by
  unfold Cert.Products.nn
  unfold_payloads
  pointwise

/-- The result array after the run. -/
theorem array_eq (c : Dev nD) : (dats m 0 c).arrAt 2 cfg0.N
    = Cert.Products.nn (fun i => m ((c : Thread nD τ).loc main_arg0) i) (fun i => m ((c : Thread nD τ).loc main_arg1) i) := by
  refine (dats m 0 c).arrAt_eq_of_covers 2 _ (by decide +kernel) fun t hf y => ?_
  blk_simp
  rw [after0_2]
  frame_out
  refine (pay_apply _ _ _).trans ?_
  have e0 : ∀ k : Fin 1024, iblk m c 0 t (ix2 (y 0) k)
      = m ((c : Thread nD τ).loc main_arg0) (ix2 ((((View.whole main_v0).slice (win0_2.rect t)).emb y) 0) k) := fun k => by
    blk_ext [iblk, V, idx t]
  have e1 : ∀ k : Fin 1024, iblk m c 1 t (ix2 k (y 1))
      = m ((c : Thread nD τ).loc main_arg1) (ix2 k ((((View.whole main_v0).slice (win0_2.rect t)).emb y) 1)) := fun k => by
    blk_ext [iblk, V, idx t]
  unfold Cert.Products.nn
  simp only [e0, e1]

end Cert.Kernel18Ideal.Nn

namespace Cert.Proof

open Idealize.ShloMosaic Idealize.SL.Sem

/-- The blocked product and the reference leave equal arrays. -/
theorem algebraic18 : Cert.algebraic_Kernel18Ideal_Reference18Ideal := by
  intro m g m' g' _ hag
  refine ⟨fun c => (Cert.Kernel18Ideal.Gen.dats m 0 c).arrAt 2 Cert.Kernel18Ideal.cfg0.N, Cert.Kernel18Ideal.Value.run_blocks m g,
    (θ_run _ _ _).mono (fun r h c => ⟨(h c).1.trans ?_, (h c).2⟩) (Cert.Reference18Ideal.Value.run m' g')⟩
  rw [Cert.Reference18Ideal.Read.val_main_v5_eq, (hag c).1, (hag c).2]
  refine Eq.trans ?_ (Cert.Kernel18Ideal.Nn.array_eq m c).symm
  funext i
  unfold Cert.Reference18Ideal.Read.val_main_v5 Cert.Reference18Ideal.Read.val_main_v4 Cert.Reference18Ideal.Read.val_main_v2
    Cert.Reference18Ideal.Read.val_main_v1 Cert.Products.nn
  pointwise

end Cert.Proof

end
-- ==== Proof.Merge19.lean ====
/- The backward pass of the merge of the three branches, where each branch is weighted by its own sigmoid gate and the first branch
   is itself a gated product. All seven results are products of factors at one element. -/
module

public import proofs.«01_k».proof.Proof.Gen.Kernel19Ideal.Value
public import proofs.«01_k».proof.Proof.Gen.Reference19Ideal.Read
public import proofs.«01_k».proof.Defs
public import Idealize.ShloMosaic.Lib.Pipeline.ValueKit
public import Idealize.ShloMosaic.Lib.Pointwise

@[expose] public section

set_option maxRecDepth 16384

noncomputable section

namespace Cert.Kernel19Ideal.Merge

open Cert.Kernel19Ideal Cert.Kernel19Ideal.Gen Cert.Kernel19Ideal.Value Idealize.ShloMosaic Idealize.ShloMosaic.TcCoe Idealize.SL.Sem

variable (m : (ℓ : Loc nD τ sig) → Buf (Elt Ideal) ℓ)

/-- Which blocks a grid point reads. The three gates are read from one array, behind the branches' own columns. -/
theorem idx : ∀ t : Fin cfg0.N, win0_0.index t = ![t.val / 2, t.val % 2] ∧ win0_1.index t = ![t.val / 2, t.val % 2 + 6]
    ∧ win0_2.index t = ![t.val / 2, t.val % 2 + 8] ∧ win0_3.index t = ![t.val / 2, t.val % 2 + 10]
    ∧ win0_4.index t = ![t.val / 2, t.val % 2] ∧ win0_5.index t = ![t.val / 2, t.val % 2]
    ∧ win0_6.index t = ![t.val / 2, t.val % 2] ∧ win0_7.index t = ![t.val / 2, t.val % 2] :=
  (by decide +kernel : ∀ t : Fin grid0.N, _)

/-- Which block a grid point writes, the same in every result. -/
theorem idx' : ∀ t : Fin cfg0.N, win0_8.index t = ![t.val / 2, t.val % 2] ∧ win0_9.index t = ![t.val / 2, t.val % 2]
    ∧ win0_10.index t = ![t.val / 2, t.val % 2] ∧ win0_11.index t = ![t.val / 2, t.val % 2]
    ∧ win0_12.index t = ![t.val / 2, t.val % 2] ∧ win0_13.index t = ![t.val / 2, t.val % 2]
    ∧ win0_14.index t = ![t.val / 2, t.val % 2] :=
  (by decide +kernel : ∀ t : Fin grid0.N, _)

/-- The gradient through a sigmoid gate `x` of a weighted term `y`. -/
def gate (d y x : EReal) : EReal := d * y * Ideal.logistic x * (1 - Ideal.logistic x)

theorem pay_gate0 (d x g a : Vec Ideal S528x512 .f32) (j : S528x512.Idx) :
    (k0_pay10 d x g a j : EReal) = gate (d j) (a j * Ideal.logistic (g j)) (x j) := by
  unfold gate
  unfold_payloads
  pointwise

theorem pay_gate1 (d x y : Vec Ideal S528x512 .f32) (j : S528x512.Idx) :
    (k0_pay11 d x y j : EReal) = gate (d j) (y j) (x j) := by
  unfold gate
  unfold_payloads
  pointwise

theorem pay_gate2 (d x y : Vec Ideal S528x512 .f32) (j : S528x512.Idx) :
    (k0_pay12 d x y j : EReal) = gate (d j) (y j) (x j) := by
  unfold gate
  unfold_payloads
  pointwise

theorem pay_a (d x g : Vec Ideal S528x512 .f32) (j : S528x512.Idx) :
    (k0_pay2 d (k0_pay6 x) (k0_pay9 g) j : EReal) = d j * Ideal.logistic (x j) * Ideal.logistic (g j) := by
  unfold_payloads
  pointwise

theorem pay_g (d x g a : Vec Ideal S528x512 .f32) (j : S528x512.Idx) :
    (k0_pay3 d (k0_pay6 x) (k0_pay9 g) a j : EReal) = gate (d j * Ideal.logistic (x j)) (a j) (g j) := by
  unfold gate
  unfold_payloads
  pointwise

theorem pay_conv (d x : Vec Ideal S528x512 .f32) (j : S528x512.Idx) :
    (k0_pay4 d (k0_pay7 x) j : EReal) = d j * Ideal.logistic (x j) := by
  unfold_payloads
  pointwise

theorem pay_attn (d x : Vec Ideal S528x512 .f32) (j : S528x512.Idx) :
    (k0_pay5 d (k0_pay8 x) j : EReal) = d j * Ideal.logistic (x j) := by
  unfold_payloads
  pointwise

/-- Gate `k` of the branch with its columns behind `o`, in the projections. -/
def col (o : ℕ) (ho : o + 1024 ≤ 6144) (i : S8448x1024.Idx) : S8448x6144.Idx :=
  ix2 (i 0) (⟨o + (i 1).val, by have h : (i 1).val < 1024 := (i 1).isLt; omega⟩ : Fin 6144)

abbrev arg0 (c : Dev nD) : S8448x1024.Idx → EReal := m ((c : Thread nD τ).loc main_arg0)
abbrev arg1 (c : Dev nD) : S8448x6144.Idx → EReal := m ((c : Thread nD τ).loc main_arg1)
abbrev arg2 (c : Dev nD) : S8448x1024.Idx → EReal := m ((c : Thread nD τ).loc main_arg2)
abbrev arg3 (c : Dev nD) : S8448x1024.Idx → EReal := m ((c : Thread nD τ).loc main_arg3)
abbrev arg4 (c : Dev nD) : S8448x1024.Idx → EReal := m ((c : Thread nD τ).loc main_arg4)
abbrev arg5 (c : Dev nD) : S8448x1024.Idx → EReal := m ((c : Thread nD τ).loc main_arg5)

/-- The body reads each block whole. -/
theorem whole (x : Vec Ideal S528x512 .f32) : View.ld x r0_0 = x :=
  View.ld_unit_lit _ _ fun a => by fin_cases a <;> rfl

/-- Everything a grid point reads at element `y` of its blocks, in the argument arrays at the element `i` that it writes. -/
theorem reads (c : Dev nD) (t : Fin cfg0.N) (y : S528x512.Idx) (i : S8448x1024.Idx)
    (h0 : (i 0).val = (t.val / 2) * 528 + (y 0).val) (h1 : (i 1).val = (t.val % 2) * 512 + (y 1).val) :
    iblk m c 0 t y = arg0 m c i ∧ iblk m c 1 t y = arg1 m c (col 3072 (by decide) i)
      ∧ iblk m c 2 t y = arg1 m c (col 4096 (by decide) i) ∧ iblk m c 3 t y = arg1 m c (col 5120 (by decide) i)
      ∧ iblk m c 4 t y = arg2 m c i ∧ iblk m c 5 t y = arg3 m c i ∧ iblk m c 6 t y = arg4 m c i ∧ iblk m c 7 t y = arg5 m c i := by
  unfold col
  refine ⟨?_, ?_, ?_, ?_, ?_, ?_, ?_, ?_⟩ <;> blk_ext [iblk, V, idx t]

theorem array8_eq (c : Dev nD) : (dats m 0 c).arrAt 8 cfg0.N = fun i =>
    gate (arg0 m c i) (arg2 m c i * Ideal.logistic (arg3 m c i)) (arg1 m c (col 3072 (by decide) i)) := by
  refine (dats m 0 c).arrAt_eq_of_covers 8 _ (by decide +kernel) fun t hf y => ?_
  blk_simp
  rw [after0_8]
  frame_out
  obtain ⟨r0, r1, -, -, r4, r5, -⟩ := reads m c t y (((View.whole main_v0_0).slice (win0_8.rect t)).emb y) (by blk_point [idx' t]) (by blk_point [idx' t])
  refine (pay_gate0 _ _ _ _ _).trans ?_
  rw [r0, r1, r4, r5]

theorem array9_eq (c : Dev nD) : (dats m 0 c).arrAt 9 cfg0.N = fun i =>
    gate (arg0 m c i) (arg4 m c i) (arg1 m c (col 4096 (by decide) i)) := by
  refine (dats m 0 c).arrAt_eq_of_covers 9 _ (by decide +kernel) fun t hf y => ?_
  blk_simp
  rw [after0_9]
  frame_out
  obtain ⟨r0, -, r2, -, -, -, r6, -⟩ := reads m c t y (((View.whole main_v0_1).slice (win0_9.rect t)).emb y) (by blk_point [idx' t]) (by blk_point [idx' t])
  refine (pay_gate1 _ _ _ _).trans ?_
  rw [r0, r2, r6]

theorem array10_eq (c : Dev nD) : (dats m 0 c).arrAt 10 cfg0.N = fun i =>
    gate (arg0 m c i) (arg5 m c i) (arg1 m c (col 5120 (by decide) i)) := by
  refine (dats m 0 c).arrAt_eq_of_covers 10 _ (by decide +kernel) fun t hf y => ?_
  blk_simp
  rw [after0_10]
  frame_out
  obtain ⟨r0, -, -, r3, -, -, -, r7⟩ := reads m c t y (((View.whole main_v0_2).slice (win0_10.rect t)).emb y) (by blk_point [idx' t]) (by blk_point [idx' t])
  refine (pay_gate2 _ _ _ _).trans ?_
  rw [r0, r3, r7]

theorem array11_eq (c : Dev nD) : (dats m 0 c).arrAt 11 cfg0.N = fun i =>
    arg0 m c i * Ideal.logistic (arg1 m c (col 3072 (by decide) i)) * Ideal.logistic (arg3 m c i) := by
  refine (dats m 0 c).arrAt_eq_of_covers 11 _ (by decide +kernel) fun t hf y => ?_
  blk_simp
  rw [after0_11]
  frame_out
  obtain ⟨r0, r1, -, -, -, r5, -⟩ := reads m c t y (((View.whole main_v0_3).slice (win0_11.rect t)).emb y) (by blk_point [idx' t]) (by blk_point [idx' t])
  refine (pay_a _ _ _ _).trans ?_
  rw [r0]
  exact (congrArg₂ (fun a b : EReal => arg0 m c (((View.whole main_v0_3).slice (win0_11.rect t)).emb y) * Ideal.logistic a * Ideal.logistic b)
    ((congrFun (whole (iblk m c 1 t)) y).trans r1) ((congrFun (whole (iblk m c 5 t)) y).trans r5))

theorem array12_eq (c : Dev nD) : (dats m 0 c).arrAt 12 cfg0.N = fun i =>
    gate (arg0 m c i * Ideal.logistic (arg1 m c (col 3072 (by decide) i))) (arg2 m c i) (arg3 m c i) := by
  refine (dats m 0 c).arrAt_eq_of_covers 12 _ (by decide +kernel) fun t hf y => ?_
  blk_simp
  rw [after0_12]
  frame_out
  obtain ⟨r0, r1, -, -, r4, r5, -⟩ := reads m c t y (((View.whole main_v0_4).slice (win0_12.rect t)).emb y) (by blk_point [idx' t]) (by blk_point [idx' t])
  refine (pay_g _ _ _ _ _).trans ?_
  rw [r0, r4]
  exact (congrArg₂ (fun a b : EReal => gate (arg0 m c (((View.whole main_v0_4).slice (win0_12.rect t)).emb y) * Ideal.logistic a)
      (arg2 m c (((View.whole main_v0_4).slice (win0_12.rect t)).emb y)) b)
    ((congrFun (whole (iblk m c 1 t)) y).trans r1) ((congrFun (whole (iblk m c 5 t)) y).trans r5))

theorem array13_eq (c : Dev nD) : (dats m 0 c).arrAt 13 cfg0.N = fun i =>
    arg0 m c i * Ideal.logistic (arg1 m c (col 4096 (by decide) i)) := by
  refine (dats m 0 c).arrAt_eq_of_covers 13 _ (by decide +kernel) fun t hf y => ?_
  blk_simp
  rw [after0_13]
  frame_out
  obtain ⟨r0, -, r2, -⟩ := reads m c t y (((View.whole main_v0_5).slice (win0_13.rect t)).emb y) (by blk_point [idx' t]) (by blk_point [idx' t])
  refine (pay_conv _ _ _).trans ?_
  rw [r0, r2]

theorem array14_eq (c : Dev nD) : (dats m 0 c).arrAt 14 cfg0.N = fun i =>
    arg0 m c i * Ideal.logistic (arg1 m c (col 5120 (by decide) i)) := by
  refine (dats m 0 c).arrAt_eq_of_covers 14 _ (by decide +kernel) fun t hf y => ?_
  blk_simp
  rw [after0_14]
  frame_out
  obtain ⟨r0, -, -, r3, -⟩ := reads m c t y (((View.whole main_v0_6).slice (win0_14.rect t)).emb y) (by blk_point [idx' t]) (by blk_point [idx' t])
  refine (pay_attn _ _ _).trans ?_
  rw [r0, r3]

end Cert.Kernel19Ideal.Merge

namespace Cert.Reference19Ideal.Merge

open Cert.Reference19Ideal Cert.Reference19Ideal.Gen Cert.Reference19Ideal.Read Idealize.ShloMosaic
open Cert.Kernel19Ideal.Merge (col gate)

variable (x0 : S8448x1024.Idx → EReal) (x1 : S8448x6144.Idx → EReal) (x2 x3 x4 x5 : S8448x1024.Idx → EReal) (i : S8448x1024.Idx)

/-- The reference's sigmoids, written out as quotients. -/
theorem inner : (val_main_v9 (F := Ideal) x3 i : EReal) = Ideal.logistic (x3 i) := by
  unfold val_main_v9 val_main_v8 val_main_v7 val_main_v6 val_main_v5 val_main_v4 val_main_cst val_main_cst_0
  pointwise
  rfl

theorem gate0 : (val_main_v19 (F := Ideal) x1 i : EReal) = Ideal.logistic (x1 (col 3072 (by decide) i)) := by
  unfold val_main_v19 val_main_v18 val_main_v17 val_main_v16 val_main_v15 val_main_v14 val_main_cst_2 val_main_cst_3 val_main_v1
    val_main_v0 col
  pointwise
  rfl

theorem gate1 : (val_main_v29 (F := Ideal) x1 i : EReal) = Ideal.logistic (x1 (col 4096 (by decide) i)) := by
  unfold val_main_v29 val_main_v28 val_main_v27 val_main_v26 val_main_v25 val_main_v24 val_main_cst_5 val_main_cst_6 val_main_v2
    val_main_v0 col
  pointwise
  simp only [← Nat.add_assoc, Nat.reduceAdd]
  rfl

theorem gate2 : (val_main_v40 (F := Ideal) x1 i : EReal) = Ideal.logistic (x1 (col 5120 (by decide) i)) := by
  unfold val_main_v40 val_main_v39 val_main_v38 val_main_v37 val_main_v36 val_main_v35 val_main_cst_8 val_main_cst_9 val_main_v3
    val_main_v0 col
  pointwise
  simp only [← Nat.add_assoc, Nat.reduceAdd]
  rfl

theorem eq60 : (val_main_v60 (F := Ideal) x0 x1 x2 x3 i : EReal) = gate (x0 i) (x2 i * Ideal.logistic (x3 i)) (x1 (col 3072 (by decide) i)) := by
  unfold gate
  rw [← gate0 x1 i, ← inner x3 i]
  unfold val_main_v60 val_main_v56 val_main_v55 val_main_v22 val_main_v21 val_main_v20 val_main_v46 val_main_v13 val_main_cst_4
  generalize val_main_v19 (F := Ideal) x1 = g0
  generalize val_main_v9 (F := Ideal) x3 = a
  pointwise
  ac_rfl

theorem eq61 : (val_main_v61 (F := Ideal) x0 x1 x4 i : EReal) = gate (x0 i) (x4 i) (x1 (col 4096 (by decide) i)) := by
  unfold gate
  rw [← gate1 x1 i]
  unfold val_main_v61 val_main_v53 val_main_v52 val_main_v46 val_main_v32 val_main_v31 val_main_v30 val_main_cst_7
  generalize val_main_v29 (F := Ideal) x1 = g1
  pointwise
  ac_rfl

theorem eq62 : (val_main_v62 (F := Ideal) x0 x1 x5 i : EReal) = gate (x0 i) (x5 i) (x1 (col 5120 (by decide) i)) := by
  unfold gate
  rw [← gate2 x1 i]
  unfold val_main_v62 val_main_v50 val_main_v49 val_main_v47 val_main_v43 val_main_v42 val_main_v41 val_main_cst_10
  generalize val_main_v40 (F := Ideal) x1 = g2
  pointwise
  ac_rfl

theorem eq63 : (val_main_v63 (F := Ideal) x0 x1 x3 i : EReal) = x0 i * Ideal.logistic (x1 (col 3072 (by decide) i)) * Ideal.logistic (x3 i) := by
  rw [← gate0 x1 i, ← inner x3 i]
  unfold val_main_v63 val_main_v58 val_main_v54 val_main_v46
  generalize val_main_v19 (F := Ideal) x1 = g0
  generalize val_main_v9 (F := Ideal) x3 = a
  pointwise
  ac_rfl

theorem eq64 : (val_main_v64 (F := Ideal) x0 x1 x2 x3 i : EReal) = gate (x0 i * Ideal.logistic (x1 (col 3072 (by decide) i))) (x2 i) (x3 i) := by
  unfold gate
  rw [← gate0 x1 i, ← inner x3 i]
  unfold val_main_v64 val_main_v59 val_main_v57 val_main_v54 val_main_v46 val_main_v12 val_main_v11 val_main_v10 val_main_cst_1
  generalize val_main_v19 (F := Ideal) x1 = g0
  generalize val_main_v9 (F := Ideal) x3 = a
  pointwise
  ac_rfl

theorem eq65 : (val_main_v65 (F := Ideal) x0 x1 i : EReal) = x0 i * Ideal.logistic (x1 (col 4096 (by decide) i)) := by
  rw [← gate1 x1 i]
  unfold val_main_v65 val_main_v51 val_main_v46
  generalize val_main_v29 (F := Ideal) x1 = g1
  pointwise
  ac_rfl

theorem eq66 : (val_main_v66 (F := Ideal) x0 x1 i : EReal) = x0 i * Ideal.logistic (x1 (col 5120 (by decide) i)) := by
  rw [← gate2 x1 i]
  unfold val_main_v66 val_main_v48 val_main_v47
  generalize val_main_v40 (F := Ideal) x1 = g2
  pointwise
  ac_rfl

end Cert.Reference19Ideal.Merge

namespace Cert.Proof

open Idealize.ShloMosaic Idealize.SL.Sem

/-- The blocked backward pass of the merge and the reference leave equal arrays. -/
theorem algebraic19 : Cert.algebraic_Kernel19Ideal_Reference19Ideal := by
  intro m g m' g' _ hag
  refine ⟨_, _, _, _, _, _, _, Cert.Kernel19Ideal.Value.run_blocks m g, (θ_run _ _ _).mono (fun r h c =>
      ⟨(h c).1.trans ?_, (h c).2.1.trans ?_, (h c).2.2.1.trans ?_, (h c).2.2.2.1.trans ?_, (h c).2.2.2.2.1.trans ?_,
        (h c).2.2.2.2.2.1.trans ?_, (h c).2.2.2.2.2.2.1.trans ?_, (h c).2.2.2.2.2.2.2⟩) (Cert.Reference19Ideal.Value.run m' g')⟩
  all_goals obtain ⟨h0, h1, h2, h3, h4, h5⟩ := hag c
  · refine (Cert.Reference19Ideal.Read.val_main_v60_eq _ _ _ _).trans ?_
    rw [h0, h1, h2, h3]
    exact (funext fun i => Cert.Reference19Ideal.Merge.eq60 _ _ _ _ i).trans (Cert.Kernel19Ideal.Merge.array8_eq m c).symm
  · refine (Cert.Reference19Ideal.Read.val_main_v61_eq _ _ _).trans ?_
    rw [h0, h1, h4]
    exact (funext fun i => Cert.Reference19Ideal.Merge.eq61 _ _ _ i).trans (Cert.Kernel19Ideal.Merge.array9_eq m c).symm
  · refine (Cert.Reference19Ideal.Read.val_main_v62_eq _ _ _).trans ?_
    rw [h0, h1, h5]
    exact (funext fun i => Cert.Reference19Ideal.Merge.eq62 _ _ _ i).trans (Cert.Kernel19Ideal.Merge.array10_eq m c).symm
  · refine (Cert.Reference19Ideal.Read.val_main_v63_eq _ _ _).trans ?_
    rw [h0, h1, h3]
    exact (funext fun i => Cert.Reference19Ideal.Merge.eq63 _ _ _ i).trans (Cert.Kernel19Ideal.Merge.array11_eq m c).symm
  · refine (Cert.Reference19Ideal.Read.val_main_v64_eq _ _ _ _).trans ?_
    rw [h0, h1, h2, h3]
    exact (funext fun i => Cert.Reference19Ideal.Merge.eq64 _ _ _ _ i).trans (Cert.Kernel19Ideal.Merge.array12_eq m c).symm
  · refine (Cert.Reference19Ideal.Read.val_main_v65_eq _ _).trans ?_
    rw [h0, h1]
    exact (funext fun i => Cert.Reference19Ideal.Merge.eq65 _ _ i).trans (Cert.Kernel19Ideal.Merge.array13_eq m c).symm
  · refine (Cert.Reference19Ideal.Read.val_main_v66_eq _ _).trans ?_
    rw [h0, h1]
    exact (funext fun i => Cert.Reference19Ideal.Merge.eq66 _ _ i).trans (Cert.Kernel19Ideal.Merge.array14_eq m c).symm

end Cert.Proof

end
-- ==== Proof.Rms20.lean ====
/- The forward pass of the RMS norm: each row divided by the root of its mean square, times the weight. -/
module

public import proofs.«01_k».proof.Proof.Gen.Kernel20Ideal.Value
public import proofs.«01_k».proof.Proof.Gen.Reference20Ideal.Read
public import proofs.«01_k».proof.Defs
public import Idealize.ShloMosaic.Lib.Pipeline.ValueKit
public import Idealize.ShloMosaic.Lib.Pointwise

@[expose] public section

set_option maxRecDepth 16384

noncomputable section

open Cert.Kernel20Ideal Cert.Kernel20Ideal.Gen Cert.Kernel20Ideal.Value Idealize.ShloMosaic Idealize.ShloMosaic.TcCoe Idealize.SL.Sem
namespace Cert.Kernel20Ideal.Rms

open Cert.Kernel20Ideal Cert.Kernel20Ideal.Gen Cert.Kernel20Ideal.Value Idealize.ShloMosaic Idealize.ShloMosaic.TcCoe Idealize.SL.Sem

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- The factor of a row whose squares sum to `s`. -/
def factor (s : EReal) : EReal :=
  FloatOps.rsqrt (F := Ideal) (φ := .f32) (FloatOps.addf (FloatOps.divf (s : Ideal .f32) (Scalar.ofBits .f32 0x44800000#32))
    (Scalar.ofBits .f32 0x358637BD#32))

/-- The norm, element by element. -/
def result (h : S8448x1024.Idx → EReal) (g : S1024.Idx → EReal) (i : S8448x1024.Idx) : EReal :=
  h i * factor (∑ k : Fin 1024, h (ix2 (i 0) k) * h (ix2 (i 0) k)) * g (ix1 (i 1))

theorem whole0 (x : Vec Ideal S1056x1024 .f32) : View.ld x r0_0 = x :=
  View.ld_unit_lit _ _ fun a => by fin_cases a <;> rfl

theorem whole1 (x : Vec Ideal S1x1024 .f32) : View.ld x r0_1 = x :=
  View.ld_unit_lit _ _ fun a => by fin_cases a <;> rfl

theorem squares (x : Vec Ideal S1056x1024 .f32) (j : S1056.Idx) :
    (multiReduction (F := Ideal) .add [1] S1056 (mulf x x) 0x00000000#32 reduces_S1056x1024_S1056 (.inl rfl) rfl j : EReal)
      = ∑ k : Fin 1024, x (ix2 (j 0) k) * x (ix2 (j 0) k) := by
  pointwise

theorem out_apply (x : Vec Ideal S1056x1024 .f32) (g : Vec Ideal S1x1024 .f32) (y : S1056x1024.Idx) :
    (out0_2 x g y : EReal) = x y * factor (∑ k : Fin 1024, x (ix2 (y 0) k) * x (ix2 (y 0) k)) * g (ix2 0 (y 1)) := by
  unfold out0_2
  rw [whole0, whole1]
  refine (canon2_eq _ _ y).trans ?_
  have e0 : ix2_0 y = y := funext fun a => by fin_cases a <;> rfl
  have e2 : ix2_2 y = ix2 0 (y 1) := funext fun a => by fin_cases a <;> rfl
  have e1 := squares x (ix2_1 y)
  unfold E2
  rw [e0, e2]
  exact congrArg (fun s : EReal => x y * factor s * g (ix2 0 (y 1))) e1

theorem V0 (c : Dev nD) : (V m c main_v0) = shapeCast _ (m ((c : Thread nD τ).loc main_arg1)) shapeCasts_S1024_S1x1024 := by
  unfold V hostOps0
  after_results_simp <;> rfl

abbrev arg0 (c : Dev nD) : S8448x1024.Idx → EReal := m ((c : Thread nD τ).loc main_arg0)
abbrev arg1 (c : Dev nD) : S1024.Idx → EReal := m ((c : Thread nD τ).loc main_arg1)

theorem weight (c : Dev nD) (k : Fin 1024) : (V m c main_v0 (ix2 0 k) : EReal) = arg1 m c (ix1 k) := by
  rw [V0]
  pointwise

theorem array_eq (c : Dev nD) : (dats m 0 c).arrAt 2 cfg0.N = result (arg0 m c) (arg1 m c) := by
  refine (dats m 0 c).arrAt_eq_of_covers 2 _ (by decide +kernel) fun t hf y => ?_
  blk_simp
  rw [after0_2]
  refine (out_apply _ _ y).trans ?_
  have r (k : Fin 1024) : iblk m c 0 t (ix2 (y 0) k) = arg0 m c (ix2 ((((View.whole main_v1).slice (win0_2.rect t)).emb y) 0) k) := by
    blk_ext [iblk, V, idx t]
  have r0 : iblk m c 0 t y = arg0 m c (((View.whole main_v1).slice (win0_2.rect t)).emb y) := by
    blk_ext [iblk, V, idx t]
  have r1 : iblk m c 1 t (ix2 0 (y 1)) = V m c main_v0 (ix2 0 ((((View.whole main_v1).slice (win0_2.rect t)).emb y) 1)) := by
    blk_ext [iblk, idx t]
  exact congrArg₂ (fun a b : EReal => a * b) (congrArg₂ (fun a b : EReal => a * b) r0
    (congrArg factor (Finset.sum_congr rfl fun k _ => congrArg₂ (fun a b : EReal => a * b) (r k) (r k)))) (r1.trans (weight m c _))

end Cert.Kernel20Ideal.Rms

namespace Cert.Proof

open Idealize.ShloMosaic Idealize.SL.Sem

theorem reference20_eq (h : Cert.Reference20Ideal.S8448x1024.Idx → EReal) (g : Cert.Reference20Ideal.S1024.Idx → EReal) :
    Cert.Reference20Ideal.Read.val_main_v13 (F := Ideal) h g = Cert.Kernel20Ideal.Rms.result h g := by
  funext i
  open Cert.Reference20Ideal.Read in
  rw [val_main_v13_apply, val_main_v12_apply, val_main_v9_apply, val_main_v8_apply, val_main_v7_apply, val_main_v6_apply, val_main_v4_apply,
    val_main_v2_apply, val_main_v1_apply, val_main_v11_apply, val_main_v10_apply]
  have e : (Cert.Reference20Ideal.Read.val_main_cst (F := Ideal) (Shape.Idx.first Cert.Reference20Ideal.Gen.h_S_) : EReal) = 0 := Ideal.ofBits_zero_f32
  have e1 (j k) : Cert.Reference20Ideal.Read.idx_main_v1 j k = ix2 (j 0) k := funext fun a => by fin_cases a <;> rfl
  have e2 : Cert.Reference20Ideal.Read.idx_main_v10 (Cert.Reference20Ideal.Read.idx_main_v11 i) = ix1 (i 1) := funext fun a => by fin_cases a; rfl
  simp only [e, e1, e2, zero_add, Cert.Reference20Ideal.Read.val_main_v3_apply, Cert.Reference20Ideal.Read.val_main_v5_apply,
    Cert.Reference20Ideal.Read.val_main_cst_0_apply, Cert.Reference20Ideal.Read.val_main_cst_1_apply, Cert.Reference20Ideal.Read.val_main_v0_apply]
  rfl

theorem algebraic20 : Cert.algebraic_Kernel20Ideal_Reference20Ideal := by
  intro m g m' g' _ hag
  refine ⟨fun c => (Cert.Kernel20Ideal.Gen.dats m 0 c).arrAt 2 Cert.Kernel20Ideal.cfg0.N, Cert.Kernel20Ideal.Value.run_blocks m g,
    (θ_run _ _ _).mono (fun r h c => ⟨(h c).1.trans ?_, (h c).2⟩) (Cert.Reference20Ideal.Value.run m' g')⟩
  refine Eq.trans ?_ (Cert.Kernel20Ideal.Rms.array_eq m c).symm
  rw [(hag c).1, (hag c).2]
  exact reference20_eq _ _

end Cert.Proof

end
-- ==== Proof.Merge21.lean ====
/- The forward pass of the merge: the three branches, each weighted by its own sigmoid gate, on the sequence's own rows. -/
module

public import proofs.«01_k».proof.Proof.Gen.Kernel21Ideal.Value
public import proofs.«01_k».proof.Proof.Gen.Reference21Ideal.Read
public import proofs.«01_k».proof.Defs
public import Idealize.ShloMosaic.Lib.Pipeline.ValueKit
public import Idealize.ShloMosaic.Lib.Pointwise

@[expose] public section

set_option maxRecDepth 16384

noncomputable section

namespace Cert.Kernel21Ideal.Merge

open Cert.Kernel21Ideal Cert.Kernel21Ideal.Gen Cert.Kernel21Ideal.Value Idealize.ShloMosaic Idealize.ShloMosaic.TcCoe Idealize.SL.Sem

theorem idx : ∀ t : Fin cfg0.N, win0_0.index t = ![t.val / 2, t.val % 2 + 6] ∧ win0_1.index t = ![t.val / 2, t.val % 2 + 8]
    ∧ win0_2.index t = ![t.val / 2, t.val % 2 + 10] ∧ win0_3.index t = ![t.val / 2, t.val % 2]
    ∧ win0_4.index t = ![t.val / 2, t.val % 2] ∧ win0_5.index t = ![t.val / 2, t.val % 2]
    ∧ win0_6.index t = ![t.val / 2, t.val % 2] :=
  (by decide +kernel : ∀ t : Fin grid0.N, _)

/-- The first row of a grid point's block, counted from the start of its sequence's padding. -/
theorem base : ∀ t : Fin cfg0.N,
    Scalar.select
      (Scalar.andi
        (Scalar.xori
          (Scalar.cmpi .slt (Scalar.remsi (Scalar.muli (BitVec.ofNat 32 (grid0.coords t 0).val) 528#32)
            (Scalar.select (Scalar.cmpi .eq 4224#32 0#32) 1#32 4224#32)) 0#32)
          (Scalar.cmpi .slt (Scalar.select (Scalar.cmpi .eq 4224#32 0#32) 1#32 4224#32) 0#32))
        (Scalar.cmpi .ne (Scalar.remsi (Scalar.muli (BitVec.ofNat 32 (grid0.coords t 0).val) 528#32)
          (Scalar.select (Scalar.cmpi .eq 4224#32 0#32) 1#32 4224#32)) 0#32))
      (Scalar.addi (Scalar.remsi (Scalar.muli (BitVec.ofNat 32 (grid0.coords t 0).val) 528#32)
        (Scalar.select (Scalar.cmpi .eq 4224#32 0#32) 1#32 4224#32)) (Scalar.select (Scalar.cmpi .eq 4224#32 0#32) 1#32 4224#32))
      (Scalar.remsi (Scalar.muli (BitVec.ofNat 32 (grid0.coords t 0).val) 528#32)
        (Scalar.select (Scalar.cmpi .eq 4224#32 0#32) 1#32 4224#32))
      = BitVec.ofNat 32 (t.val / 2 % 8 * 528) :=
  (by decide +kernel : ∀ t : Fin grid0.N, _)

/-- The comparison with the padding's 112 rows. -/
theorem row : ∀ (b : Fin 8) (r : Fin 528),
    IntOp.cmpi .sge (IntOp.addi (BitVec.ofNat 32 (b.val * 528)) (BitVec.ofNat 32 r.val)) 112#32
      = if b.val * 528 + r.val < 112 then 0#1 else 1#1 := by
  decide +kernel

/-- The merge of one element `n` rows into its sequence's padded rows. -/
def merge (n : ℕ) (x s y c z a : EReal) : EReal :=
  if n < 112 then 0 else Ideal.logistic x * s + Ideal.logistic y * c + Ideal.logistic z * a

theorem pay_apply (t : Fin cfg0.N) (x s y c z a : Vec Ideal S528x512 .f32) (j : S528x512.Idx) :
    (k0_pay1 (grid0.coords t) x s y c z a j : EReal) = merge (t.val / 2 % 8 * 528 + (j 0).val) (x j) (s j) (y j) (c j) (z j) (a j) := by
  unfold merge
  unfold_payloads
  pointwise
  rw [base t, row ⟨t.val / 2 % 8, Nat.mod_lt _ (by decide)⟩ (j 0)]
  split <;> rfl

/-- Gate `k` of the branch with its columns behind `o`, in the projections. -/
def col (o : ℕ) (ho : o + 1024 ≤ 6144) (i : S8448x1024.Idx) : S8448x6144.Idx :=
  ix2 (i 0) (⟨o + (i 1).val, by have h : (i 1).val < 1024 := (i 1).isLt; omega⟩ : Fin 6144)

/-- The merge, element by element. -/
def result (p : S8448x6144.Idx → EReal) (s c a : S8448x1024.Idx → EReal) (i : S8448x1024.Idx) : EReal :=
  merge ((i 0).val % 4224) (p (col 3072 (by decide) i)) (s i) (p (col 4096 (by decide) i)) (c i) (p (col 5120 (by decide) i)) (a i)

theorem whole (x : Vec Ideal S528x512 .f32) : View.ld x r0_0 = x :=
  View.ld_unit_lit _ _ fun a => by fin_cases a <;> rfl

variable (m : (ℓ : Loc nD τ sig) → Buf (Elt Ideal) ℓ)

abbrev arg0 (c : Dev nD) : S8448x6144.Idx → EReal := m ((c : Thread nD τ).loc main_arg0)
abbrev arg1 (c : Dev nD) : S8448x1024.Idx → EReal := m ((c : Thread nD τ).loc main_arg1)
abbrev arg2 (c : Dev nD) : S8448x1024.Idx → EReal := m ((c : Thread nD τ).loc main_arg2)
abbrev arg3 (c : Dev nD) : S8448x1024.Idx → EReal := m ((c : Thread nD τ).loc main_arg3)

/-- Everything a grid point reads at element `y` of its blocks, in the argument arrays at the element `i` that it writes. -/
theorem reads (c : Dev nD) (t : Fin cfg0.N) (y : S528x512.Idx) (i : S8448x1024.Idx)
    (h0 : (i 0).val = (t.val / 2) * 528 + (y 0).val) (h1 : (i 1).val = (t.val % 2) * 512 + (y 1).val) :
    iblk m c 0 t y = arg0 m c (col 3072 (by decide) i) ∧ iblk m c 1 t y = arg0 m c (col 4096 (by decide) i)
      ∧ iblk m c 2 t y = arg0 m c (col 5120 (by decide) i) ∧ iblk m c 3 t y = arg1 m c i
      ∧ iblk m c 4 t y = arg2 m c i ∧ iblk m c 5 t y = arg3 m c i := by
  unfold col
  refine ⟨?_, ?_, ?_, ?_, ?_, ?_⟩ <;> blk_ext [iblk, V, idx t]

theorem array_eq (c : Dev nD) : (dats m 0 c).arrAt 6 cfg0.N = result (arg0 m c) (arg1 m c) (arg2 m c) (arg3 m c) := by
  refine (dats m 0 c).arrAt_eq_of_covers 6 _ (by decide +kernel) fun t hf y => ?_
  blk_simp
  rw [after0_6]
  frame_out
  have h0 : (((((View.whole main_v0).slice (win0_6.rect t)).emb y) 0).val = (t.val / 2) * 528 + (y 0).val) := by blk_point [idx t]
  obtain ⟨r0, r1, r2, r3, r4, r5⟩ := reads m c t y (((View.whole main_v0).slice (win0_6.rect t)).emb y) h0 (by blk_point [idx t])
  refine (pay_apply _ _ _ _ _ _ _ _).trans ?_
  have hy : (y 0).val < 528 := (y 0).isLt
  have e : t.val / 2 % 8 * 528 + (y 0).val = ((((View.whole main_v0).slice (win0_6.rect t)).emb y) 0).val % 4224 := by omega
  unfold result
  simp only [whole]
  rw [e, r0, r1, r2, r3, r4, r5]

end Cert.Kernel21Ideal.Merge

namespace Cert.Reference21Ideal.Merge
open Cert.Reference21Ideal Cert.Reference21Ideal.Gen Cert.Reference21Ideal.Read Idealize.ShloMosaic

theorem merged_apply (p : S8448x6144.Idx → EReal) (s c a : S8448x1024.Idx → EReal) (i : S2x4112x1024.Idx) (j : S8448x1024.Idx)
    (h0 : (j 0).val = (i 0).val * 4224 + 112 + (i 1).val) (h1 : (j 1).val = (i 2).val) :
    (val_main_v22 (F := Ideal) p s c a i : EReal) = Cert.Kernel21Ideal.Merge.result p s c a j := by
  unfold val_main_v22 val_main_v21 val_main_v20 val_main_v19 val_main_v18 val_main_v17 val_main_v16 val_main_v15 val_main_v14 val_main_v13
    val_main_v12 val_main_v11 val_main_v10 val_main_v9 val_main_v8 val_main_v7 val_main_v6 val_main_v5 val_main_v4 val_main_v3 val_main_v2
    val_main_v1 val_main_v0 val_main_cst val_main_cst_0
  have hi0 : (i 0).val < 2 := (i 0).isLt
  have hi1 : (i 1).val < 4112 := (i 1).isLt
  have e : j = ix2 (⟨(i 0).val * 4224 + (112 + (i 1).val), by omega⟩ : Fin 8448) (i 2) :=
    funext fun a => Fin.ext (by
      fin_cases a
      · exact h0.trans (Nat.add_assoc _ _ _)
      · exact h1)
  rw [e]
  unfold Cert.Kernel21Ideal.Merge.result Cert.Kernel21Ideal.Merge.merge Cert.Kernel21Ideal.Merge.col
  rw [if_neg (by show ¬ ((i 0).val * 4224 + (112 + (i 1).val)) % 4224 < 112; omega)]
  pointwise
  simp only [← Nat.add_assoc, Nat.reduceAdd]
  rfl

theorem result_eq (p : S8448x6144.Idx → EReal) (s c a : S8448x1024.Idx → EReal) :
    val_main_v25 (F := Ideal) p s c a = Cert.Kernel21Ideal.Merge.result p s c a := by
  funext i
  unfold val_main_v25 val_main_v24 val_main_v23
  pointwise
  have hi : (i 0).val < 8448 := (i 0).isLt
  split
  next h => exact merged_apply p s c a _ i (by show (i 0).val = (i 0).val / 4224 * 4224 + 112 + ((i 0).val % 4224 - 112); omega) rfl
  next h =>
    unfold Cert.Kernel21Ideal.Merge.result Cert.Kernel21Ideal.Merge.merge
    rw [if_pos (by omega)]
    unfold val_main_call0_v0 val_main_c
    pointwise
    show (((0#32 : BitVec 32).toInt : ℝ) : EReal) = 0
    simp

end Cert.Reference21Ideal.Merge

namespace Cert.Proof

open Idealize.ShloMosaic Idealize.SL.Sem

theorem algebraic21 : Cert.algebraic_Kernel21Ideal_Reference21Ideal := by
  intro m g m' g' _ hag
  refine ⟨fun c => (Cert.Kernel21Ideal.Gen.dats m 0 c).arrAt 6 Cert.Kernel21Ideal.cfg0.N, Cert.Kernel21Ideal.Value.run_blocks m g,
    (θ_run _ _ _).mono (fun r h c => ⟨(h c).1.trans ?_, (h c).2⟩) (Cert.Reference21Ideal.Value.run m' g')⟩
  refine Eq.trans ?_ (Cert.Kernel21Ideal.Merge.array_eq m c).symm
  refine (Cert.Reference21Ideal.Read.val_main_v25_eq _ _ _ _).trans ?_
  rw [(hag c).1, (hag c).2.1, (hag c).2.2.1, (hag c).2.2.2]
  exact Cert.Reference21Ideal.Merge.result_eq _ _ _ _

end Cert.Proof

end
-- ==== Proof.Reduce.lean ====
/- The sums over the devices of the gradients' contributions: the bodies add eight slabs one after another, the references sum. -/
module

public import proofs.«01_k».proof.Proof.Gen.Kernel22Ideal.Value
public import proofs.«01_k».proof.Proof.Gen.Reference22Ideal.Read
public import proofs.«01_k».proof.Proof.Gen.Kernel23Ideal.Value
public import proofs.«01_k».proof.Proof.Gen.Reference23Ideal.Read
public import proofs.«01_k».proof.Defs
public import Idealize.ShloMosaic.Lib.Pipeline.ValueKit
public import Idealize.ShloMosaic.Lib.Pointwise

@[expose] public section

set_option maxRecDepth 16384

noncomputable section

namespace Cert.Kernel22Ideal.Reduce

open Cert.Kernel22Ideal Cert.Kernel22Ideal.Gen Cert.Kernel22Ideal.Value Idealize.ShloMosaic Idealize.ShloMosaic.TcCoe Idealize.SL.Sem

variable (m : (ℓ : Loc nD τ sig) → Buf (Elt Ideal) ℓ)

theorem idx : ∀ t : Fin cfg0.N, win0_0.index t = ![0, t.val, 0] ∧ win0_1.index t = ![t.val, 0] :=
  (by decide +kernel : ∀ t : Fin grid0.N, _)

/-- What the body leaves at an element of its block: the sum of the eight slabs there. -/
theorem out_apply (x : Vec Ideal S8x96x1024 .bf16) (y : S96x1024.Idx) :
    (out0_1 x y : EReal) = ∑ s : Fin 8, (x (ix3 s (y 0) (y 1)) : EReal) := by
  rw [Fin.sum_univ_eight]
  refine (canon1_eq _ _ _ _ _ _ _ _ y).trans ?_
  have e0 : View.ld x r0_0 (ix1_0 y) = x (ix3 0 (y 0) (y 1)) := View.ld_unit_apply_of _ _ _ _ _ _ fun a => by fin_cases a <;> simp [ix3]
  have e1 : View.ld x r0_1 (ix1_1 y) = x (ix3 1 (y 0) (y 1)) := View.ld_unit_apply_of _ _ _ _ _ _ fun a => by fin_cases a <;> simp [ix3]
  have e2 : View.ld x r0_2 (ix1_2 y) = x (ix3 2 (y 0) (y 1)) := View.ld_unit_apply_of _ _ _ _ _ _ fun a => by fin_cases a <;> simp [ix3]
  have e3 : View.ld x r0_3 (ix1_3 y) = x (ix3 3 (y 0) (y 1)) := View.ld_unit_apply_of _ _ _ _ _ _ fun a => by fin_cases a <;> simp [ix3]
  have e4 : View.ld x r0_4 (ix1_4 y) = x (ix3 4 (y 0) (y 1)) := View.ld_unit_apply_of _ _ _ _ _ _ fun a => by fin_cases a <;> simp [ix3]
  have e5 : View.ld x r0_5 (ix1_5 y) = x (ix3 5 (y 0) (y 1)) := View.ld_unit_apply_of _ _ _ _ _ _ fun a => by fin_cases a <;> simp [ix3]
  have e6 : View.ld x r0_6 (ix1_6 y) = x (ix3 6 (y 0) (y 1)) := View.ld_unit_apply_of _ _ _ _ _ _ fun a => by fin_cases a <;> simp [ix3]
  have e7 : View.ld x r0_7 (ix1_7 y) = x (ix3 7 (y 0) (y 1)) := View.ld_unit_apply_of _ _ _ _ _ _ fun a => by fin_cases a <;> simp [ix3]
  rw [← e0, ← e1, ← e2, ← e3, ← e4, ← e5, ← e6, ← e7]
  rfl

abbrev arg0 (c : Dev nD) : S8x3264x1024.Idx → EReal := m ((c : Thread nD τ).loc main_arg0)

theorem array_eq (c : Dev nD) : (dats m 0 c).arrAt 1 cfg0.N = fun i => ∑ s : Fin 8, arg0 m c (ix3 s (i 0) (i 1)) := by
  refine (dats m 0 c).arrAt_eq_of_covers 1 _ (by decide +kernel) fun t hf y => ?_
  blk_simp
  rw [after0_1]
  refine (out_apply _ y).trans (Finset.sum_congr rfl fun s _ => ?_)
  blk_ext [iblk, V, idx t]

end Cert.Kernel22Ideal.Reduce

namespace Cert.Proof

open Idealize.ShloMosaic Idealize.SL.Sem

theorem algebraic22 : Cert.algebraic_Kernel22Ideal_Reference22Ideal := by
  intro m g m' g' _ hag
  refine ⟨fun c => (Cert.Kernel22Ideal.Gen.dats m 0 c).arrAt 1 Cert.Kernel22Ideal.cfg0.N, Cert.Kernel22Ideal.Value.run_blocks m g,
    (θ_run _ _ _).mono (fun r h c => ⟨(h c).1.trans ?_, (h c).2⟩) (Cert.Reference22Ideal.Value.run m' g')⟩
  refine Eq.trans ?_ (Cert.Kernel22Ideal.Reduce.array_eq m c).symm
  funext i
  refine (Cert.Reference22Ideal.Read.val_main_v1_apply _ i).trans ?_
  rw [hag c]
  exact (congrArg₂ (fun a b : EReal => a + b) Ideal.ofBits_zero_f32
    (Finset.sum_congr rfl fun s _ => congrArg (Cert.Kernel22Ideal.Reduce.arg0 m c) (funext fun a => by fin_cases a <;> rfl))).trans (zero_add _)

end Cert.Proof

namespace Cert.Kernel23Ideal.Reduce

open Cert.Kernel23Ideal Cert.Kernel23Ideal.Gen Cert.Kernel23Ideal.Value Idealize.ShloMosaic Idealize.ShloMosaic.TcCoe Idealize.SL.Sem

variable (m : (ℓ : Loc nD τ sig) → Buf (Elt Ideal) ℓ)

theorem idx : ∀ t : Fin cfg0.N, win0_0.index t = ![0, t.val, 0] ∧ win0_1.index t = ![t.val, 0] :=
  (by decide +kernel : ∀ t : Fin grid0.N, _)

/-- What the body leaves at an element of its block: the sum of the eight slabs there. -/
theorem out_apply (x : Vec Ideal S8x128x1024 .f32) (y : S128x1024.Idx) :
    (out0_1 x y : EReal) = ∑ s : Fin 8, (x (ix3 s (y 0) (y 1)) : EReal) := by
  rw [Fin.sum_univ_eight]
  refine (canon1_eq _ _ _ _ _ _ _ _ y).trans ?_
  have e0 : View.ld x r0_0 (ix1_0 y) = x (ix3 0 (y 0) (y 1)) := View.ld_unit_apply_of _ _ _ _ _ _ fun a => by fin_cases a <;> simp [ix3]
  have e1 : View.ld x r0_1 (ix1_1 y) = x (ix3 1 (y 0) (y 1)) := View.ld_unit_apply_of _ _ _ _ _ _ fun a => by fin_cases a <;> simp [ix3]
  have e2 : View.ld x r0_2 (ix1_2 y) = x (ix3 2 (y 0) (y 1)) := View.ld_unit_apply_of _ _ _ _ _ _ fun a => by fin_cases a <;> simp [ix3]
  have e3 : View.ld x r0_3 (ix1_3 y) = x (ix3 3 (y 0) (y 1)) := View.ld_unit_apply_of _ _ _ _ _ _ fun a => by fin_cases a <;> simp [ix3]
  have e4 : View.ld x r0_4 (ix1_4 y) = x (ix3 4 (y 0) (y 1)) := View.ld_unit_apply_of _ _ _ _ _ _ fun a => by fin_cases a <;> simp [ix3]
  have e5 : View.ld x r0_5 (ix1_5 y) = x (ix3 5 (y 0) (y 1)) := View.ld_unit_apply_of _ _ _ _ _ _ fun a => by fin_cases a <;> simp [ix3]
  have e6 : View.ld x r0_6 (ix1_6 y) = x (ix3 6 (y 0) (y 1)) := View.ld_unit_apply_of _ _ _ _ _ _ fun a => by fin_cases a <;> simp [ix3]
  have e7 : View.ld x r0_7 (ix1_7 y) = x (ix3 7 (y 0) (y 1)) := View.ld_unit_apply_of _ _ _ _ _ _ fun a => by fin_cases a <;> simp [ix3]
  rw [← e0, ← e1, ← e2, ← e3, ← e4, ← e5, ← e6, ← e7]
  rfl

abbrev arg0 (c : Dev nD) : S8x640x1024.Idx → EReal := m ((c : Thread nD τ).loc main_arg0)

theorem array_eq (c : Dev nD) : (dats m 0 c).arrAt 1 cfg0.N = fun i => ∑ s : Fin 8, arg0 m c (ix3 s (i 0) (i 1)) := by
  refine (dats m 0 c).arrAt_eq_of_covers 1 _ (by decide +kernel) fun t hf y => ?_
  blk_simp
  rw [after0_1]
  refine (out_apply _ y).trans (Finset.sum_congr rfl fun s _ => ?_)
  blk_ext [iblk, V, idx t]

end Cert.Kernel23Ideal.Reduce

namespace Cert.Proof

open Idealize.ShloMosaic Idealize.SL.Sem

theorem algebraic23 : Cert.algebraic_Kernel23Ideal_Reference23Ideal := by
  intro m g m' g' _ hag
  refine ⟨fun c => (Cert.Kernel23Ideal.Gen.dats m 0 c).arrAt 1 Cert.Kernel23Ideal.cfg0.N, Cert.Kernel23Ideal.Value.run_blocks m g,
    (θ_run _ _ _).mono (fun r h c => ⟨(h c).1.trans ?_, (h c).2⟩) (Cert.Reference23Ideal.Value.run m' g')⟩
  refine Eq.trans ?_ (Cert.Kernel23Ideal.Reduce.array_eq m c).symm
  funext i
  refine (Cert.Reference23Ideal.Read.val_main_v0_apply _ i).trans ?_
  rw [hag c]
  exact (congrArg₂ (fun a b : EReal => a + b) Ideal.ofBits_zero_f32
    (Finset.sum_congr rfl fun s _ => congrArg (Cert.Kernel23Ideal.Reduce.arg0 m c) (funext fun a => by fin_cases a <;> rfl))).trans (zero_add _)

end Cert.Proof

end
-- ==== Proof.AdamCalls.lean ====
/- The optimiser's update, at every layout that a weight has: the call's three results are the reference's, element by element. The
   generated value of the call is a function of the four arguments at one element; the reference is the same function, read
   from host operations. -/
module

public import proofs.«01_k».proof.Proof.Gen.Kernel31Ideal.Value
public import proofs.«01_k».proof.Proof.Gen.Reference31Ideal.Run
public import proofs.«01_k».proof.Proof.Gen.Kernel32Ideal.Value
public import proofs.«01_k».proof.Proof.Gen.Reference32Ideal.Run
public import proofs.«01_k».proof.Proof.Gen.Kernel33Ideal.Value
public import proofs.«01_k».proof.Proof.Gen.Reference33Ideal.Run
public import proofs.«01_k».proof.Proof.Gen.Kernel34Ideal.Value
public import proofs.«01_k».proof.Proof.Gen.Reference34Ideal.Run
public import proofs.«01_k».proof.Proof.Gen.Kernel35Ideal.Value
public import proofs.«01_k».proof.Proof.Gen.Reference35Ideal.Run
public import proofs.«01_k».proof.Proof.Gen.Kernel36Ideal.Value
public import proofs.«01_k».proof.Proof.Gen.Reference36Ideal.Run
public import proofs.«01_k».proof.Proof.Gen.Kernel37Ideal.Value
public import proofs.«01_k».proof.Proof.Gen.Reference37Ideal.Run
public import proofs.«01_k».proof.Proof.Gen.Kernel38Ideal.Value
public import proofs.«01_k».proof.Proof.Gen.Reference38Ideal.Run
public import proofs.«01_k».proof.Proof.Gen.Kernel39Ideal.Value
public import proofs.«01_k».proof.Proof.Gen.Reference39Ideal.Run
public import proofs.«01_k».proof.Proof.Gen.Kernel40Ideal.Value
public import proofs.«01_k».proof.Proof.Gen.Reference40Ideal.Run
public import proofs.«01_k».proof.Proof.Gen.Kernel41Ideal.Value
public import proofs.«01_k».proof.Proof.Gen.Reference41Ideal.Run
public import proofs.«01_k».proof.Proof.Gen.Kernel42Ideal.Value
public import proofs.«01_k».proof.Proof.Gen.Reference42Ideal.Run
public import proofs.«01_k».proof.Proof.Gen.Kernel43Ideal.Value
public import proofs.«01_k».proof.Proof.Gen.Reference43Ideal.Run
public import proofs.«01_k».proof.Proof.Gen.Kernel44Ideal.Value
public import proofs.«01_k».proof.Proof.Gen.Reference44Ideal.Run
public import proofs.«01_k».proof.Defs

@[expose] public section

set_option maxRecDepth 16384

noncomputable section

namespace Cert.Proof

open Idealize.ShloMosaic Idealize.SL.Sem

/-- The update of the meta tokens. -/
theorem algebraic31 : Cert.algebraic_Kernel31Ideal_Reference31Ideal := fun m g m' g' _ hag =>
  ⟨_, _, _, Cert.Kernel31Ideal.Value.run m g, (θ_run _ _ _).mono (fun _ h c =>
    ⟨(h c).1.trans (by rw [(hag c).1, (hag c).2.1, (hag c).2.2.1, (hag c).2.2.2]; rfl),
      (h c).2.1.trans (by rw [(hag c).2.1, (hag c).2.2.1]; rfl),
      (h c).2.2.1.trans (by rw [(hag c).2.1, (hag c).2.2.2]; rfl), (h c).2.2.2⟩) (Cert.Reference31Ideal.Value.run m' g')⟩

/-- The update of the norms' gains. -/
theorem algebraic32 : Cert.algebraic_Kernel32Ideal_Reference32Ideal := fun m g m' g' _ hag =>
  ⟨_, _, _, Cert.Kernel32Ideal.Value.run m g, (θ_run _ _ _).mono (fun _ h c =>
    ⟨(h c).1.trans (by rw [(hag c).1, (hag c).2.1, (hag c).2.2.1, (hag c).2.2.2]; rfl),
      (h c).2.1.trans (by rw [(hag c).2.1, (hag c).2.2.1]; rfl),
      (h c).2.2.1.trans (by rw [(hag c).2.1, (hag c).2.2.2]; rfl), (h c).2.2.2⟩) (Cert.Reference32Ideal.Value.run m' g')⟩

/-- The update of the feed-forward blocks' up-projections. -/
theorem algebraic33 : Cert.algebraic_Kernel33Ideal_Reference33Ideal := fun m g m' g' _ hag =>
  ⟨_, _, _, Cert.Kernel33Ideal.Value.run m g, (θ_run _ _ _).mono (fun _ h c =>
    ⟨(h c).1.trans (by rw [(hag c).1, (hag c).2.1, (hag c).2.2.1, (hag c).2.2.2]; rfl),
      (h c).2.1.trans (by rw [(hag c).2.1, (hag c).2.2.1]; rfl),
      (h c).2.2.1.trans (by rw [(hag c).2.1, (hag c).2.2.2]; rfl), (h c).2.2.2⟩) (Cert.Reference33Ideal.Value.run m' g')⟩

/-- The update of the feed-forward blocks' down-projections. -/
theorem algebraic34 : Cert.algebraic_Kernel34Ideal_Reference34Ideal := fun m g m' g' _ hag =>
  ⟨_, _, _, Cert.Kernel34Ideal.Value.run m g, (θ_run _ _ _).mono (fun _ h c =>
    ⟨(h c).1.trans (by rw [(hag c).1, (hag c).2.1, (hag c).2.2.1, (hag c).2.2.2]; rfl),
      (h c).2.1.trans (by rw [(hag c).2.1, (hag c).2.2.1]; rfl),
      (h c).2.2.1.trans (by rw [(hag c).2.1, (hag c).2.2.2]; rfl), (h c).2.2.2⟩) (Cert.Reference34Ideal.Value.run m' g')⟩

/-- The update of the mixer's input projection. -/
theorem algebraic35 : Cert.algebraic_Kernel35Ideal_Reference35Ideal := fun m g m' g' _ hag =>
  ⟨_, _, _, Cert.Kernel35Ideal.Value.run m g, (θ_run _ _ _).mono (fun _ h c =>
    ⟨(h c).1.trans (by rw [(hag c).1, (hag c).2.1, (hag c).2.2.1, (hag c).2.2.2]; rfl),
      (h c).2.1.trans (by rw [(hag c).2.1, (hag c).2.2.1]; rfl),
      (h c).2.2.1.trans (by rw [(hag c).2.1, (hag c).2.2.2]; rfl), (h c).2.2.2⟩) (Cert.Reference35Ideal.Value.run m' g')⟩

/-- The update of the state space's poles. -/
theorem algebraic36 : Cert.algebraic_Kernel36Ideal_Reference36Ideal := fun m g m' g' _ hag =>
  ⟨_, _, _, Cert.Kernel36Ideal.Value.run m g, (θ_run _ _ _).mono (fun _ h c =>
    ⟨(h c).1.trans (by rw [(hag c).1, (hag c).2.1, (hag c).2.2.1, (hag c).2.2.2]; rfl),
      (h c).2.1.trans (by rw [(hag c).2.1, (hag c).2.2.1]; rfl),
      (h c).2.2.1.trans (by rw [(hag c).2.1, (hag c).2.2.2]; rfl), (h c).2.2.2⟩) (Cert.Reference36Ideal.Value.run m' g')⟩

/-- The update of the state space's step sizes. -/
theorem algebraic37 : Cert.algebraic_Kernel37Ideal_Reference37Ideal := fun m g m' g' _ hag =>
  ⟨_, _, _, Cert.Kernel37Ideal.Value.run m g, (θ_run _ _ _).mono (fun _ h c =>
    ⟨(h c).1.trans (by rw [(hag c).1, (hag c).2.1, (hag c).2.2.1, (hag c).2.2.2]; rfl),
      (h c).2.1.trans (by rw [(hag c).2.1, (hag c).2.2.1]; rfl),
      (h c).2.2.1.trans (by rw [(hag c).2.1, (hag c).2.2.2]; rfl), (h c).2.2.2⟩) (Cert.Reference37Ideal.Value.run m' g')⟩

/-- The update of the state space's input and output maps. -/
theorem algebraic38 : Cert.algebraic_Kernel38Ideal_Reference38Ideal := fun m g m' g' _ hag =>
  ⟨_, _, _, Cert.Kernel38Ideal.Value.run m g, (θ_run _ _ _).mono (fun _ h c =>
    ⟨(h c).1.trans (by rw [(hag c).1, (hag c).2.1, (hag c).2.2.1, (hag c).2.2.2]; rfl),
      (h c).2.1.trans (by rw [(hag c).2.1, (hag c).2.2.1]; rfl),
      (h c).2.2.1.trans (by rw [(hag c).2.1, (hag c).2.2.2]; rfl), (h c).2.2.2⟩) (Cert.Reference38Ideal.Value.run m' g')⟩

/-- The update of the vectors over the state space's and the convolution's channels. -/
theorem algebraic39 : Cert.algebraic_Kernel39Ideal_Reference39Ideal := fun m g m' g' _ hag =>
  ⟨_, _, _, Cert.Kernel39Ideal.Value.run m g, (θ_run _ _ _).mono (fun _ h c =>
    ⟨(h c).1.trans (by rw [(hag c).1, (hag c).2.1, (hag c).2.2.1, (hag c).2.2.2]; rfl),
      (h c).2.1.trans (by rw [(hag c).2.1, (hag c).2.2.1]; rfl),
      (h c).2.2.1.trans (by rw [(hag c).2.1, (hag c).2.2.2]; rfl), (h c).2.2.2⟩) (Cert.Reference39Ideal.Value.run m' g')⟩

/-- The update of the state space's gated projection. -/
theorem algebraic40 : Cert.algebraic_Kernel40Ideal_Reference40Ideal := fun m g m' g' _ hag =>
  ⟨_, _, _, Cert.Kernel40Ideal.Value.run m g, (θ_run _ _ _).mono (fun _ h c =>
    ⟨(h c).1.trans (by rw [(hag c).1, (hag c).2.1, (hag c).2.2.1, (hag c).2.2.2]; rfl),
      (h c).2.1.trans (by rw [(hag c).2.1, (hag c).2.2.1]; rfl),
      (h c).2.2.1.trans (by rw [(hag c).2.1, (hag c).2.2.2]; rfl), (h c).2.2.2⟩) (Cert.Reference40Ideal.Value.run m' g')⟩

/-- The update of the convolution's taps. -/
theorem algebraic41 : Cert.algebraic_Kernel41Ideal_Reference41Ideal := fun m g m' g' _ hag =>
  ⟨_, _, _, Cert.Kernel41Ideal.Value.run m g, (θ_run _ _ _).mono (fun _ h c =>
    ⟨(h c).1.trans (by rw [(hag c).1, (hag c).2.1, (hag c).2.2.1, (hag c).2.2.2]; rfl),
      (h c).2.1.trans (by rw [(hag c).2.1, (hag c).2.2.1]; rfl),
      (h c).2.2.1.trans (by rw [(hag c).2.1, (hag c).2.2.2]; rfl), (h c).2.2.2⟩) (Cert.Reference41Ideal.Value.run m' g')⟩

/-- The update of the branches' output projections. -/
theorem algebraic42 : Cert.algebraic_Kernel42Ideal_Reference42Ideal := fun m g m' g' _ hag =>
  ⟨_, _, _, Cert.Kernel42Ideal.Value.run m g, (θ_run _ _ _).mono (fun _ h c =>
    ⟨(h c).1.trans (by rw [(hag c).1, (hag c).2.1, (hag c).2.2.1, (hag c).2.2.2]; rfl),
      (h c).2.1.trans (by rw [(hag c).2.1, (hag c).2.2.1]; rfl),
      (h c).2.2.1.trans (by rw [(hag c).2.1, (hag c).2.2.2]; rfl), (h c).2.2.2⟩) (Cert.Reference42Ideal.Value.run m' g')⟩

/-- The update of the mixer's output projection. -/
theorem algebraic43 : Cert.algebraic_Kernel43Ideal_Reference43Ideal := fun m g m' g' _ hag =>
  ⟨_, _, _, Cert.Kernel43Ideal.Value.run m g, (θ_run _ _ _).mono (fun _ h c =>
    ⟨(h c).1.trans (by rw [(hag c).1, (hag c).2.1, (hag c).2.2.1, (hag c).2.2.2]; rfl),
      (h c).2.1.trans (by rw [(hag c).2.1, (hag c).2.2.1]; rfl),
      (h c).2.2.1.trans (by rw [(hag c).2.1, (hag c).2.2.2]; rfl), (h c).2.2.2⟩) (Cert.Reference43Ideal.Value.run m' g')⟩

/-- The update of the last norm's gain. -/
theorem algebraic44 : Cert.algebraic_Kernel44Ideal_Reference44Ideal := fun m g m' g' _ hag =>
  ⟨_, _, _, Cert.Kernel44Ideal.Value.run m g, (θ_run _ _ _).mono (fun _ h c =>
    ⟨(h c).1.trans (by rw [(hag c).1, (hag c).2.1, (hag c).2.2.1, (hag c).2.2.2]; rfl),
      (h c).2.1.trans (by rw [(hag c).2.1, (hag c).2.2.1]; rfl),
      (h c).2.2.1.trans (by rw [(hag c).2.1, (hag c).2.2.2]; rfl), (h c).2.2.2⟩) (Cert.Reference44Ideal.Value.run m' g')⟩

end Cert.Proof

end
-- ==== Proof.lean ====
/- The claims of the statement: the frames of every program, and each call's result against its reference's. Program 1 is the
   gradient of the attention (frames, and its idealized program as the program with its mask's constant named); the other
   programs are the step's products, with the values each leaves in its result arrays. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KRun
public import proofs.«01_k».proof.Proof.IRun
public import proofs.«01_k».proof.Proof.Gen.Kernel2.Frame
public import proofs.«01_k».proof.Proof.Down2
public import proofs.«01_k».proof.Proof.Gen.Kernel3.Frame
public import proofs.«01_k».proof.Proof.Tn3
public import proofs.«01_k».proof.Proof.Gen.Kernel4.Frame
public import proofs.«01_k».proof.Proof.Tn4
public import proofs.«01_k».proof.Proof.Gen.Kernel5.Frame
public import proofs.«01_k».proof.Proof.Nn5
public import proofs.«01_k».proof.Proof.Gen.Kernel6.Frame
public import proofs.«01_k».proof.Proof.Up6
public import proofs.«01_k».proof.Proof.Gen.Kernel7.Frame
public import proofs.«01_k».proof.Proof.Nn7
public import proofs.«01_k».proof.Proof.Gen.Kernel8.Frame
public import proofs.«01_k».proof.Proof.Nt8
public import proofs.«01_k».proof.Proof.Gen.Kernel9.Frame
public import proofs.«01_k».proof.Proof.Nn9
public import proofs.«01_k».proof.Proof.Gen.Kernel10.Frame
public import proofs.«01_k».proof.Proof.Tn10
public import proofs.«01_k».proof.Proof.Gen.Kernel11.Frame
public import proofs.«01_k».proof.Proof.Nn11
public import proofs.«01_k».proof.Proof.Gen.Kernel12.Frame
public import proofs.«01_k».proof.Proof.Nt12
public import proofs.«01_k».proof.Proof.Gen.Kernel13.Frame
public import proofs.«01_k».proof.Proof.Tn13
public import proofs.«01_k».proof.Proof.Gen.Kernel14.Frame
public import proofs.«01_k».proof.Proof.Glu14
public import proofs.«01_k».proof.Proof.Gen.Kernel15.Frame
public import proofs.«01_k».proof.Proof.Nn15
public import proofs.«01_k».proof.Proof.Gen.Kernel16.Frame
public import proofs.«01_k».proof.Proof.Tn16
public import proofs.«01_k».proof.Proof.Gen.Kernel17.Frame
public import proofs.«01_k».proof.Proof.Nt17
public import proofs.«01_k».proof.Proof.Gen.Kernel18.Frame
public import proofs.«01_k».proof.Proof.Nn18
public import proofs.«01_k».proof.Proof.Gen.Kernel19.Frame
public import proofs.«01_k».proof.Proof.Merge19
public import proofs.«01_k».proof.Proof.Gen.Kernel20.Frame
public import proofs.«01_k».proof.Proof.Rms20
public import proofs.«01_k».proof.Proof.Gen.Kernel21.Frame
public import proofs.«01_k».proof.Proof.Merge21
public import proofs.«01_k».proof.Proof.Gen.Kernel22.Frame
public import proofs.«01_k».proof.Proof.Reduce
public import proofs.«01_k».proof.Proof.Gen.Kernel23.Frame
public import proofs.«01_k».proof.Proof.Reduce
public import proofs.«01_k».proof.Proof.Gen.Kernel31.Frame
public import proofs.«01_k».proof.Proof.AdamCalls
public import proofs.«01_k».proof.Proof.Gen.Kernel32.Frame
public import proofs.«01_k».proof.Proof.AdamCalls
public import proofs.«01_k».proof.Proof.Gen.Kernel33.Frame
public import proofs.«01_k».proof.Proof.AdamCalls
public import proofs.«01_k».proof.Proof.Gen.Kernel34.Frame
public import proofs.«01_k».proof.Proof.AdamCalls
public import proofs.«01_k».proof.Proof.Gen.Kernel35.Frame
public import proofs.«01_k».proof.Proof.AdamCalls
public import proofs.«01_k».proof.Proof.Gen.Kernel36.Frame
public import proofs.«01_k».proof.Proof.AdamCalls
public import proofs.«01_k».proof.Proof.Gen.Kernel37.Frame
public import proofs.«01_k».proof.Proof.AdamCalls
public import proofs.«01_k».proof.Proof.Gen.Kernel38.Frame
public import proofs.«01_k».proof.Proof.AdamCalls
public import proofs.«01_k».proof.Proof.Gen.Kernel39.Frame
public import proofs.«01_k».proof.Proof.AdamCalls
public import proofs.«01_k».proof.Proof.Gen.Kernel40.Frame
public import proofs.«01_k».proof.Proof.AdamCalls
public import proofs.«01_k».proof.Proof.Gen.Kernel41.Frame
public import proofs.«01_k».proof.Proof.AdamCalls
public import proofs.«01_k».proof.Proof.Gen.Kernel42.Frame
public import proofs.«01_k».proof.Proof.AdamCalls
public import proofs.«01_k».proof.Proof.Gen.Kernel43.Frame
public import proofs.«01_k».proof.Proof.AdamCalls
public import proofs.«01_k».proof.Proof.Gen.Kernel44.Frame
public import proofs.«01_k».proof.Proof.AdamCalls
public import Idealize.ShloMosaic.Adequacy
public import Idealize.ShloMosaic.Init
public import Idealize.ShloMosaic.Lib.Quiescent

@[expose] public section

noncomputable section

namespace Cert.Proof

open Idealize.ShloMosaic Idealize.SL.Sem

theorem frame_kernel : Cert.quiescent_Kernel := fun m ρ _ => Cert.Kernel.Attn.frame_all m ρ

theorem frame_ideal : Cert.quiescent_KernelIdeal := fun m ρ _ => Cert.KernelIdeal.Attn.frame_all m ρ

theorem frame_reference : Cert.quiescent_ReferenceIdeal := fun m ρ _ =>
  (θ_run Cert.ReferenceIdeal.defs _ _).mono
    (fun r h => ⟨fun c => (h c).2.2.2, sem_eq_zero_of_no_sems rfl r.2⟩) (Cert.ReferenceIdeal.Value.run m ρ)

theorem preserves_mask : Cert.preserves_Kernel_KernelIdeal :=
  IdealRules.named_const.statement Cert.KernelIdeal.κ "mask" .f32 0xF149F2CA#32 ⊥ rfl

theorem frame_reference2 : Cert.quiescent_Reference2Ideal := fun m ρ _ =>
  (θ_run Cert.Reference2Ideal.defs _ _).mono
    (fun r h => ⟨fun c => (h c).2.2, sem_eq_zero_of_no_sems rfl r.2⟩) (Cert.Reference2Ideal.Value.run m ρ)

theorem frame_reference3 : Cert.quiescent_Reference3Ideal := fun m ρ _ =>
  (θ_run Cert.Reference3Ideal.defs _ _).mono
    (fun r h => ⟨fun c => (h c).2, sem_eq_zero_of_no_sems rfl r.2⟩) (Cert.Reference3Ideal.Value.run m ρ)

theorem frame_reference4 : Cert.quiescent_Reference4Ideal := fun m ρ _ =>
  (θ_run Cert.Reference4Ideal.defs _ _).mono
    (fun r h => ⟨fun c => (h c).2, sem_eq_zero_of_no_sems rfl r.2⟩) (Cert.Reference4Ideal.Value.run m ρ)

theorem frame_reference5 : Cert.quiescent_Reference5Ideal := fun m ρ _ =>
  (θ_run Cert.Reference5Ideal.defs _ _).mono
    (fun r h => ⟨fun c => (h c).2, sem_eq_zero_of_no_sems rfl r.2⟩) (Cert.Reference5Ideal.Value.run m ρ)

theorem frame_reference6 : Cert.quiescent_Reference6Ideal := fun m ρ _ =>
  (θ_run Cert.Reference6Ideal.defs _ _).mono
    (fun r h => ⟨fun c => (h c).2.2.2, sem_eq_zero_of_no_sems rfl r.2⟩) (Cert.Reference6Ideal.Value.run m ρ)

theorem frame_reference7 : Cert.quiescent_Reference7Ideal := fun m ρ _ =>
  (θ_run Cert.Reference7Ideal.defs _ _).mono
    (fun r h => ⟨fun c => (h c).2, sem_eq_zero_of_no_sems rfl r.2⟩) (Cert.Reference7Ideal.Value.run m ρ)

theorem frame_reference8 : Cert.quiescent_Reference8Ideal := fun m ρ _ =>
  (θ_run Cert.Reference8Ideal.defs _ _).mono
    (fun r h => ⟨fun c => (h c).2, sem_eq_zero_of_no_sems rfl r.2⟩) (Cert.Reference8Ideal.Value.run m ρ)

theorem frame_reference9 : Cert.quiescent_Reference9Ideal := fun m ρ _ =>
  (θ_run Cert.Reference9Ideal.defs _ _).mono
    (fun r h => ⟨fun c => (h c).2, sem_eq_zero_of_no_sems rfl r.2⟩) (Cert.Reference9Ideal.Value.run m ρ)

theorem frame_reference10 : Cert.quiescent_Reference10Ideal := fun m ρ _ =>
  (θ_run Cert.Reference10Ideal.defs _ _).mono
    (fun r h => ⟨fun c => (h c).2, sem_eq_zero_of_no_sems rfl r.2⟩) (Cert.Reference10Ideal.Value.run m ρ)

theorem frame_reference11 : Cert.quiescent_Reference11Ideal := fun m ρ _ =>
  (θ_run Cert.Reference11Ideal.defs _ _).mono
    (fun r h => ⟨fun c => (h c).2, sem_eq_zero_of_no_sems rfl r.2⟩) (Cert.Reference11Ideal.Value.run m ρ)

theorem frame_reference12 : Cert.quiescent_Reference12Ideal := fun m ρ _ =>
  (θ_run Cert.Reference12Ideal.defs _ _).mono
    (fun r h => ⟨fun c => (h c).2, sem_eq_zero_of_no_sems rfl r.2⟩) (Cert.Reference12Ideal.Value.run m ρ)

theorem frame_reference13 : Cert.quiescent_Reference13Ideal := fun m ρ _ =>
  (θ_run Cert.Reference13Ideal.defs _ _).mono
    (fun r h => ⟨fun c => (h c).2, sem_eq_zero_of_no_sems rfl r.2⟩) (Cert.Reference13Ideal.Value.run m ρ)

theorem frame_reference14 : Cert.quiescent_Reference14Ideal := fun m ρ _ =>
  (θ_run Cert.Reference14Ideal.defs _ _).mono
    (fun r h => ⟨fun c => (h c).2.2.2, sem_eq_zero_of_no_sems rfl r.2⟩) (Cert.Reference14Ideal.Value.run m ρ)

theorem frame_reference15 : Cert.quiescent_Reference15Ideal := fun m ρ _ =>
  (θ_run Cert.Reference15Ideal.defs _ _).mono
    (fun r h => ⟨fun c => (h c).2, sem_eq_zero_of_no_sems rfl r.2⟩) (Cert.Reference15Ideal.Value.run m ρ)

theorem frame_reference16 : Cert.quiescent_Reference16Ideal := fun m ρ _ =>
  (θ_run Cert.Reference16Ideal.defs _ _).mono
    (fun r h => ⟨fun c => (h c).2, sem_eq_zero_of_no_sems rfl r.2⟩) (Cert.Reference16Ideal.Value.run m ρ)

theorem frame_reference17 : Cert.quiescent_Reference17Ideal := fun m ρ _ =>
  (θ_run Cert.Reference17Ideal.defs _ _).mono
    (fun r h => ⟨fun c => (h c).2, sem_eq_zero_of_no_sems rfl r.2⟩) (Cert.Reference17Ideal.Value.run m ρ)

theorem frame_reference18 : Cert.quiescent_Reference18Ideal := fun m ρ _ =>
  (θ_run Cert.Reference18Ideal.defs _ _).mono
    (fun r h => ⟨fun c => (h c).2, sem_eq_zero_of_no_sems rfl r.2⟩) (Cert.Reference18Ideal.Value.run m ρ)

theorem frame_reference19 : Cert.quiescent_Reference19Ideal := fun m ρ _ =>
  (θ_run Cert.Reference19Ideal.defs _ _).mono
    (fun r h => ⟨fun c => (h c).2.2.2.2.2.2.2, sem_eq_zero_of_no_sems rfl r.2⟩) (Cert.Reference19Ideal.Value.run m ρ)

theorem frame_reference20 : Cert.quiescent_Reference20Ideal := fun m ρ _ =>
  (θ_run Cert.Reference20Ideal.defs _ _).mono
    (fun r h => ⟨fun c => (h c).2, sem_eq_zero_of_no_sems rfl r.2⟩) (Cert.Reference20Ideal.Value.run m ρ)

theorem frame_reference21 : Cert.quiescent_Reference21Ideal := fun m ρ _ =>
  (θ_run Cert.Reference21Ideal.defs _ _).mono
    (fun r h => ⟨fun c => (h c).2, sem_eq_zero_of_no_sems rfl r.2⟩) (Cert.Reference21Ideal.Value.run m ρ)

theorem frame_reference22 : Cert.quiescent_Reference22Ideal := fun m ρ _ =>
  (θ_run Cert.Reference22Ideal.defs _ _).mono
    (fun r h => ⟨fun c => (h c).2, sem_eq_zero_of_no_sems rfl r.2⟩) (Cert.Reference22Ideal.Value.run m ρ)

theorem frame_reference23 : Cert.quiescent_Reference23Ideal := fun m ρ _ =>
  (θ_run Cert.Reference23Ideal.defs _ _).mono
    (fun r h => ⟨fun c => (h c).2, sem_eq_zero_of_no_sems rfl r.2⟩) (Cert.Reference23Ideal.Value.run m ρ)

theorem frame_reference31 : Cert.quiescent_Reference31Ideal := fun m ρ _ =>
  (θ_run Cert.Reference31Ideal.defs _ _).mono
    (fun r h => ⟨fun c => (h c).2.2.2, sem_eq_zero_of_no_sems rfl r.2⟩) (Cert.Reference31Ideal.Value.run m ρ)

theorem frame_reference32 : Cert.quiescent_Reference32Ideal := fun m ρ _ =>
  (θ_run Cert.Reference32Ideal.defs _ _).mono
    (fun r h => ⟨fun c => (h c).2.2.2, sem_eq_zero_of_no_sems rfl r.2⟩) (Cert.Reference32Ideal.Value.run m ρ)

theorem frame_reference33 : Cert.quiescent_Reference33Ideal := fun m ρ _ =>
  (θ_run Cert.Reference33Ideal.defs _ _).mono
    (fun r h => ⟨fun c => (h c).2.2.2, sem_eq_zero_of_no_sems rfl r.2⟩) (Cert.Reference33Ideal.Value.run m ρ)

theorem frame_reference34 : Cert.quiescent_Reference34Ideal := fun m ρ _ =>
  (θ_run Cert.Reference34Ideal.defs _ _).mono
    (fun r h => ⟨fun c => (h c).2.2.2, sem_eq_zero_of_no_sems rfl r.2⟩) (Cert.Reference34Ideal.Value.run m ρ)

theorem frame_reference35 : Cert.quiescent_Reference35Ideal := fun m ρ _ =>
  (θ_run Cert.Reference35Ideal.defs _ _).mono
    (fun r h => ⟨fun c => (h c).2.2.2, sem_eq_zero_of_no_sems rfl r.2⟩) (Cert.Reference35Ideal.Value.run m ρ)

theorem frame_reference36 : Cert.quiescent_Reference36Ideal := fun m ρ _ =>
  (θ_run Cert.Reference36Ideal.defs _ _).mono
    (fun r h => ⟨fun c => (h c).2.2.2, sem_eq_zero_of_no_sems rfl r.2⟩) (Cert.Reference36Ideal.Value.run m ρ)

theorem frame_reference37 : Cert.quiescent_Reference37Ideal := fun m ρ _ =>
  (θ_run Cert.Reference37Ideal.defs _ _).mono
    (fun r h => ⟨fun c => (h c).2.2.2, sem_eq_zero_of_no_sems rfl r.2⟩) (Cert.Reference37Ideal.Value.run m ρ)

theorem frame_reference38 : Cert.quiescent_Reference38Ideal := fun m ρ _ =>
  (θ_run Cert.Reference38Ideal.defs _ _).mono
    (fun r h => ⟨fun c => (h c).2.2.2, sem_eq_zero_of_no_sems rfl r.2⟩) (Cert.Reference38Ideal.Value.run m ρ)

theorem frame_reference39 : Cert.quiescent_Reference39Ideal := fun m ρ _ =>
  (θ_run Cert.Reference39Ideal.defs _ _).mono
    (fun r h => ⟨fun c => (h c).2.2.2, sem_eq_zero_of_no_sems rfl r.2⟩) (Cert.Reference39Ideal.Value.run m ρ)

theorem frame_reference40 : Cert.quiescent_Reference40Ideal := fun m ρ _ =>
  (θ_run Cert.Reference40Ideal.defs _ _).mono
    (fun r h => ⟨fun c => (h c).2.2.2, sem_eq_zero_of_no_sems rfl r.2⟩) (Cert.Reference40Ideal.Value.run m ρ)

theorem frame_reference41 : Cert.quiescent_Reference41Ideal := fun m ρ _ =>
  (θ_run Cert.Reference41Ideal.defs _ _).mono
    (fun r h => ⟨fun c => (h c).2.2.2, sem_eq_zero_of_no_sems rfl r.2⟩) (Cert.Reference41Ideal.Value.run m ρ)

theorem frame_reference42 : Cert.quiescent_Reference42Ideal := fun m ρ _ =>
  (θ_run Cert.Reference42Ideal.defs _ _).mono
    (fun r h => ⟨fun c => (h c).2.2.2, sem_eq_zero_of_no_sems rfl r.2⟩) (Cert.Reference42Ideal.Value.run m ρ)

theorem frame_reference43 : Cert.quiescent_Reference43Ideal := fun m ρ _ =>
  (θ_run Cert.Reference43Ideal.defs _ _).mono
    (fun r h => ⟨fun c => (h c).2.2.2, sem_eq_zero_of_no_sems rfl r.2⟩) (Cert.Reference43Ideal.Value.run m ρ)

theorem frame_reference44 : Cert.quiescent_Reference44Ideal := fun m ρ _ =>
  (θ_run Cert.Reference44Ideal.defs _ _).mono
    (fun r h => ⟨fun c => (h c).2.2.2, sem_eq_zero_of_no_sems rfl r.2⟩) (Cert.Reference44Ideal.Value.run m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Kernel35.Gen.facts, Cert.Kernel35Ideal.Gen.facts, Cert.Reference35Ideal.Gen.facts,
    Cert.Kernel36.Gen.facts, Cert.Kernel36Ideal.Gen.facts, Cert.Reference36Ideal.Gen.facts,
    Cert.Kernel37.Gen.facts, Cert.Kernel37Ideal.Gen.facts, Cert.Reference37Ideal.Gen.facts,
    Cert.Kernel38.Gen.facts, Cert.Kernel38Ideal.Gen.facts, Cert.Reference38Ideal.Gen.facts,
    Cert.Kernel39.Gen.facts, Cert.Kernel39Ideal.Gen.facts, Cert.Reference39Ideal.Gen.facts,
    Cert.Kernel40.Gen.facts, Cert.Kernel40Ideal.Gen.facts, Cert.Reference40Ideal.Gen.facts,
    Cert.Kernel41.Gen.facts, Cert.Kernel41Ideal.Gen.facts, Cert.Reference41Ideal.Gen.facts,
    Cert.Kernel42.Gen.facts, Cert.Kernel42Ideal.Gen.facts, Cert.Reference42Ideal.Gen.facts,
    Cert.Kernel43.Gen.facts, Cert.Kernel43Ideal.Gen.facts, Cert.Reference43Ideal.Gen.facts,
    Cert.Kernel44.Gen.facts, Cert.Kernel44Ideal.Gen.facts, Cert.Reference44Ideal.Gen.facts,
    Cert.Pre_finite.Gen.facts,
    frame_kernel, frame_ideal, frame_reference,
    fun m ρ _ => Cert.Kernel2.Gen.frame m ρ, fun m ρ _ => Cert.Kernel2Ideal.Gen.frame m ρ, fun m ρ _ => Cert.Kernel2Ideal.Gen.frame m ρ,
    frame_reference2, fun m ρ _ => frame_reference2 m ρ trivial, fun m ρ _ => Cert.Kernel3.Gen.frame m ρ,
    fun m ρ _ => Cert.Kernel3Ideal.Gen.frame m ρ, frame_reference3, fun m ρ _ => Cert.Kernel4.Gen.frame m ρ,
    fun m ρ _ => Cert.Kernel4Ideal.Gen.frame m ρ, frame_reference4, fun m ρ _ => Cert.Kernel5.Gen.frame m ρ,
    fun m ρ _ => Cert.Kernel5Ideal.Gen.frame m ρ, frame_reference5, fun m ρ _ => Cert.Kernel6.Gen.frame m ρ,
    fun m ρ _ => Cert.Kernel6Ideal.Gen.frame m ρ, frame_reference6, fun m ρ _ => Cert.Kernel7.Gen.frame m ρ,
    fun m ρ _ => Cert.Kernel7Ideal.Gen.frame m ρ, frame_reference7, fun m ρ _ => Cert.Kernel8.Gen.frame m ρ,
    fun m ρ _ => Cert.Kernel8Ideal.Gen.frame m ρ, frame_reference8, fun m ρ _ => Cert.Kernel9.Gen.frame m ρ,
    fun m ρ _ => Cert.Kernel9Ideal.Gen.frame m ρ, frame_reference9, fun m ρ _ => Cert.Kernel10.Gen.frame m ρ,
    fun m ρ _ => Cert.Kernel10Ideal.Gen.frame m ρ, frame_reference10, fun m ρ _ => Cert.Kernel11.Gen.frame m ρ,
    fun m ρ _ => Cert.Kernel11Ideal.Gen.frame m ρ, frame_reference11, fun m ρ _ => Cert.Kernel12.Gen.frame m ρ,
    fun m ρ _ => Cert.Kernel12Ideal.Gen.frame m ρ, frame_reference12, fun m ρ _ => Cert.Kernel13.Gen.frame m ρ,
    fun m ρ _ => Cert.Kernel13Ideal.Gen.frame m ρ, frame_reference13, fun m ρ _ => Cert.Kernel14.Gen.frame m ρ,
    fun m ρ _ => Cert.Kernel14Ideal.Gen.frame m ρ, frame_reference14, fun m ρ _ => Cert.Kernel15.Gen.frame m ρ,
    fun m ρ _ => Cert.Kernel15Ideal.Gen.frame m ρ, frame_reference15, fun m ρ _ => Cert.Kernel16.Gen.frame m ρ,
    fun m ρ _ => Cert.Kernel16Ideal.Gen.frame m ρ, frame_reference16, fun m ρ _ => Cert.Kernel17.Gen.frame m ρ,
    fun m ρ _ => Cert.Kernel17Ideal.Gen.frame m ρ, frame_reference17, fun m ρ _ => Cert.Kernel18.Gen.frame m ρ,
    fun m ρ _ => Cert.Kernel18Ideal.Gen.frame m ρ, frame_reference18, fun m ρ _ => Cert.Kernel19.Gen.frame m ρ,
    fun m ρ _ => Cert.Kernel19Ideal.Gen.frame m ρ, frame_reference19, fun m ρ _ => Cert.Kernel20.Gen.frame m ρ,
    fun m ρ _ => Cert.Kernel20Ideal.Gen.frame m ρ, frame_reference20, fun m ρ _ => Cert.Kernel21.Gen.frame m ρ,
    fun m ρ _ => Cert.Kernel21Ideal.Gen.frame m ρ, frame_reference21, fun m ρ _ => Cert.Kernel22.Gen.frame m ρ,
    fun m ρ _ => Cert.Kernel22Ideal.Gen.frame m ρ, frame_reference22, fun m ρ _ => Cert.Kernel23.Gen.frame m ρ,
    fun m ρ _ => Cert.Kernel23Ideal.Gen.frame m ρ, frame_reference23, fun m ρ _ => Cert.Kernel31.Gen.frame m ρ,
    fun m ρ _ => Cert.Kernel31Ideal.Gen.frame m ρ, frame_reference31, fun m ρ _ => Cert.Kernel32.Gen.frame m ρ,
    fun m ρ _ => Cert.Kernel32Ideal.Gen.frame m ρ, frame_reference32, fun m ρ _ => Cert.Kernel33.Gen.frame m ρ,
    fun m ρ _ => Cert.Kernel33Ideal.Gen.frame m ρ, frame_reference33, fun m ρ _ => Cert.Kernel34.Gen.frame m ρ,
    fun m ρ _ => Cert.Kernel34Ideal.Gen.frame m ρ, frame_reference34, fun m ρ _ => Cert.Kernel35.Gen.frame m ρ,
    fun m ρ _ => Cert.Kernel35Ideal.Gen.frame m ρ, frame_reference35, fun m ρ _ => Cert.Kernel36.Gen.frame m ρ,
    fun m ρ _ => Cert.Kernel36Ideal.Gen.frame m ρ, frame_reference36, fun m ρ _ => Cert.Kernel37.Gen.frame m ρ,
    fun m ρ _ => Cert.Kernel37Ideal.Gen.frame m ρ, frame_reference37, fun m ρ _ => Cert.Kernel38.Gen.frame m ρ,
    fun m ρ _ => Cert.Kernel38Ideal.Gen.frame m ρ, frame_reference38, fun m ρ _ => Cert.Kernel39.Gen.frame m ρ,
    fun m ρ _ => Cert.Kernel39Ideal.Gen.frame m ρ, frame_reference39, fun m ρ _ => Cert.Kernel40.Gen.frame m ρ,
    fun m ρ _ => Cert.Kernel40Ideal.Gen.frame m ρ, frame_reference40, fun m ρ _ => Cert.Kernel41.Gen.frame m ρ,
    fun m ρ _ => Cert.Kernel41Ideal.Gen.frame m ρ, frame_reference41, fun m ρ _ => Cert.Kernel42.Gen.frame m ρ,
    fun m ρ _ => Cert.Kernel42Ideal.Gen.frame m ρ, frame_reference42, fun m ρ _ => Cert.Kernel43.Gen.frame m ρ,
    fun m ρ _ => Cert.Kernel43Ideal.Gen.frame m ρ, frame_reference43, fun m ρ _ => Cert.Kernel44.Gen.frame m ρ,
    fun m ρ _ => Cert.Kernel44Ideal.Gen.frame m ρ, frame_reference44,
    preserves_mask,
    trivial, algebraic2,
    trivial, algebraic3,
    trivial, algebraic4,
    trivial, algebraic5,
    trivial, algebraic6,
    trivial, algebraic7,
    trivial, algebraic8,
    trivial, algebraic9,
    trivial, algebraic10,
    trivial, algebraic11,
    trivial, algebraic12,
    trivial, algebraic13,
    trivial, algebraic14,
    trivial, algebraic15,
    trivial, algebraic16,
    trivial, algebraic17,
    trivial, algebraic18,
    trivial, algebraic19,
    trivial, algebraic20,
    trivial, algebraic21,
    trivial, algebraic22,
    trivial, algebraic23,
    trivial, algebraic31,
    trivial, algebraic32,
    trivial, algebraic33,
    trivial, algebraic34,
    trivial, algebraic35,
    trivial, algebraic36,
    trivial, algebraic37,
    trivial, algebraic38,
    trivial, algebraic39,
    trivial, algebraic40,
    trivial, algebraic41,
    trivial, algebraic42,
    trivial, algebraic43,
    trivial, algebraic44⟩

end Cert.Proof

end
